-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S_ 1 × IVec S_ 1 × IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S1x1024x8x128 .f32 := Host.absf main_arg2
  let main_cst_2 : FVec F S_ .f32 := constant S_ .f32 0x7F800000#32
  let main_v9 : FVec F S1x1024x8x128 .f32 := broadcastInDim S1x1024x8x128 ![] bcast_S_S1x1024x8x128 main_cst_2
  let main_v10 : IVec S1x1024x8x128 1 := cmpf .olt main_v8 main_v9
  let main_c_3 : IVec S_ 1 := constantI S_ 1 1#1
  let main_v11 : IVec S_ 1 := (fun x v => Host.reduce IntOp.andi x v reducesTo_S1x1024x8x128_S_d0_1_2_3 h_S_) main_v10 main_c_3
  (main_v3, main_v7, main_v11)
-- ==== Pre_finite_inputs_ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x1024x1024 .f32) (main_arg1 : FVec F S1024x1024 .f32) (main_arg2 : FVec F S1x4096x8x128 .f32) (main_arg3 : FVec F S1x4096x8x128 .f32) (main_arg4 : FVec F S1024x1024 .f32) : IVec S_ 1 × IVec S_ 1 × IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S1x4096x8x128 .f32 := Host.absf main_arg2
  let main_cst_2 : FVec F S_ .f32 := constant S_ .f32 0x7F800000#32
  let main_v9 : FVec F S1x4096x8x128 .f32 := broadcastInDim S1x4096x8x128 ![] bcast_S_S1x4096x8x128 main_cst_2
  let main_v10 : IVec S1x4096x8x128 1 := cmpf .olt main_v8 main_v9
  let main_c_3 : IVec S_ 1 := constantI S_ 1 1#1
  let main_v11 : IVec S_ 1 := (fun x v => Host.reduce IntOp.andi x v reducesTo_S1x4096x8x128_S_d0_1_2_3 h_S_) main_v10 main_c_3
  (main_v3, main_v7, main_v11)
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S8x1024 : Shape := ⟨2, ![8, 1024]⟩
abbrev S256x8x128 : Shape := ⟨3, ![256, 8, 128]⟩
abbrev S256x1024 : Shape := ⟨2, ![256, 1024]⟩
abbrev S8x256 : Shape := ⟨2, ![8, 256]⟩
abbrev S3 : Shape := ⟨1, ![3]⟩
abbrev S32 : Shape := ⟨1, ![32]⟩
abbrev S16 : Shape := ⟨1, ![16]⟩
abbrev S1 : Shape := ⟨1, ![1]⟩
abbrev S_ : Shape := ⟨0, ![]⟩
abbrev S64x8x128 : Shape := ⟨3, ![64, 8, 128]⟩
abbrev S1x64x8x128 : Shape := ⟨4, ![1, 64, 8, 128]⟩
abbrev S1x64x1024 : Shape := ⟨3, ![1, 64, 1024]⟩
abbrev S64x1024 : Shape := ⟨2, ![64, 1024]⟩
abbrev S256x128 : Shape := ⟨2, ![256, 128]⟩
abbrev S256x256 : Shape := ⟨2, ![256, 256]⟩
abbrev S256 : Shape := ⟨1, ![256]⟩
abbrev S1x256 : Shape := ⟨2, ![1, 256]⟩
abbrev S256x8 : Shape := ⟨2, ![256, 8]⟩
abbrev S256x8x1 : Shape := ⟨3, ![256, 8, 1]⟩

abbrev nBuf : Space → Nat
  | .hbm => 6
  | .vmem => 45
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S8x1024, .f32⟩
  | .local _ .vmem, ⟨4, _⟩ => ⟨S1024x1024, .f32⟩
  | .local _ .vmem, ⟨5, _⟩ => ⟨S256x8x128, .f32⟩
  | .local _ .vmem, ⟨6, _⟩ => ⟨S256x8x128, .f32⟩
  | .local _ .vmem, ⟨7, _⟩ => ⟨S256x8x128, .f32⟩
  | .local _ .vmem, ⟨8, _⟩ => ⟨S256x8x128, .f32⟩
  | .local _ .vmem, ⟨9, _⟩ => ⟨S256x8x128, .f32⟩
  | .local _ .vmem, ⟨10, _⟩ => ⟨S256x8x128, .f32⟩
  | .local _ .vmem, ⟨11, _⟩ => ⟨S256x8x128, .f32⟩
  | .local _ .vmem, ⟨12, _⟩ => ⟨S256x8x128, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S8x256, .f32⟩
  | .local _ .vmem, ⟨22, _⟩ => ⟨S8x256, .f32⟩
  | .local _ .vmem, ⟨23, _⟩ => ⟨S8x256, .f32⟩
  | .local _ .vmem, ⟨24, _⟩ => ⟨S8x256, .f32⟩
  | .local _ .vmem, ⟨25, _⟩ => ⟨S8x256, .f32⟩
  | .local _ .vmem, ⟨26, _⟩ => ⟨S8x256, .f32⟩
  | .local _ .vmem, ⟨27, _⟩ => ⟨S8x256, .f32⟩
  | .local _ .vmem, ⟨28, _⟩ => ⟨S8x256, .f32⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S8x256, .f32⟩
  | .local _ .vmem, ⟨38, _⟩ => ⟨S8x256, .f32⟩
  | .local _ .vmem, ⟨39, _⟩ => ⟨S8x256, .f32⟩
  | .local _ .vmem, ⟨40, _⟩ => ⟨S8x256, .f32⟩
  | .local _ .vmem, ⟨41, _⟩ => ⟨S8x256, .f32⟩
  | .local _ .vmem, ⟨42, _⟩ => ⟨S8x256, .f32⟩
  | .local _ .vmem, ⟨43, _⟩ => ⟨S8x256, .f32⟩
  | .local _ .vmem, ⟨44, _⟩ => ⟨S8x256, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 1 → Bool
  | ⟨0, _⟩ => false
  | _ => false

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  (ofTc nBuf bufTy 1 85 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_scratch16 : Ref sig .tc := ⟨.vmem, 18, rfl⟩
abbrev cc0_scratch17 : Ref sig .tc := ⟨.vmem, 19, rfl⟩
abbrev cc0_scratch18 : Ref sig .tc := ⟨.vmem, 20, rfl⟩
abbrev cc0_scratch19 : Ref sig .tc := ⟨.vmem, 21, rfl⟩
abbrev cc0_scratch20 : Ref sig .tc := ⟨.vmem, 22, rfl⟩
abbrev cc0_scratch21 : Ref sig .tc := ⟨.vmem, 23, rfl⟩
abbrev cc0_scratch22 : Ref sig .tc := ⟨.vmem, 24, rfl⟩
abbrev cc0_scratch23 : Ref sig .tc := ⟨.vmem, 25, rfl⟩
abbrev cc0_scratch24 : Ref sig .tc := ⟨.vmem, 26, rfl⟩
abbrev cc0_scratch25 : Ref sig .tc := ⟨.vmem, 27, rfl⟩
abbrev cc0_scratch26 : Ref sig .tc := ⟨.vmem, 28, rfl⟩
abbrev cc0_scratch27 : Ref sig .tc := ⟨.vmem, 29, rfl⟩
abbrev cc0_scratch28 : Ref sig .tc := ⟨.vmem, 30, rfl⟩
abbrev cc0_scratch29 : Ref sig .tc := ⟨.vmem, 31, rfl⟩
abbrev cc0_scratch30 : Ref sig .tc := ⟨.vmem, 32, rfl⟩
abbrev cc0_scratch31 : Ref sig .tc := ⟨.vmem, 33, rfl⟩
abbrev cc0_scratch32 : Ref sig .tc := ⟨.vmem, 34, rfl⟩
abbrev cc0_scratch33 : Ref sig .tc := ⟨.vmem, 35, rfl⟩
abbrev cc0_scratch34 : Ref sig .tc := ⟨.vmem, 36, rfl⟩
abbrev cc0_scratch35 : Ref sig .tc := ⟨.vmem, 37, rfl⟩
abbrev cc0_scratch36 : Ref sig .tc := ⟨.vmem, 38, rfl⟩
abbrev cc0_scratch37 : Ref sig .tc := ⟨.vmem, 39, rfl⟩
abbrev cc0_scratch38 : Ref sig .tc := ⟨.vmem, 40, rfl⟩
abbrev cc0_scratch39 : Ref sig .tc := ⟨.vmem, 41, rfl⟩
abbrev cc0_scratch40 : Ref sig .tc := ⟨.vmem, 42, rfl⟩
abbrev cc0_scratch41 : Ref sig .tc := ⟨.vmem, 43, rfl⟩
abbrev cc0_scratch42 : Ref sig .tc := ⟨.vmem, 44, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_216 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_215 : BitVec 32 := 1#32
  let v168 : BitVec 32 := Scalar.muli v4 c1_i32_215
  let v169 : BitVec 32 := Scalar.addi c0_i32_216 v168
  v169.toNat
def k0_dev2 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_218 : BitVec 32 := 1#32
  let v170 : BitVec 32 := Scalar.muli v3 c1_i32_218
  let v171 : BitVec 32 := Scalar.addi c0_i32_219 v170
  v171.toNat
def k0_dev3 (d0 : Dev nD) : Nat :=
  let c0_i32_345 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_344 : BitVec 32 := 1#32
  let v346 : BitVec 32 := Scalar.muli v4 c1_i32_344
  let v347 : BitVec 32 := Scalar.addi c0_i32_345 v346
  v347.toNat
def k0_dev4 (d0 : Dev nD) : Nat :=
  let c0_i32_349 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_348 : BitVec 32 := 1#32
  let v352 : BitVec 32 := Scalar.muli v4 c1_i32_348
  let v353 : BitVec 32 := Scalar.addi c0_i32_349 v352
  v353.toNat
def k0_dev5 (d0 : Dev nD) : Nat :=
  let c0_i32_477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_476 : BitVec 32 := 1#32
  let v529 : BitVec 32 := Scalar.muli v3 c1_i32_476
  let v530 : BitVec 32 := Scalar.addi c0_i32_477 v529
  v530.toNat
def k0_dev6 (d0 : Dev nD) : Nat :=
  let c0_i32_481 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_480 : BitVec 32 := 1#32
  let v535 : BitVec 32 := Scalar.muli v3 c1_i32_480
  let v536 : BitVec 32 := Scalar.addi c0_i32_481 v535
  v536.toNat
def k0_dev7 (d0 : Dev nD) : Nat :=
  let c0_i32_613 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_612 : BitVec 32 := 1#32
  let v712 : BitVec 32 := Scalar.muli v4 c1_i32_612
  let v713 : BitVec 32 := Scalar.addi c0_i32_613 v712
  v713.toNat
def k0_dev8 (d0 : Dev nD) : Nat :=
  let c0_i32_617 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_616 : BitVec 32 := 1#32
  let v718 : BitVec 32 := Scalar.muli v4 c1_i32_616
  let v719 : BitVec 32 := Scalar.addi c0_i32_617 v718
  v719.toNat
def k0_dev9 (d0 : Dev nD) : Nat :=
  let c0_i32_745 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_744 : BitVec 32 := 1#32
  let v895 : BitVec 32 := Scalar.muli v3 c1_i32_744
  let v896 : BitVec 32 := Scalar.addi c0_i32_745 v895
  v896.toNat
def k0_dev10 (d0 : Dev nD) : Nat :=
  let c0_i32_749 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_748 : BitVec 32 := 1#32
  let v901 : BitVec 32 := Scalar.muli v3 c1_i32_748
  let v902 : BitVec 32 := Scalar.addi c0_i32_749 v901
  v902.toNat
def k0_dev11 (d0 : Dev nD) : Nat :=
  let c0_i32_781 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_780 : BitVec 32 := 1#32
  let v937 : BitVec 32 := Scalar.muli v3 c1_i32_780
  let v938 : BitVec 32 := Scalar.addi c0_i32_781 v937
  v938.toNat
def k0_dev12 (d0 : Dev nD) : Nat :=
  let c0_i32_785 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_784 : BitVec 32 := 1#32
  let v943 : BitVec 32 := Scalar.muli v3 c1_i32_784
  let v944 : BitVec 32 := Scalar.addi c0_i32_785 v943
  v944.toNat
def k0_dev13 (d0 : Dev nD) : Nat :=
  let c0_i32_817 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_816 : BitVec 32 := 1#32
  let v979 : BitVec 32 := Scalar.muli v4 c1_i32_816
  let v980 : BitVec 32 := Scalar.addi c0_i32_817 v979
  v980.toNat
def k0_dev14 (d0 : Dev nD) : Nat :=
  let c0_i32_821 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_820 : BitVec 32 := 1#32
  let v985 : BitVec 32 := Scalar.muli v4 c1_i32_820
  let v986 : BitVec 32 := Scalar.addi c0_i32_821 v985
  v986.toNat
def k0_dev15 (d0 : Dev nD) : Nat :=
  let c0_i32_853 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_852 : BitVec 32 := 1#32
  let v1021 : BitVec 32 := Scalar.muli v3 c1_i32_852
  let v1022 : BitVec 32 := Scalar.addi c0_i32_853 v1021
  v1022.toNat
def k0_dev16 (d0 : Dev nD) : Nat :=
  let c0_i32_857 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_856 : BitVec 32 := 1#32
  let v1027 : BitVec 32 := Scalar.muli v3 c1_i32_856
  let v1028 : BitVec 32 := Scalar.addi c0_i32_857 v1027
  v1028.toNat
def k0_dev17 (d0 : Dev nD) : Nat :=
  let c0_i32_889 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_888 : BitVec 32 := 1#32
  let v1063 : BitVec 32 := Scalar.muli v4 c1_i32_888
  let v1064 : BitVec 32 := Scalar.addi c0_i32_889 v1063
  v1064.toNat
def k0_dev18 (d0 : Dev nD) : Nat :=
  let c0_i32_893 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_892 : BitVec 32 := 1#32
  let v1069 : BitVec 32 := Scalar.muli v4 c1_i32_892
  let v1070 : BitVec 32 := Scalar.addi c0_i32_893 v1069
  v1070.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S4096 : Shape := ⟨1, ![4096]⟩
abbrev S1x4096 : Shape := ⟨2, ![1, 4096]⟩
abbrev S1024x4096 : Shape := ⟨2, ![1024, 4096]⟩
abbrev S1x8x1024x4096 : Shape := ⟨4, ![1, 8, 1024, 4096]⟩
abbrev S1x1x1024x4096 : Shape := ⟨4, ![1, 1, 1024, 4096]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 137
  | .vmem => 0
  | .smem => 0
  | _ => 0

abbrev hbmTy0_0 (i : Nat) : BufTy := match i % 128 with
  | 0 => ⟨S1x1024x1024, .f32⟩
  | 1 => ⟨S1024x1024, .f32⟩
  | 2 => ⟨S1x4096x8x128, .f32⟩
  | 3 => ⟨S1x4096x8x128, .f32⟩
  | 4 => ⟨S1024x1024, .f32⟩
  | 5 => ⟨S1x1024x1024, .f32⟩
  | 6 => ⟨S1x1024x8x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S1024x4096, .i32⟩
  | 48 => ⟨S1024x4096, .i32⟩
  | 49 => ⟨S1024x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x4096, .i32⟩
  | 95 => ⟨S1024x4096, .i32⟩
  | 96 => ⟨S1024x4096, .i1⟩
  | 97 => ⟨S1024x4096, .i1⟩
  | 98 => ⟨S1x8x1024x4096, .f32⟩
  | 99 => ⟨S_, .f32⟩
  | 100 => ⟨S1x8x1024x4096, .f32⟩
  | 101 => ⟨S1x8x1024x4096, .f32⟩
  | 102 => ⟨S1x1x1024x4096, .i1⟩
  | 103 => ⟨S_, .f32⟩
  | 104 => ⟨S_, .f32⟩
  | 105 => ⟨S1x8x1024x4096, .i1⟩
  | 106 => ⟨S1x8x1024x4096, .f32⟩
  | 107 => ⟨S1x8x1024x4096, .f32⟩
  | 108 => ⟨S_, .f32⟩
  | 109 => ⟨S1x8x1024, .f32⟩
  | 110 => ⟨S1x8x1024x1, .f32⟩
  | 111 => ⟨S1x8x1024x4096, .f32⟩
  | 112 => ⟨S1x8x1024x4096, .f32⟩
  | 113 => ⟨S1x8x1024x4096, .f32⟩
  | 114 => ⟨S_, .i1⟩
  | 115 => ⟨S1024, .i1⟩
  | 116 => ⟨S1x1x1024x1, .i1⟩
  | 117 => ⟨S_, .f32⟩
  | 118 => ⟨S1x8x1024, .f32⟩
  | 119 => ⟨S1x8x1024x1, .f32⟩
  | 120 => ⟨S_, .f32⟩
  | 121 => ⟨S_, .f32⟩
  | 122 => ⟨S1x8x1024x1, .i1⟩
  | 123 => ⟨S1x8x1024x1, .f32⟩
  | 124 => ⟨S1x8x1024x1, .f32⟩
  | 125 => ⟨S1x8x1024x4096, .f32⟩
  | 126 => ⟨S1x8x1024x4096, .f32⟩
  | 127 => ⟨S1x1x1024x1, .i1⟩
  | _ => ⟨S1x1024x1024, .f32⟩

abbrev hbmTy0_1 (i : Nat) : BufTy := match i % 128 with
  | 0 => ⟨S_, .f32⟩
  | 1 => ⟨S_, .f32⟩
  | 2 => ⟨S1x8x1024x4096, .i1⟩
  | 3 => ⟨S1x8x1024x4096, .f32⟩
  | 4 => ⟨S1x8x1024x4096, .f32⟩
  | 5 => ⟨S1x8x128x1024, .f32⟩
  | 6 => ⟨S1x1024x8x128, .f32⟩
  | 7 => ⟨S1x1024x1024, .f32⟩
  | 8 => ⟨S1x1024x1024, .f32⟩
  | _ => ⟨S1x1024x1024, .f32⟩

abbrev hbmTy (i : Nat) : BufTy := match i / 128 with
  | 0 => hbmTy0_0 i
  | 1 => hbmTy0_1 i
  | _ => ⟨S1x1024x1024, .f32⟩

abbrev bufTy : (tb : Table) → Fin (tcTables nBuf tb) → BufTy
  | .hbm, ⟨i, _⟩ => hbmTy i
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Exchange.lean ====
/-
The protocol of the kernel: its cells, what each signal and each remote copy hands over, who owes what, and the order of the levels.

Device `c` exchanges with two partners, `px c` (the device numbered `3 - c`) and `py c` (the other one of its pair). It signals both partners'
barrier cells, waits for two units on its own, sends four pairs of partial results (the weighted value rows and the sums of the weights of one
group of query rows), half over each link; adds what arrived; sends the four sums over the other link; and adds again. Sixteen departure
cells and sixteen arrival cells, each with one round of one duty.
-/
module

public import proofs.«01_k».proof.Proof.Gen.KernelIdeal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Exec

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the staging pipeline's copy and the exchange's -/

abbrev UX : Type := URounds (GSem nD τ sig) Bool
abbrev UU : Type := UR sig nD τ × (UX × Counters)

local notation "𝕄" => MT nD τ sig Unit (Elt F) ℕ UU ℕ

abbrev EP : Emb (UR sig nD τ) (MT nD τ sig Unit (Elt F) ℕ UU ℕ) := embL
def EX : Emb UX (MT nD τ sig Unit (Elt F) ℕ UU ℕ) :=
  ((Emb.inl : Emb UX (UX × Counters)).trans (Emb.inr : Emb (UX × Counters) UU)).trans
    (uEmb (nD := nD) (sig := sig) (Ix := Unit) (Val := Elt F) (Name := ℕ) (U := UU) (Lvl := ℕ)).toEmb
instance EX_landsIn : (EX : Emb UX (MT nD τ sig Unit (Elt F) ℕ UU ℕ)).LandsIn (upEmb : UEmb _ (MT nD τ sig Unit (Elt F) ℕ UU ℕ)) := by
  unfold EX; infer_instance

/-! ## The partners -/

set_option backward.proofsInPublic true in
/-- The partner over the first link: the device numbered `3 - c`. -/
def px (c : Dev nD) : Dev nD := ⟨3 - c.val, by have : c.val < 4 := c.isLt; show 3 - c.val < 4; omega⟩
set_option backward.proofsInPublic true in
/-- The partner over the second link: the other device of the pair. -/
def py (c : Dev nD) : Dev nD := ⟨2 * (c.val / 2) + (c.val + 1) % 2, by have : c.val < 4 := c.isLt; show _ < 4; omega⟩

theorem px_px (c : Dev nD) : px (px c) = c := by revert c; decide
theorem py_py (c : Dev nD) : py (py c) = c := by revert c; decide
theorem px_ne_py (c : Dev nD) : px c ≠ py c := by revert c; decide
theorem px_inj {a b : Dev nD} (h : px a = px b) : a = b := by rw [← px_px a, h, px_px]
theorem py_inj {a b : Dev nD} (h : py a = py b) : a = b := by rw [← py_py a, h, py_py]

def ringX : Dev nD ≃ Dev nD := ⟨px, px, px_px, px_px⟩
def ringY : Dev nD ≃ Dev nD := ⟨py, py, py_py, py_py⟩

theorem dev1_eq (c : Dev nD) : (⟨k0_dev1 c, k0_dev1_lt c⟩ : Dev nD) = px c := by revert c; decide +kernel
theorem dev2_eq (c : Dev nD) : (⟨k0_dev2 c, k0_dev2_lt c⟩ : Dev nD) = py c := by revert c; decide +kernel
theorem dev3_eq (c : Dev nD) : (⟨k0_dev3 c, k0_dev3_lt c⟩ : Dev nD) = px c := by revert c; decide +kernel
theorem dev4_eq (c : Dev nD) : (⟨k0_dev4 c, k0_dev4_lt c⟩ : Dev nD) = px c := by revert c; decide +kernel
theorem dev5_eq (c : Dev nD) : (⟨k0_dev5 c, k0_dev5_lt c⟩ : Dev nD) = py c := by revert c; decide +kernel
theorem dev6_eq (c : Dev nD) : (⟨k0_dev6 c, k0_dev6_lt c⟩ : Dev nD) = py c := by revert c; decide +kernel
theorem dev7_eq (c : Dev nD) : (⟨k0_dev7 c, k0_dev7_lt c⟩ : Dev nD) = px c := by revert c; decide +kernel
theorem dev8_eq (c : Dev nD) : (⟨k0_dev8 c, k0_dev8_lt c⟩ : Dev nD) = px c := by revert c; decide +kernel
theorem dev9_eq (c : Dev nD) : (⟨k0_dev9 c, k0_dev9_lt c⟩ : Dev nD) = py c := by revert c; decide +kernel
theorem dev10_eq (c : Dev nD) : (⟨k0_dev10 c, k0_dev10_lt c⟩ : Dev nD) = py c := by revert c; decide +kernel
theorem dev11_eq (c : Dev nD) : (⟨k0_dev11 c, k0_dev11_lt c⟩ : Dev nD) = py c := by revert c; decide +kernel
theorem dev12_eq (c : Dev nD) : (⟨k0_dev12 c, k0_dev12_lt c⟩ : Dev nD) = py c := by revert c; decide +kernel
theorem dev13_eq (c : Dev nD) : (⟨k0_dev13 c, k0_dev13_lt c⟩ : Dev nD) = px c := by revert c; decide +kernel
theorem dev14_eq (c : Dev nD) : (⟨k0_dev14 c, k0_dev14_lt c⟩ : Dev nD) = px c := by revert c; decide +kernel
theorem dev15_eq (c : Dev nD) : (⟨k0_dev15 c, k0_dev15_lt c⟩ : Dev nD) = py c := by revert c; decide +kernel
theorem dev16_eq (c : Dev nD) : (⟨k0_dev16 c, k0_dev16_lt c⟩ : Dev nD) = py c := by revert c; decide +kernel
theorem dev17_eq (c : Dev nD) : (⟨k0_dev17 c, k0_dev17_lt c⟩ : Dev nD) = px c := by revert c; decide +kernel
theorem dev18_eq (c : Dev nD) : (⟨k0_dev18 c, k0_dev18_lt c⟩ : Dev nD) = px c := by revert c; decide +kernel

/-! ## The cells -/

abbrev barS : Sem sig := (SemArray.scalar (sig.barrier 0 rfl) : Sems sig S_).sem
set_option backward.proofsInPublic true in
/-- The `k`-th departure and arrival semaphores: 0 to 3 the weighted values of round one, 4 to 7 those of round two, 8 to 11 and 12 to 15 the sums. -/
def sendS (k : Fin 16) : DmaSem sig := ⟨37 + k.val, by have := k.isLt; show 37 + k.val < 85; omega⟩
set_option backward.proofsInPublic true in
def recvS (k : Fin 16) : DmaSem sig := ⟨53 + k.val, by have := k.isLt; show 53 + k.val < 85; omega⟩

abbrev barCell (c : Dev nD) : GSem nD τ sig := ((c : Thread nD τ), .reg barS)
abbrev sendCell (c : Dev nD) (k : Fin 16) : GSem nD τ sig := ((c : Thread nD τ), .dma (sendS k))
abbrev recvCell (c : Dev nD) (k : Fin 16) : GSem nD τ sig := ((c : Thread nD τ), .dma (recvS k))

/-- Whether the `k`-th copy goes over the first link. -/
def overX (k : Fin 16) : Bool := (k.val % 4) % 2 == (k.val / 4) % 2
/-- The partner of the `k`-th copy. -/
def peer (k : Fin 16) (c : Dev nD) : Dev nD := if overX k then px c else py c
theorem peer_peer (k : Fin 16) (c : Dev nD) : peer k (peer k c) = c := by
  unfold peer; split
  · exact px_px c
  · exact py_py c
def ring (k : Fin 16) : Dev nD ≃ Dev nD := ⟨peer k, peer k, peer_peer k, peer_peer k⟩

/-- What a copy of a weighted-values block, and of a block of sums, credits. -/
abbrev nC : ℕ := 16384
abbrev nL : ℕ := 256
def amt (k : Fin 16) : ℕ := if k.val < 8 then nC else nL
theorem nC_pos : 0 < nC := by decide
theorem nL_pos : 0 < nL := by decide
theorem amt_pos (k : Fin 16) : 0 < amt k := by unfold amt; split; exacts [nC_pos, nL_pos]

/-! ## What the copies carry -/

/-- The contents of the blocks each device sends, per group of query rows: weighted values and sums of weights, in round one and in round two. -/
structure Carried (F : FTy → Type) where
  c1 : Dev nD → Fin 4 → Vec F S256x1024 .bf16
  l1 : Dev nD → Fin 4 → Vec F S8x256 .f32
  c2 : Dev nD → Fin 4 → Vec F S256x1024 .bf16
  l2 : Dev nD → Fin 4 → Vec F S8x256 .f32

variable (C : Carried F)

/-- A scratch buffer of device `c` held whole. -/
abbrev pt (c : Dev nD) (b : Ref sig .tc) (f : Buf (Elt F) ((c : Thread nD τ).loc b)) : sProp 𝕄 :=
  (View.loc (c : Thread nD τ) (Memref.whole b).view) ↦{fullShare} f

/-- The source of the `k`-th copy, given back at its departure. -/
def sendPay (c : Dev nD) (k : Fin 16) : sProp 𝕄 :=
  match k with
  | 0 => pt c cc0_scratch11 (C.c1 c 0)
  | 1 => pt c cc0_scratch12 (C.c1 c 1)
  | 2 => pt c cc0_scratch13 (C.c1 c 2)
  | 3 => pt c cc0_scratch14 (C.c1 c 3)
  | 4 => pt c cc0_scratch15 (C.c2 c 0)
  | 5 => pt c cc0_scratch16 (C.c2 c 1)
  | 6 => pt c cc0_scratch17 (C.c2 c 2)
  | 7 => pt c cc0_scratch18 (C.c2 c 3)
  | 8 => pt c cc0_scratch19 (C.l1 c 0)
  | 9 => pt c cc0_scratch20 (C.l1 c 1)
  | 10 => pt c cc0_scratch21 (C.l1 c 2)
  | 11 => pt c cc0_scratch22 (C.l1 c 3)
  | 12 => pt c cc0_scratch23 (C.l2 c 0)
  | 13 => pt c cc0_scratch24 (C.l2 c 1)
  | 14 => pt c cc0_scratch25 (C.l2 c 2)
  | 15 => pt c cc0_scratch26 (C.l2 c 3)
  | ⟨n + 16, h⟩ => iprop(emp)
/-- The landing buffer of the `k`-th copy holding the partner's block, given at its arrival. -/
def recvPay (c : Dev nD) (k : Fin 16) : sProp 𝕄 :=
  match k with
  | 0 => pt c cc0_scratch27 (C.c1 (px c) 0)
  | 1 => pt c cc0_scratch28 (C.c1 (py c) 1)
  | 2 => pt c cc0_scratch29 (C.c1 (px c) 2)
  | 3 => pt c cc0_scratch30 (C.c1 (py c) 3)
  | 4 => pt c cc0_scratch31 (C.c2 (py c) 0)
  | 5 => pt c cc0_scratch32 (C.c2 (px c) 1)
  | 6 => pt c cc0_scratch33 (C.c2 (py c) 2)
  | 7 => pt c cc0_scratch34 (C.c2 (px c) 3)
  | 8 => pt c cc0_scratch35 (C.l1 (px c) 0)
  | 9 => pt c cc0_scratch36 (C.l1 (py c) 1)
  | 10 => pt c cc0_scratch37 (C.l1 (px c) 2)
  | 11 => pt c cc0_scratch38 (C.l1 (py c) 3)
  | 12 => pt c cc0_scratch39 (C.l2 (py c) 0)
  | 13 => pt c cc0_scratch40 (C.l2 (px c) 1)
  | 14 => pt c cc0_scratch41 (C.l2 (py c) 2)
  | 15 => pt c cc0_scratch42 (C.l2 (px c) 3)
  | ⟨n + 16, h⟩ => iprop(emp)
/-- The landing buffers on device `n` of the copies over the first link. -/
def landX (n : Dev nD) : sProp 𝕄 :=
  iprop((∃ f, pt (F := F) n cc0_scratch27 f) ∗ (∃ f, pt (F := F) n cc0_scratch35 f) ∗ (∃ f, pt (F := F) n cc0_scratch29 f) ∗ (∃ f, pt (F := F) n cc0_scratch37 f) ∗ (∃ f, pt (F := F) n cc0_scratch32 f) ∗ (∃ f, pt (F := F) n cc0_scratch40 f) ∗ (∃ f, pt (F := F) n cc0_scratch34 f) ∗ (∃ f, pt (F := F) n cc0_scratch42 f))
/-- The landing buffers on device `n` of the copies over the second link. -/
def landY (n : Dev nD) : sProp 𝕄 :=
  iprop((∃ f, pt (F := F) n cc0_scratch28 f) ∗ (∃ f, pt (F := F) n cc0_scratch36 f) ∗ (∃ f, pt (F := F) n cc0_scratch30 f) ∗ (∃ f, pt (F := F) n cc0_scratch38 f) ∗ (∃ f, pt (F := F) n cc0_scratch31 f) ∗ (∃ f, pt (F := F) n cc0_scratch39 f) ∗ (∃ f, pt (F := F) n cc0_scratch33 f) ∗ (∃ f, pt (F := F) n cc0_scratch41 f))
omit [FloatOps F] in
theorem landX_eq (n : Dev nD) : landX (F := F) n = iprop((∃ f, ((View.loc (n : Thread nD τ) (Memref.whole cc0_scratch27).view) ↦{fullShare} f)) ∗ (∃ f, ((View.loc (n : Thread nD τ) (Memref.whole cc0_scratch35).view) ↦{fullShare} f)) ∗ (∃ f, ((View.loc (n : Thread nD τ) (Memref.whole cc0_scratch29).view) ↦{fullShare} f)) ∗ (∃ f, ((View.loc (n : Thread nD τ) (Memref.whole cc0_scratch37).view) ↦{fullShare} f)) ∗ (∃ f, ((View.loc (n : Thread nD τ) (Memref.whole cc0_scratch32).view) ↦{fullShare} f)) ∗ (∃ f, ((View.loc (n : Thread nD τ) (Memref.whole cc0_scratch40).view) ↦{fullShare} f)) ∗ (∃ f, ((View.loc (n : Thread nD τ) (Memref.whole cc0_scratch34).view) ↦{fullShare} f)) ∗ (∃ f, ((View.loc (n : Thread nD τ) (Memref.whole cc0_scratch42).view) ↦{fullShare} f))) := rfl
omit [FloatOps F] in
theorem landY_eq (n : Dev nD) : landY (F := F) n = iprop((∃ f, ((View.loc (n : Thread nD τ) (Memref.whole cc0_scratch28).view) ↦{fullShare} f)) ∗ (∃ f, ((View.loc (n : Thread nD τ) (Memref.whole cc0_scratch36).view) ↦{fullShare} f)) ∗ (∃ f, ((View.loc (n : Thread nD τ) (Memref.whole cc0_scratch30).view) ↦{fullShare} f)) ∗ (∃ f, ((View.loc (n : Thread nD τ) (Memref.whole cc0_scratch38).view) ↦{fullShare} f)) ∗ (∃ f, ((View.loc (n : Thread nD τ) (Memref.whole cc0_scratch31).view) ↦{fullShare} f)) ∗ (∃ f, ((View.loc (n : Thread nD τ) (Memref.whole cc0_scratch39).view) ↦{fullShare} f)) ∗ (∃ f, ((View.loc (n : Thread nD τ) (Memref.whole cc0_scratch33).view) ↦{fullShare} f)) ∗ (∃ f, ((View.loc (n : Thread nD τ) (Memref.whole cc0_scratch41).view) ↦{fullShare} f))) := rfl

instance sendPay_storable (c : Dev nD) (k : Fin 16) : BI.Storable (upEmb : UEmb _ 𝕄) (sendPay C c k) := by
  unfold sendPay; split <;> infer_instance
instance recvPay_storable (c : Dev nD) (k : Fin 16) : BI.Storable (upEmb : UEmb _ 𝕄) (recvPay C c k) := by
  unfold recvPay; split <;> infer_instance
set_option synthInstance.maxHeartbeats 400000 in
omit [FloatOps F] in
instance landX_storable (c : Dev nD) : BI.Storable (upEmb : UEmb _ 𝕄) (landX (F := F) c) := by unfold landX; infer_instance
set_option synthInstance.maxHeartbeats 400000 in
omit [FloatOps F] in
instance landY_storable (c : Dev nD) : BI.Storable (upEmb : UEmb _ 𝕄) (landY (F := F) c) := by unfold landY; infer_instance

/-! ## The schedule -/

/-- Which copy a DMA semaphore belongs to: departure (`false`) or arrival (`true`), and its number. -/
def copyOf : SemLoc sig → Option (Bool × Fin 16)
  | .dma s => if h : 37 ≤ s.val ∧ s.val < 53 then some (false, ⟨s.val - 37, by omega⟩)
      else if h : 53 ≤ s.val ∧ s.val < 69 then some (true, ⟨s.val - 53, by omega⟩) else none
  | _ => none

theorem copyOf_send (k : Fin 16) : copyOf (.dma (sendS k)) = some (false, k) := by revert k; decide
theorem copyOf_recv (k : Fin 16) : copyOf (.dma (recvS k)) = some (true, k) := by revert k; decide
theorem copyOf_bar : copyOf (.reg barS) = none := rfl

/-- One round each: a barrier cell has two duties of one unit, `false` the first partner's and `true` the second's; a copy's cells the duty `false`. -/
def rd : Rounds.Schedule (GSem nD τ sig) Bool 𝕄 where
  duties g r := if r = 0 ∧ g.1.2 = .tc ∧ g.2 = .reg barS then Finset.univ else if r = 0 ∧ g.1.2 = .tc ∧ (copyOf g.2).isSome then {false} else ∅
  unitless _ := False
  amount g _ _ := match copyOf g.2 with
    | some (_, k) => amt k
    | none => 1
  payload g _ d := match copyOf g.2 with
    | some (false, k) => sendPay C g.1.1 k
    | some (true, k) => recvPay C g.1.1 k
    | none => if g.2 = .reg barS then (if d then landY (py g.1.1) else landX (px g.1.1)) else iprop(emp)
  amount_pos g _ _ _ := by
    rcases copyOf g.2 with _ | ⟨_, k⟩
    · exact Nat.one_pos
    · exact amt_pos k

instance rd_payload_storable (g : GSem nD τ sig) (r : ℕ) (d : Bool) : BI.Storable (upEmb : UEmb _ 𝕄) ((rd C).payload g r d) := by
  show BI.Storable upEmb (match copyOf g.2 with
    | some (false, k) => sendPay C g.1.1 k
    | some (true, k) => recvPay C g.1.1 k
    | none => if g.2 = .reg barS then (if d then landY (py g.1.1) else landX (px g.1.1)) else iprop(emp))
  (repeat' split) <;> infer_instance

section Tables
variable (c : Dev nD) (k : Fin 16) (d : Bool)

theorem send_ne_bar : (SemLoc.dma (sendS k) : SemLoc sig) ≠ .reg barS := fun h => by cases h
theorem recv_ne_bar : (SemLoc.dma (recvS k) : SemLoc sig) ≠ .reg barS := fun h => by cases h

theorem duties_bar : (rd C).duties (barCell c) 0 = Finset.univ := by dsimp only [rd]; exact if_pos ⟨rfl, rfl, rfl⟩
theorem duties_send : (rd C).duties (sendCell c k) 0 = {false} := by
  dsimp only [rd]; rw [if_neg (fun h => send_ne_bar k h.2.2), copyOf_send]; exact if_pos ⟨rfl, rfl, rfl⟩
theorem duties_recv : (rd C).duties (recvCell c k) 0 = {false} := by
  dsimp only [rd]; rw [if_neg (fun h => recv_ne_bar k h.2.2), copyOf_recv]; exact if_pos ⟨rfl, rfl, rfl⟩
theorem duties_later (g : GSem nD τ sig) : ∀ r, 1 ≤ r → (rd C).duties g r = ∅ :=
  fun r hr => by dsimp only [rd]; rw [if_neg fun h => by omega, if_neg fun h => by omega]

theorem amount_bar : (rd C).amount (barCell c) 0 d = 1 := rfl
theorem amount_send : (rd C).amount (sendCell c k) 0 d = amt k := by dsimp only [rd]; rw [copyOf_send]
theorem amount_recv : (rd C).amount (recvCell c k) 0 d = amt k := by dsimp only [rd]; rw [copyOf_recv]

theorem expect_bar : (rd C).expect (barCell c) 0 = 2 := by
  unfold Schedule.expect Schedule.amountOf
  rw [duties_bar, Finset.sum_congr rfl fun d _ => amount_bar C c d, Finset.sum_const, Finset.card_univ, Fintype.card_bool, smul_eq_mul]
theorem expect_send : (rd C).expect (sendCell c k) 0 = amt k := by
  unfold Schedule.expect Schedule.amountOf; rw [duties_send, Finset.sum_singleton, amount_send]
theorem expect_recv : (rd C).expect (recvCell c k) 0 = amt k := by
  unfold Schedule.expect Schedule.amountOf; rw [duties_recv, Finset.sum_singleton, amount_recv]

theorem payload_bar_px : (rd C).payload (barCell c) 0 false = landX (px c) := by
  dsimp only [rd]; rw [copyOf_bar]; dsimp only; rw [if_pos rfl]; exact if_neg Bool.false_ne_true
theorem payload_bar_py : (rd C).payload (barCell c) 0 true = landY (py c) := by
  dsimp only [rd]; rw [copyOf_bar]; dsimp only; rw [if_pos rfl, if_pos rfl]
theorem both_bar : (bigSep Finset.univ fun d : Bool => (rd C).payload (barCell c) 0 d) = iprop(landX (px c) ∗ landY (py c)) := by
  rw [show (Finset.univ : Finset Bool) = {false, true} by decide, bigSep_insert (by decide), bigSep_singleton, payload_bar_px, payload_bar_py]
  rfl
theorem payload_send : (rd C).payload (sendCell c k) 0 d = sendPay C c k := by dsimp only [rd]; rw [copyOf_send]
theorem payload_recv : (rd C).payload (recvCell c k) 0 d = recvPay C c k := by dsimp only [rd]; rw [copyOf_recv]
theorem payload_send0 : (rd C).payload (sendCell c 0) 0 d = pt c cc0_scratch11 (C.c1 c 0) := payload_send C c 0 d
theorem payload_recv0 : (rd C).payload (recvCell c 0) 0 d = pt c cc0_scratch27 (C.c1 (px c) 0) := payload_recv C c 0 d
theorem amt_0 : amt 0 = nC := rfl
theorem payload_send1 : (rd C).payload (sendCell c 1) 0 d = pt c cc0_scratch12 (C.c1 c 1) := payload_send C c 1 d
theorem payload_recv1 : (rd C).payload (recvCell c 1) 0 d = pt c cc0_scratch28 (C.c1 (py c) 1) := payload_recv C c 1 d
theorem amt_1 : amt 1 = nC := rfl
theorem payload_send2 : (rd C).payload (sendCell c 2) 0 d = pt c cc0_scratch13 (C.c1 c 2) := payload_send C c 2 d
theorem payload_recv2 : (rd C).payload (recvCell c 2) 0 d = pt c cc0_scratch29 (C.c1 (px c) 2) := payload_recv C c 2 d
theorem amt_2 : amt 2 = nC := rfl
theorem payload_send3 : (rd C).payload (sendCell c 3) 0 d = pt c cc0_scratch14 (C.c1 c 3) := payload_send C c 3 d
theorem payload_recv3 : (rd C).payload (recvCell c 3) 0 d = pt c cc0_scratch30 (C.c1 (py c) 3) := payload_recv C c 3 d
theorem amt_3 : amt 3 = nC := rfl
theorem payload_send4 : (rd C).payload (sendCell c 4) 0 d = pt c cc0_scratch15 (C.c2 c 0) := payload_send C c 4 d
theorem payload_recv4 : (rd C).payload (recvCell c 4) 0 d = pt c cc0_scratch31 (C.c2 (py c) 0) := payload_recv C c 4 d
theorem amt_4 : amt 4 = nC := rfl
theorem payload_send5 : (rd C).payload (sendCell c 5) 0 d = pt c cc0_scratch16 (C.c2 c 1) := payload_send C c 5 d
theorem payload_recv5 : (rd C).payload (recvCell c 5) 0 d = pt c cc0_scratch32 (C.c2 (px c) 1) := payload_recv C c 5 d
theorem amt_5 : amt 5 = nC := rfl
theorem payload_send6 : (rd C).payload (sendCell c 6) 0 d = pt c cc0_scratch17 (C.c2 c 2) := payload_send C c 6 d
theorem payload_recv6 : (rd C).payload (recvCell c 6) 0 d = pt c cc0_scratch33 (C.c2 (py c) 2) := payload_recv C c 6 d
theorem amt_6 : amt 6 = nC := rfl
theorem payload_send7 : (rd C).payload (sendCell c 7) 0 d = pt c cc0_scratch18 (C.c2 c 3) := payload_send C c 7 d
theorem payload_recv7 : (rd C).payload (recvCell c 7) 0 d = pt c cc0_scratch34 (C.c2 (px c) 3) := payload_recv C c 7 d
theorem amt_7 : amt 7 = nC := rfl
theorem payload_send8 : (rd C).payload (sendCell c 8) 0 d = pt c cc0_scratch19 (C.l1 c 0) := payload_send C c 8 d
theorem payload_recv8 : (rd C).payload (recvCell c 8) 0 d = pt c cc0_scratch35 (C.l1 (px c) 0) := payload_recv C c 8 d
theorem amt_8 : amt 8 = nL := rfl
theorem payload_send9 : (rd C).payload (sendCell c 9) 0 d = pt c cc0_scratch20 (C.l1 c 1) := payload_send C c 9 d
theorem payload_recv9 : (rd C).payload (recvCell c 9) 0 d = pt c cc0_scratch36 (C.l1 (py c) 1) := payload_recv C c 9 d
theorem amt_9 : amt 9 = nL := rfl
theorem payload_send10 : (rd C).payload (sendCell c 10) 0 d = pt c cc0_scratch21 (C.l1 c 2) := payload_send C c 10 d
theorem payload_recv10 : (rd C).payload (recvCell c 10) 0 d = pt c cc0_scratch37 (C.l1 (px c) 2) := payload_recv C c 10 d
theorem amt_10 : amt 10 = nL := rfl
theorem payload_send11 : (rd C).payload (sendCell c 11) 0 d = pt c cc0_scratch22 (C.l1 c 3) := payload_send C c 11 d
theorem payload_recv11 : (rd C).payload (recvCell c 11) 0 d = pt c cc0_scratch38 (C.l1 (py c) 3) := payload_recv C c 11 d
theorem amt_11 : amt 11 = nL := rfl
theorem payload_send12 : (rd C).payload (sendCell c 12) 0 d = pt c cc0_scratch23 (C.l2 c 0) := payload_send C c 12 d
theorem payload_recv12 : (rd C).payload (recvCell c 12) 0 d = pt c cc0_scratch39 (C.l2 (py c) 0) := payload_recv C c 12 d
theorem amt_12 : amt 12 = nL := rfl
theorem payload_send13 : (rd C).payload (sendCell c 13) 0 d = pt c cc0_scratch24 (C.l2 c 1) := payload_send C c 13 d
theorem payload_recv13 : (rd C).payload (recvCell c 13) 0 d = pt c cc0_scratch40 (C.l2 (px c) 1) := payload_recv C c 13 d
theorem amt_13 : amt 13 = nL := rfl
theorem payload_send14 : (rd C).payload (sendCell c 14) 0 d = pt c cc0_scratch25 (C.l2 c 2) := payload_send C c 14 d
theorem payload_recv14 : (rd C).payload (recvCell c 14) 0 d = pt c cc0_scratch41 (C.l2 (py c) 2) := payload_recv C c 14 d
theorem amt_14 : amt 14 = nL := rfl
theorem payload_send15 : (rd C).payload (sendCell c 15) 0 d = pt c cc0_scratch26 (C.l2 c 3) := payload_send C c 15 d
theorem payload_recv15 : (rd C).payload (recvCell c 15) 0 d = pt c cc0_scratch42 (C.l2 (px c) 3) := payload_recv C c 15 d
theorem amt_15 : amt 15 = nL := rfl
theorem payload_bar_at_px : (rd C).payload (barCell (px c)) 0 false = landX c := by
  rw [payload_bar_px, px_px]
theorem payload_bar_at_py : (rd C).payload (barCell (py c)) 0 true = landY c := by
  rw [payload_bar_py, py_py]

end Tables

/-! ## What each core owes at launch; the levels -/

/-- The copies in the order the kernel starts them. -/
def nth : Fin 16 → Fin 16 := ![0, 8, 1, 9, 2, 10, 3, 11, 4, 12, 5, 13, 6, 14, 7, 15]
/-- The arrival credit of the `k`-th copy, which device `c` owes its partner. -/
def due (c : Dev nD) (k : Fin 16) : CellTallies nD τ sig Unit := tallyAt (recvCell (peer k c) k) () (amt k)
set_option backward.proofsInPublic true in
/-- What is owed for the last `n` copies. -/
def left (c : Dev nD) : ℕ → CellTallies nD τ sig Unit
  | 0 => 0
  | n + 1 => left c n + due c (nth ⟨15 - n, by omega⟩)
/-- At launch: every copy's arrival, and a unit at each partner's barrier. -/
def owed₀ (c : Dev nD) : CellTallies nD τ sig Unit := left c 16 + tallyAt (barCell (py c)) () 1 + tallyAt (barCell (px c)) () 1

theorem left_16 (c : Dev nD) : left c 16 = left c 15 + tallyAt (recvCell (px c) 0) () nC := rfl
theorem left_15 (c : Dev nD) : left c 15 = left c 14 + tallyAt (recvCell (px c) 8) () nL := rfl
theorem left_14 (c : Dev nD) : left c 14 = left c 13 + tallyAt (recvCell (py c) 1) () nC := rfl
theorem left_13 (c : Dev nD) : left c 13 = left c 12 + tallyAt (recvCell (py c) 9) () nL := rfl
theorem left_12 (c : Dev nD) : left c 12 = left c 11 + tallyAt (recvCell (px c) 2) () nC := rfl
theorem left_11 (c : Dev nD) : left c 11 = left c 10 + tallyAt (recvCell (px c) 10) () nL := rfl
theorem left_10 (c : Dev nD) : left c 10 = left c 9 + tallyAt (recvCell (py c) 3) () nC := rfl
theorem left_9 (c : Dev nD) : left c 9 = left c 8 + tallyAt (recvCell (py c) 11) () nL := rfl
theorem left_8 (c : Dev nD) : left c 8 = left c 7 + tallyAt (recvCell (py c) 4) () nC := rfl
theorem left_7 (c : Dev nD) : left c 7 = left c 6 + tallyAt (recvCell (py c) 12) () nL := rfl
theorem left_6 (c : Dev nD) : left c 6 = left c 5 + tallyAt (recvCell (px c) 5) () nC := rfl
theorem left_5 (c : Dev nD) : left c 5 = left c 4 + tallyAt (recvCell (px c) 13) () nL := rfl
theorem left_4 (c : Dev nD) : left c 4 = left c 3 + tallyAt (recvCell (py c) 6) () nC := rfl
theorem left_3 (c : Dev nD) : left c 3 = left c 2 + tallyAt (recvCell (py c) 14) () nL := rfl
theorem left_2 (c : Dev nD) : left c 2 = left c 1 + tallyAt (recvCell (px c) 7) () nC := rfl
theorem left_1 (c : Dev nD) : left c 1 = 0 + tallyAt (recvCell (px c) 15) () nL := rfl

def L (g : GSem nD τ sig) : Finset Unit := if g.1.2 = .tc then {()} else ∅
/-- Arrivals of round two above those of round one above the barrier cells above everything else. -/
def lv (g : GSem nD τ sig) (_ : Unit) : ℕ :=
  if g.2 = .reg barS then 1 else match copyOf g.2 with
    | some (true, k) => if (k.val / 4) % 2 = 0 then 2 else 3
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 16) : lv (recvCell c k) () = if (k.val / 4) % 2 = 0 then 2 else 3 := by
  unfold lv; rw [if_neg (recv_ne_bar k), copyOf_recv]
theorem lv_bar (c : Dev nD) : lv (barCell c) () = 1 := if_pos rfl

/-- A tally owed for the last `n` copies is at the arrival cell of one of them. -/
theorem left_pos {c : Dev nD} {g : GSem nD τ sig} {u : Unit} : ∀ {n : ℕ}, n ≤ 16 → 0 < left c n g u →
    ∃ j : Fin 16, 16 ≤ j.val + n ∧ g = recvCell (peer (nth j) c) (nth j)
  | 0, _, h => absurd h (Nat.lt_irrefl 0)
  | n + 1, hn, h => by
    unfold left due at h
    rw [Pi.add_apply, Finsupp.add_apply, tallyAt_apply] at h
    by_cases hg : g = recvCell (peer (nth ⟨15 - n, by omega⟩) c) (nth ⟨15 - n, by omega⟩)
    · exact ⟨⟨15 - n, by omega⟩, by show 16 ≤ 15 - n + (n + 1); omega, hg⟩
    · rw [if_neg (fun h' => hg h'.1), Nat.add_zero] at h
      obtain ⟨j, hj, e⟩ := left_pos (by omega) h
      exact ⟨j, by omega, e⟩

theorem add_two_pos {T : CellTallies nD τ sig Unit} {a b g : GSem nD τ sig} {u : Unit} (h : 0 < (T + tallyAt a () 1 + tallyAt b () 1) g u) :
    0 < T g u ∨ g = a ∨ g = b := by
  rw [Pi.add_apply, Finsupp.add_apply, Pi.add_apply, Finsupp.add_apply, tallyAt_apply, tallyAt_apply] at h
  by_cases h1 : g = a
  · exact .inr (.inl h1)
  by_cases h2 : g = b
  · exact .inr (.inr h2)
  rw [if_neg (fun h' => h1 h'.1), if_neg (fun h' => h2 h'.1)] at h
  exact .inl h

theorem owed₀_pos {c : Dev nD} {g : GSem nD τ sig} {u : Unit} (h : 0 < owed₀ c g u) :
    (∃ j : Fin 16, g = recvCell (peer (nth j) c) (nth j)) ∨ (∃ d : Dev nD, g = barCell d) := by
  rcases add_two_pos h with h | h | h
  · obtain ⟨j, -, e⟩ := left_pos (le_refl 16) h
    exact .inl ⟨j, e⟩
  · exact .inr ⟨_, h⟩
  · exact .inr ⟨_, h⟩

/-- Cells the waits of which never block: no barrier cell and no arrival cell. -/
abbrev Low (s : DmaSem sig) : Prop := ∀ k : Fin 16, s ≠ recvS k

theorem lv_low (c : Dev nD) (s : DmaSem sig) (hs : Low s) : lv ((c : Thread nD τ), .dma s) () = 0 := by
  unfold lv
  rw [if_neg (fun h => by cases h)]
  split
  · next k h =>
    refine absurd ?_ (hs k)
    unfold copyOf at h
    dsimp only at h
    split at h
    · cases h
    · split at h
      · next h2 =>
        have := Option.some.inj h
        have hk : (⟨s.val - 53, by omega⟩ : Fin 16) = k := (Prod.mk.inj this).2
        rw [← hk]; exact Fin.ext (by show s.val = 53 + (s.val - 53); omega)
      · cases h
  · rfl

theorem may_low (c : Dev nD) (s : DmaSem sig) (hs : Low s) (n : ℕ) (hn : n ≤ 16) :
    (levAts L lv : sProp 𝕄) ⊢ MayWait (c : Thread nD τ) (.dma s) () (left c n) :=
  Pipeline.mayWait_of_levAts (by rw [L_tc]; exact Finset.mem_singleton_self _) fun g i hg => by
    obtain ⟨j, -, rfl⟩ := left_pos hn hg
    refine ⟨Finset.mem_singleton_self _, ?_⟩
    rw [lv_low c s hs, lv_recv]; split <;> decide

theorem may_low₀ (c : Dev nD) (s : DmaSem sig) (hs : Low s) :
    (levAts L lv : sProp 𝕄) ⊢ MayWait (c : Thread nD τ) (.dma s) () (owed₀ c) :=
  Pipeline.mayWait_of_levAts (by rw [L_tc]; exact Finset.mem_singleton_self _) fun g i hg => by
    rcases owed₀_pos hg with ⟨j, rfl⟩ | ⟨d, rfl⟩
    · refine ⟨Finset.mem_singleton_self _, ?_⟩
      rw [lv_low c s hs, lv_recv]; split <;> decide
    · refine ⟨Finset.mem_singleton_self _, ?_⟩
      rw [lv_low c s hs, lv_bar]; decide

theorem low_of_lt {s : DmaSem sig} (h : s.val < 53) : Low s := fun k e => by
  rw [e] at h; exact absurd h (by show ¬ 53 + k.val < 53; omega)

/-- At its barrier wait a device owes arrivals only. -/
theorem may_bar (c : Dev nD) : (levAts L lv : sProp 𝕄) ⊢ MayWait (c : Thread nD τ) (.reg barS) () (left c 16) :=
  Pipeline.mayWait_of_levAts (by rw [L_tc]; exact Finset.mem_singleton_self _) fun g i hg => by
    obtain ⟨j, -, rfl⟩ := left_pos (le_refl 16) hg
    refine ⟨Finset.mem_singleton_self _, ?_⟩
    rw [lv_bar, lv_recv]; split <;> decide

/-- At an arrival of round one it owes arrivals of round two only. -/
theorem may_recv (c : Dev nD) (k : Fin 16) (hk : (k.val / 4) % 2 = 0) (n : ℕ) (hn : n ≤ 8) :
    (levAts L lv : sProp 𝕄) ⊢ MayWait (c : Thread nD τ) (.dma (recvS k)) () (left c n) :=
  Pipeline.mayWait_of_levAts (by rw [L_tc]; exact Finset.mem_singleton_self _) fun g i hg => by
    obtain ⟨j, hj, rfl⟩ := left_pos (le_trans hn (by decide)) hg
    refine ⟨Finset.mem_singleton_self _, ?_⟩
    rw [lv_recv, lv_recv, if_pos hk]
    have h3 : ∀ j : Fin 16, 8 ≤ j.val → ((nth j).val / 4) % 2 = 1 := by decide
    rw [if_neg (by rw [h3 j (by omega)]; decide)]; decide

end Cert.KernelIdeal.Exchange

end
-- ==== Proof.Resources.lean ====
/-
What device `c`'s body starts from and what it leaves, group by group: the invariants of the cells it touches, its positions in them, the tokens
of the duties it pays, its launch credits, its counters and its scratch buffers.
-/
module

public import proofs.«01_k».proof.Proof.Exchange

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (C : Carried F) (K : Dev nD × Fin 33 → ℕ)

/-- The invariants of the cells the body touches: its own, its partners' barrier cells, and the arrival cells it pays. -/
def invs (c : Dev nD) : sProp 𝕄 :=
  iprop(cellInv EX (rd C) (K (c, 0)) (barCell c)
    ∗ cellInv EX (rd C) (K (px c, 0)) (barCell (px c))
    ∗ cellInv EX (rd C) (K (py c, 0)) (barCell (py c))
    ∗ cellInv EX (rd C) (K (c, 1)) (sendCell c 0)
    ∗ cellInv EX (rd C) (K (c, 2)) (sendCell c 1)
    ∗ cellInv EX (rd C) (K (c, 3)) (sendCell c 2)
    ∗ cellInv EX (rd C) (K (c, 4)) (sendCell c 3)
    ∗ cellInv EX (rd C) (K (c, 5)) (sendCell c 4)
    ∗ cellInv EX (rd C) (K (c, 6)) (sendCell c 5)
    ∗ cellInv EX (rd C) (K (c, 7)) (sendCell c 6)
    ∗ cellInv EX (rd C) (K (c, 8)) (sendCell c 7)
    ∗ cellInv EX (rd C) (K (c, 9)) (sendCell c 8)
    ∗ cellInv EX (rd C) (K (c, 10)) (sendCell c 9)
    ∗ cellInv EX (rd C) (K (c, 11)) (sendCell c 10)
    ∗ cellInv EX (rd C) (K (c, 12)) (sendCell c 11)
    ∗ cellInv EX (rd C) (K (c, 13)) (sendCell c 12)
    ∗ cellInv EX (rd C) (K (c, 14)) (sendCell c 13)
    ∗ cellInv EX (rd C) (K (c, 15)) (sendCell c 14)
    ∗ cellInv EX (rd C) (K (c, 16)) (sendCell c 15)
    ∗ cellInv EX (rd C) (K (c, 17)) (recvCell c 0)
    ∗ cellInv EX (rd C) (K (c, 18)) (recvCell c 1)
    ∗ cellInv EX (rd C) (K (c, 19)) (recvCell c 2)
    ∗ cellInv EX (rd C) (K (c, 20)) (recvCell c 3)
    ∗ cellInv EX (rd C) (K (c, 21)) (recvCell c 4)
    ∗ cellInv EX (rd C) (K (c, 22)) (recvCell c 5)
    ∗ cellInv EX (rd C) (K (c, 23)) (recvCell c 6)
    ∗ cellInv EX (rd C) (K (c, 24)) (recvCell c 7)
    ∗ cellInv EX (rd C) (K (c, 25)) (recvCell c 8)
    ∗ cellInv EX (rd C) (K (c, 26)) (recvCell c 9)
    ∗ cellInv EX (rd C) (K (c, 27)) (recvCell c 10)
    ∗ cellInv EX (rd C) (K (c, 28)) (recvCell c 11)
    ∗ cellInv EX (rd C) (K (c, 29)) (recvCell c 12)
    ∗ cellInv EX (rd C) (K (c, 30)) (recvCell c 13)
    ∗ cellInv EX (rd C) (K (c, 31)) (recvCell c 14)
    ∗ cellInv EX (rd C) (K (c, 32)) (recvCell c 15)
    ∗ cellInv EX (rd C) (K (px c, 17)) (recvCell (px c) 0)
    ∗ cellInv EX (rd C) (K (py c, 18)) (recvCell (py c) 1)
    ∗ cellInv EX (rd C) (K (px c, 19)) (recvCell (px c) 2)
    ∗ cellInv EX (rd C) (K (py c, 20)) (recvCell (py c) 3)
    ∗ cellInv EX (rd C) (K (py c, 21)) (recvCell (py c) 4)
    ∗ cellInv EX (rd C) (K (px c, 22)) (recvCell (px c) 5)
    ∗ cellInv EX (rd C) (K (py c, 23)) (recvCell (py c) 6)
    ∗ cellInv EX (rd C) (K (px c, 24)) (recvCell (px c) 7)
    ∗ cellInv EX (rd C) (K (px c, 25)) (recvCell (px c) 8)
    ∗ cellInv EX (rd C) (K (py c, 26)) (recvCell (py c) 9)
    ∗ cellInv EX (rd C) (K (px c, 27)) (recvCell (px c) 10)
    ∗ cellInv EX (rd C) (K (py c, 28)) (recvCell (py c) 11)
    ∗ cellInv EX (rd C) (K (py c, 29)) (recvCell (py c) 12)
    ∗ cellInv EX (rd C) (K (px c, 30)) (recvCell (px c) 13)
    ∗ cellInv EX (rd C) (K (py c, 31)) (recvCell (py c) 14)
    ∗ cellInv EX (rd C) (K (px c, 32)) (recvCell (px c) 15))
/-- The cells it pays have reached round 0. -/
def marks (c : Dev nD) : sProp 𝕄 :=
  iprop(reached EX (barCell (px c)) 0
    ∗ reached EX (barCell (py c)) 0
    ∗ reached EX (sendCell c 0) 0
    ∗ reached EX (sendCell c 1) 0
    ∗ reached EX (sendCell c 2) 0
    ∗ reached EX (sendCell c 3) 0
    ∗ reached EX (sendCell c 4) 0
    ∗ reached EX (sendCell c 5) 0
    ∗ reached EX (sendCell c 6) 0
    ∗ reached EX (sendCell c 7) 0
    ∗ reached EX (sendCell c 8) 0
    ∗ reached EX (sendCell c 9) 0
    ∗ reached EX (sendCell c 10) 0
    ∗ reached EX (sendCell c 11) 0
    ∗ reached EX (sendCell c 12) 0
    ∗ reached EX (sendCell c 13) 0
    ∗ reached EX (sendCell c 14) 0
    ∗ reached EX (sendCell c 15) 0
    ∗ reached EX (recvCell (px c) 0) 0
    ∗ reached EX (recvCell (py c) 1) 0
    ∗ reached EX (recvCell (px c) 2) 0
    ∗ reached EX (recvCell (py c) 3) 0
    ∗ reached EX (recvCell (py c) 4) 0
    ∗ reached EX (recvCell (px c) 5) 0
    ∗ reached EX (recvCell (py c) 6) 0
    ∗ reached EX (recvCell (px c) 7) 0
    ∗ reached EX (recvCell (px c) 8) 0
    ∗ reached EX (recvCell (py c) 9) 0
    ∗ reached EX (recvCell (px c) 10) 0
    ∗ reached EX (recvCell (py c) 11) 0
    ∗ reached EX (recvCell (py c) 12) 0
    ∗ reached EX (recvCell (px c) 13) 0
    ∗ reached EX (recvCell (py c) 14) 0
    ∗ reached EX (recvCell (px c) 15) 0)
/-- The tokens of the duties it pays. -/
def payToks (c : Dev nD) : sProp 𝕄 :=
  iprop(dutyTok EX (barCell (px c)) 0 false
    ∗ dutyTok EX (barCell (py c)) 0 true
    ∗ dutyTok EX (sendCell c 0) 0 false
    ∗ dutyTok EX (sendCell c 1) 0 false
    ∗ dutyTok EX (sendCell c 2) 0 false
    ∗ dutyTok EX (sendCell c 3) 0 false
    ∗ dutyTok EX (sendCell c 4) 0 false
    ∗ dutyTok EX (sendCell c 5) 0 false
    ∗ dutyTok EX (sendCell c 6) 0 false
    ∗ dutyTok EX (sendCell c 7) 0 false
    ∗ dutyTok EX (sendCell c 8) 0 false
    ∗ dutyTok EX (sendCell c 9) 0 false
    ∗ dutyTok EX (sendCell c 10) 0 false
    ∗ dutyTok EX (sendCell c 11) 0 false
    ∗ dutyTok EX (sendCell c 12) 0 false
    ∗ dutyTok EX (sendCell c 13) 0 false
    ∗ dutyTok EX (sendCell c 14) 0 false
    ∗ dutyTok EX (sendCell c 15) 0 false
    ∗ dutyTok EX (recvCell (px c) 0) 0 false
    ∗ dutyTok EX (recvCell (py c) 1) 0 false
    ∗ dutyTok EX (recvCell (px c) 2) 0 false
    ∗ dutyTok EX (recvCell (py c) 3) 0 false
    ∗ dutyTok EX (recvCell (py c) 4) 0 false
    ∗ dutyTok EX (recvCell (px c) 5) 0 false
    ∗ dutyTok EX (recvCell (py c) 6) 0 false
    ∗ dutyTok EX (recvCell (px c) 7) 0 false
    ∗ dutyTok EX (recvCell (px c) 8) 0 false
    ∗ dutyTok EX (recvCell (py c) 9) 0 false
    ∗ dutyTok EX (recvCell (px c) 10) 0 false
    ∗ dutyTok EX (recvCell (py c) 11) 0 false
    ∗ dutyTok EX (recvCell (py c) 12) 0 false
    ∗ dutyTok EX (recvCell (px c) 13) 0 false
    ∗ dutyTok EX (recvCell (py c) 14) 0 false
    ∗ dutyTok EX (recvCell (px c) 15) 0 false)
/-- Its positions in its own cells. -/
def poss (c : Dev nD) : sProp 𝕄 :=
  iprop(atPos EX (barCell c) 0 ∅ 0
    ∗ atPos EX (sendCell c 0) 0 ∅ 0
    ∗ atPos EX (sendCell c 1) 0 ∅ 0
    ∗ atPos EX (sendCell c 2) 0 ∅ 0
    ∗ atPos EX (sendCell c 3) 0 ∅ 0
    ∗ atPos EX (sendCell c 4) 0 ∅ 0
    ∗ atPos EX (sendCell c 5) 0 ∅ 0
    ∗ atPos EX (sendCell c 6) 0 ∅ 0
    ∗ atPos EX (sendCell c 7) 0 ∅ 0
    ∗ atPos EX (sendCell c 8) 0 ∅ 0
    ∗ atPos EX (sendCell c 9) 0 ∅ 0
    ∗ atPos EX (sendCell c 10) 0 ∅ 0
    ∗ atPos EX (sendCell c 11) 0 ∅ 0
    ∗ atPos EX (sendCell c 12) 0 ∅ 0
    ∗ atPos EX (sendCell c 13) 0 ∅ 0
    ∗ atPos EX (sendCell c 14) 0 ∅ 0
    ∗ atPos EX (sendCell c 15) 0 ∅ 0
    ∗ atPos EX (recvCell c 0) 0 ∅ 0
    ∗ atPos EX (recvCell c 1) 0 ∅ 0
    ∗ atPos EX (recvCell c 2) 0 ∅ 0
    ∗ atPos EX (recvCell c 3) 0 ∅ 0
    ∗ atPos EX (recvCell c 4) 0 ∅ 0
    ∗ atPos EX (recvCell c 5) 0 ∅ 0
    ∗ atPos EX (recvCell c 6) 0 ∅ 0
    ∗ atPos EX (recvCell c 7) 0 ∅ 0
    ∗ atPos EX (recvCell c 8) 0 ∅ 0
    ∗ atPos EX (recvCell c 9) 0 ∅ 0
    ∗ atPos EX (recvCell c 10) 0 ∅ 0
    ∗ atPos EX (recvCell c 11) 0 ∅ 0
    ∗ atPos EX (recvCell c 12) 0 ∅ 0
    ∗ atPos EX (recvCell c 13) 0 ∅ 0
    ∗ atPos EX (recvCell c 14) 0 ∅ 0
    ∗ atPos EX (recvCell c 15) 0 ∅ 0)
/-- The credits for what its partners will signal and copy to it. -/
def creds (c : Dev nD) : sProp 𝕄 :=
  iprop(cred (tallyAt (barCell c) () 2)
    ∗ cred (tallyAt (recvCell c 0) () nC)
    ∗ cred (tallyAt (recvCell c 1) () nC)
    ∗ cred (tallyAt (recvCell c 2) () nC)
    ∗ cred (tallyAt (recvCell c 3) () nC)
    ∗ cred (tallyAt (recvCell c 4) () nC)
    ∗ cred (tallyAt (recvCell c 5) () nC)
    ∗ cred (tallyAt (recvCell c 6) () nC)
    ∗ cred (tallyAt (recvCell c 7) () nC)
    ∗ cred (tallyAt (recvCell c 8) () nL)
    ∗ cred (tallyAt (recvCell c 9) () nL)
    ∗ cred (tallyAt (recvCell c 10) () nL)
    ∗ cred (tallyAt (recvCell c 11) () nL)
    ∗ cred (tallyAt (recvCell c 12) () nL)
    ∗ cred (tallyAt (recvCell c 13) () nL)
    ∗ cred (tallyAt (recvCell c 14) () nL)
    ∗ cred (tallyAt (recvCell c 15) () nL))
/-- The counters of its local copies. -/
def locals (c : Dev nD) : sProp 𝕄 :=
  iprop(semVal ((c : Thread nD τ), SemLoc.dma ⟨2, by decide⟩) 0
    ∗ semVal ((c : Thread nD τ), SemLoc.dma ⟨3, by decide⟩) 0
    ∗ semVal ((c : Thread nD τ), SemLoc.dma ⟨4, by decide⟩) 0
    ∗ semVal ((c : Thread nD τ), SemLoc.dma ⟨5, by decide⟩) 0
    ∗ semVal ((c : Thread nD τ), SemLoc.dma ⟨6, by decide⟩) 0
    ∗ semVal ((c : Thread nD τ), SemLoc.dma ⟨7, by decide⟩) 0
    ∗ semVal ((c : Thread nD τ), SemLoc.dma ⟨8, by decide⟩) 0
    ∗ semVal ((c : Thread nD τ), SemLoc.dma ⟨9, by decide⟩) 0
    ∗ semVal ((c : Thread nD τ), SemLoc.dma ⟨10, by decide⟩) 0
    ∗ semVal ((c : Thread nD τ), SemLoc.dma ⟨11, by decide⟩) 0
    ∗ semVal ((c : Thread nD τ), SemLoc.dma ⟨12, by decide⟩) 0
    ∗ semVal ((c : Thread nD τ), SemLoc.dma ⟨13, by decide⟩) 0
    ∗ semVal ((c : Thread nD τ), SemLoc.dma ⟨14, by decide⟩) 0
    ∗ semVal ((c : Thread nD τ), SemLoc.dma ⟨15, by decide⟩) 0
    ∗ semVal ((c : Thread nD τ), SemLoc.dma ⟨16, by decide⟩) 0
    ∗ semVal ((c : Thread nD τ), SemLoc.dma ⟨17, by decide⟩) 0
    ∗ semVal ((c : Thread nD τ), SemLoc.dma ⟨18, by decide⟩) 0
    ∗ semVal ((c : Thread nD τ), SemLoc.dma ⟨19, by decide⟩) 0
    ∗ semVal ((c : Thread nD τ), SemLoc.dma ⟨20, by decide⟩) 0
    ∗ semVal ((c : Thread nD τ), SemLoc.dma ⟨21, by decide⟩) 0
    ∗ semVal ((c : Thread nD τ), SemLoc.dma ⟨22, by decide⟩) 0
    ∗ semVal ((c : Thread nD τ), SemLoc.dma ⟨23, by decide⟩) 0
    ∗ semVal ((c : Thread nD τ), SemLoc.dma ⟨24, by decide⟩) 0
    ∗ semVal ((c : Thread nD τ), SemLoc.dma ⟨25, by decide⟩) 0
    ∗ semVal ((c : Thread nD τ), SemLoc.dma ⟨26, by decide⟩) 0
    ∗ semVal ((c : Thread nD τ), SemLoc.dma ⟨27, by decide⟩) 0
    ∗ semVal ((c : Thread nD τ), SemLoc.dma ⟨28, by decide⟩) 0
    ∗ semVal ((c : Thread nD τ), SemLoc.dma ⟨29, by decide⟩) 0
    ∗ semVal ((c : Thread nD τ), SemLoc.dma ⟨30, by decide⟩) 0
    ∗ semVal ((c : Thread nD τ), SemLoc.dma ⟨31, by decide⟩) 0
    ∗ semVal ((c : Thread nD τ), SemLoc.dma ⟨32, by decide⟩) 0
    ∗ semVal ((c : Thread nD τ), SemLoc.dma ⟨33, by decide⟩) 0
    ∗ semVal ((c : Thread nD τ), SemLoc.dma ⟨34, by decide⟩) 0
    ∗ semVal ((c : Thread nD τ), SemLoc.dma ⟨35, by decide⟩) 0
    ∗ semVal ((c : Thread nD τ), SemLoc.dma ⟨36, by decide⟩) 0
    ∗ semVal ((c : Thread nD τ), SemLoc.dma ⟨69, by decide⟩) 0
    ∗ semVal ((c : Thread nD τ), SemLoc.dma ⟨70, by decide⟩) 0
    ∗ semVal ((c : Thread nD τ), SemLoc.dma ⟨71, by decide⟩) 0
    ∗ semVal ((c : Thread nD τ), SemLoc.dma ⟨72, by decide⟩) 0
    ∗ semVal ((c : Thread nD τ), SemLoc.dma ⟨73, by decide⟩) 0
    ∗ semVal ((c : Thread nD τ), SemLoc.dma ⟨74, by decide⟩) 0
    ∗ semVal ((c : Thread nD τ), SemLoc.dma ⟨75, by decide⟩) 0
    ∗ semVal ((c : Thread nD τ), SemLoc.dma ⟨76, by decide⟩) 0
    ∗ semVal ((c : Thread nD τ), SemLoc.dma ⟨77, by decide⟩) 0
    ∗ semVal ((c : Thread nD τ), SemLoc.dma ⟨78, by decide⟩) 0
    ∗ semVal ((c : Thread nD τ), SemLoc.dma ⟨79, by decide⟩) 0
    ∗ semVal ((c : Thread nD τ), SemLoc.dma ⟨80, by decide⟩) 0
    ∗ semVal ((c : Thread nD τ), SemLoc.dma ⟨81, by decide⟩) 0
    ∗ semVal ((c : Thread nD τ), SemLoc.dma ⟨82, by decide⟩) 0
    ∗ semVal ((c : Thread nD τ), SemLoc.dma ⟨83, by decide⟩) 0
    ∗ semVal ((c : Thread nD τ), SemLoc.dma ⟨84, by decide⟩) 0)
/-- Its scratch buffers, the landing buffers last. -/
def scr (c : Dev nD) : sProp 𝕄 :=
  iprop((∃ f, pt (F := F) c cc0_scratch0 f)
    ∗ (∃ f, pt (F := F) c cc0_scratch1 f)
    ∗ (∃ f, pt (F := F) c cc0_scratch2 f)
    ∗ (∃ f, pt (F := F) c cc0_scratch3 f)
    ∗ (∃ f, pt (F := F) c cc0_scratch4 f)
    ∗ (∃ f, pt (F := F) c cc0_scratch5 f)
    ∗ (∃ f, pt (F := F) c cc0_scratch6 f)
    ∗ (∃ f, pt (F := F) c cc0_scratch7 f)
    ∗ (∃ f, pt (F := F) c cc0_scratch8 f)
    ∗ (∃ f, pt (F := F) c cc0_scratch9 f)
    ∗ (∃ f, pt (F := F) c cc0_scratch10 f)
    ∗ (∃ f, pt (F := F) c cc0_scratch11 f)
    ∗ (∃ f, pt (F := F) c cc0_scratch12 f)
    ∗ (∃ f, pt (F := F) c cc0_scratch13 f)
    ∗ (∃ f, pt (F := F) c cc0_scratch14 f)
    ∗ (∃ f, pt (F := F) c cc0_scratch15 f)
    ∗ (∃ f, pt (F := F) c cc0_scratch16 f)
    ∗ (∃ f, pt (F := F) c cc0_scratch17 f)
    ∗ (∃ f, pt (F := F) c cc0_scratch18 f)
    ∗ (∃ f, pt (F := F) c cc0_scratch19 f)
    ∗ (∃ f, pt (F := F) c cc0_scratch20 f)
    ∗ (∃ f, pt (F := F) c cc0_scratch21 f)
    ∗ (∃ f, pt (F := F) c cc0_scratch22 f)
    ∗ (∃ f, pt (F := F) c cc0_scratch23 f)
    ∗ (∃ f, pt (F := F) c cc0_scratch24 f)
    ∗ (∃ f, pt (F := F) c cc0_scratch25 f)
    ∗ (∃ f, pt (F := F) c cc0_scratch26 f)
    ∗ landX c
    ∗ landY c)
/-- Every counter of the kernel's own at zero. -/
def zeros (c : Dev nD) : sProp 𝕄 :=
  iprop(semVal ((c : Thread nD τ), SemLoc.dma ⟨2, by decide⟩) 0
    ∗ semVal ((c : Thread nD τ), SemLoc.dma ⟨3, by decide⟩) 0
    ∗ semVal ((c : Thread nD τ), SemLoc.dma ⟨4, by decide⟩) 0
    ∗ semVal ((c : Thread nD τ), SemLoc.dma ⟨5, by decide⟩) 0
    ∗ semVal ((c : Thread nD τ), SemLoc.dma ⟨6, by decide⟩) 0
    ∗ semVal ((c : Thread nD τ), SemLoc.dma ⟨7, by decide⟩) 0
    ∗ semVal ((c : Thread nD τ), SemLoc.dma ⟨8, by decide⟩) 0
    ∗ semVal ((c : Thread nD τ), SemLoc.dma ⟨9, by decide⟩) 0
    ∗ semVal ((c : Thread nD τ), SemLoc.dma ⟨10, by decide⟩) 0
    ∗ semVal ((c : Thread nD τ), SemLoc.dma ⟨11, by decide⟩) 0
    ∗ semVal ((c : Thread nD τ), SemLoc.dma ⟨12, by decide⟩) 0
    ∗ semVal ((c : Thread nD τ), SemLoc.dma ⟨13, by decide⟩) 0
    ∗ semVal ((c : Thread nD τ), SemLoc.dma ⟨14, by decide⟩) 0
    ∗ semVal ((c : Thread nD τ), SemLoc.dma ⟨15, by decide⟩) 0
    ∗ semVal ((c : Thread nD τ), SemLoc.dma ⟨16, by decide⟩) 0
    ∗ semVal ((c : Thread nD τ), SemLoc.dma ⟨17, by decide⟩) 0
    ∗ semVal ((c : Thread nD τ), SemLoc.dma ⟨18, by decide⟩) 0
    ∗ semVal ((c : Thread nD τ), SemLoc.dma ⟨19, by decide⟩) 0
    ∗ semVal ((c : Thread nD τ), SemLoc.dma ⟨20, by decide⟩) 0
    ∗ semVal ((c : Thread nD τ), SemLoc.dma ⟨21, by decide⟩) 0
    ∗ semVal ((c : Thread nD τ), SemLoc.dma ⟨22, by decide⟩) 0
    ∗ semVal ((c : Thread nD τ), SemLoc.dma ⟨23, by decide⟩) 0
    ∗ semVal ((c : Thread nD τ), SemLoc.dma ⟨24, by decide⟩) 0
    ∗ semVal ((c : Thread nD τ), SemLoc.dma ⟨25, by decide⟩) 0
    ∗ semVal ((c : Thread nD τ), SemLoc.dma ⟨26, by decide⟩) 0
    ∗ semVal ((c : Thread nD τ), SemLoc.dma ⟨27, by decide⟩) 0
    ∗ semVal ((c : Thread nD τ), SemLoc.dma ⟨28, by decide⟩) 0
    ∗ semVal ((c : Thread nD τ), SemLoc.dma ⟨29, by decide⟩) 0
    ∗ semVal ((c : Thread nD τ), SemLoc.dma ⟨30, by decide⟩) 0
    ∗ semVal ((c : Thread nD τ), SemLoc.dma ⟨31, by decide⟩) 0
    ∗ semVal ((c : Thread nD τ), SemLoc.dma ⟨32, by decide⟩) 0
    ∗ semVal ((c : Thread nD τ), SemLoc.dma ⟨33, by decide⟩) 0
    ∗ semVal ((c : Thread nD τ), SemLoc.dma ⟨34, by decide⟩) 0
    ∗ semVal ((c : Thread nD τ), SemLoc.dma ⟨35, by decide⟩) 0
    ∗ semVal ((c : Thread nD τ), SemLoc.dma ⟨36, by decide⟩) 0
    ∗ semVal (sendCell c 0) 0
    ∗ semVal (sendCell c 1) 0
    ∗ semVal (sendCell c 2) 0
    ∗ semVal (sendCell c 3) 0
    ∗ semVal (sendCell c 4) 0
    ∗ semVal (sendCell c 5) 0
    ∗ semVal (sendCell c 6) 0
    ∗ semVal (sendCell c 7) 0
    ∗ semVal (sendCell c 8) 0
    ∗ semVal (sendCell c 9) 0
    ∗ semVal (sendCell c 10) 0
    ∗ semVal (sendCell c 11) 0
    ∗ semVal (sendCell c 12) 0
    ∗ semVal (sendCell c 13) 0
    ∗ semVal (sendCell c 14) 0
    ∗ semVal (sendCell c 15) 0
    ∗ semVal (recvCell c 0) 0
    ∗ semVal (recvCell c 1) 0
    ∗ semVal (recvCell c 2) 0
    ∗ semVal (recvCell c 3) 0
    ∗ semVal (recvCell c 4) 0
    ∗ semVal (recvCell c 5) 0
    ∗ semVal (recvCell c 6) 0
    ∗ semVal (recvCell c 7) 0
    ∗ semVal (recvCell c 8) 0
    ∗ semVal (recvCell c 9) 0
    ∗ semVal (recvCell c 10) 0
    ∗ semVal (recvCell c 11) 0
    ∗ semVal (recvCell c 12) 0
    ∗ semVal (recvCell c 13) 0
    ∗ semVal (recvCell c 14) 0
    ∗ semVal (recvCell c 15) 0
    ∗ semVal ((c : Thread nD τ), SemLoc.dma ⟨69, by decide⟩) 0
    ∗ semVal ((c : Thread nD τ), SemLoc.dma ⟨70, by decide⟩) 0
    ∗ semVal ((c : Thread nD τ), SemLoc.dma ⟨71, by decide⟩) 0
    ∗ semVal ((c : Thread nD τ), SemLoc.dma ⟨72, by decide⟩) 0
    ∗ semVal ((c : Thread nD τ), SemLoc.dma ⟨73, by decide⟩) 0
    ∗ semVal ((c : Thread nD τ), SemLoc.dma ⟨74, by decide⟩) 0
    ∗ semVal ((c : Thread nD τ), SemLoc.dma ⟨75, by decide⟩) 0
    ∗ semVal ((c : Thread nD τ), SemLoc.dma ⟨76, by decide⟩) 0
    ∗ semVal ((c : Thread nD τ), SemLoc.dma ⟨77, by decide⟩) 0
    ∗ semVal ((c : Thread nD τ), SemLoc.dma ⟨78, by decide⟩) 0
    ∗ semVal ((c : Thread nD τ), SemLoc.dma ⟨79, by decide⟩) 0
    ∗ semVal ((c : Thread nD τ), SemLoc.dma ⟨80, by decide⟩) 0
    ∗ semVal ((c : Thread nD τ), SemLoc.dma ⟨81, by decide⟩) 0
    ∗ semVal ((c : Thread nD τ), SemLoc.dma ⟨82, by decide⟩) 0
    ∗ semVal ((c : Thread nD τ), SemLoc.dma ⟨83, by decide⟩) 0
    ∗ semVal ((c : Thread nD τ), SemLoc.dma ⟨84, by decide⟩) 0)
/-- Every scratch buffer, at some contents. -/
def scrAll (c : Dev nD) : sProp 𝕄 :=
  iprop((∃ f, pt (F := F) c cc0_scratch0 f)
    ∗ (∃ f, pt (F := F) c cc0_scratch1 f)
    ∗ (∃ f, pt (F := F) c cc0_scratch2 f)
    ∗ (∃ f, pt (F := F) c cc0_scratch3 f)
    ∗ (∃ f, pt (F := F) c cc0_scratch4 f)
    ∗ (∃ f, pt (F := F) c cc0_scratch5 f)
    ∗ (∃ f, pt (F := F) c cc0_scratch6 f)
    ∗ (∃ f, pt (F := F) c cc0_scratch7 f)
    ∗ (∃ f, pt (F := F) c cc0_scratch8 f)
    ∗ (∃ f, pt (F := F) c cc0_scratch9 f)
    ∗ (∃ f, pt (F := F) c cc0_scratch10 f)
    ∗ (∃ f, pt (F := F) c cc0_scratch11 f)
    ∗ (∃ f, pt (F := F) c cc0_scratch12 f)
    ∗ (∃ f, pt (F := F) c cc0_scratch13 f)
    ∗ (∃ f, pt (F := F) c cc0_scratch14 f)
    ∗ (∃ f, pt (F := F) c cc0_scratch15 f)
    ∗ (∃ f, pt (F := F) c cc0_scratch16 f)
    ∗ (∃ f, pt (F := F) c cc0_scratch17 f)
    ∗ (∃ f, pt (F := F) c cc0_scratch18 f)
    ∗ (∃ f, pt (F := F) c cc0_scratch19 f)
    ∗ (∃ f, pt (F := F) c cc0_scratch20 f)
    ∗ (∃ f, pt (F := F) c cc0_scratch21 f)
    ∗ (∃ f, pt (F := F) c cc0_scratch22 f)
    ∗ (∃ f, pt (F := F) c cc0_scratch23 f)
    ∗ (∃ f, pt (F := F) c cc0_scratch24 f)
    ∗ (∃ f, pt (F := F) c cc0_scratch25 f)
    ∗ (∃ f, pt (F := F) c cc0_scratch26 f)
    ∗ (∃ f, pt (F := F) c cc0_scratch27 f)
    ∗ (∃ f, pt (F := F) c cc0_scratch28 f)
    ∗ (∃ f, pt (F := F) c cc0_scratch29 f)
    ∗ (∃ f, pt (F := F) c cc0_scratch30 f)
    ∗ (∃ f, pt (F := F) c cc0_scratch31 f)
    ∗ (∃ f, pt (F := F) c cc0_scratch32 f)
    ∗ (∃ f, pt (F := F) c cc0_scratch33 f)
    ∗ (∃ f, pt (F := F) c cc0_scratch34 f)
    ∗ (∃ f, pt (F := F) c cc0_scratch35 f)
    ∗ (∃ f, pt (F := F) c cc0_scratch36 f)
    ∗ (∃ f, pt (F := F) c cc0_scratch37 f)
    ∗ (∃ f, pt (F := F) c cc0_scratch38 f)
    ∗ (∃ f, pt (F := F) c cc0_scratch39 f)
    ∗ (∃ f, pt (F := F) c cc0_scratch40 f)
    ∗ (∃ f, pt (F := F) c cc0_scratch41 f)
    ∗ (∃ f, pt (F := F) c cc0_scratch42 f))
/-- The ghost state device `c` starts from. -/
def ghost (c : Dev nD) : sProp 𝕄 := iprop(invs C K c ∗ marks c ∗ payToks c ∗ poss c)

/-- What the body leaves: every counter at zero, its buffers back, nothing owed, its arrays as they were and the result's at `out`. -/
def leaves (c : Dev nD) (x : Buf (Elt F) ((c : Thread nD τ).loc cc0_stg0_0)) (wq : Buf (Elt F) ((c : Thread nD τ).loc cc0_stg1_0))
    (kk : Buf (Elt F) ((c : Thread nD τ).loc main_arg2)) (vv : Buf (Elt F) ((c : Thread nD τ).loc main_arg3))
    (wo : Buf (Elt F) ((c : Thread nD τ).loc main_arg4)) (out : Buf (Elt F) ((c : Thread nD τ).loc main_v1)) : sProp 𝕄 :=
  iprop(zeros c ∗ semVal (barCell c) 0 ∗ scrAll c ∗ (∃ W, owes (c : Thread nD τ) 0 W)
    ∗ pt c cc0_stg0_0 x ∗ pt c cc0_stg1_0 wq ∗ pt c main_arg2 kk ∗ pt c main_arg3 vv ∗ pt c main_arg4 wo ∗ pt c main_v1 out)

end Cert.KernelIdeal.Exchange

end
-- ==== Proof.Values.lean ====
module
public import proofs.«01_k».proof.Proof.Exchange
public import proofs.«01_k».proof.Proof.Gen.KernelIdeal.Skeleton
public import Idealize.ShloMosaic.Lib.ValueIdx
public import Idealize.ShloMosaic.Lib.WritesUnit
public import Idealize.ShloMosaic.Lib.VecWindow
@[expose] public section
/-! The values which the kernel computes on one device and carries to its peers, and how the pieces written into its
buffers make them up. -/
noncomputable section
namespace Cert.KernelIdeal.Values
open Cert.KernelIdeal Cert.KernelIdeal.Gen
open Idealize.ShloMosaic
open Idealize.ShloMosaic.TcCoe
open Idealize.SL Idealize.SL.RA Idealize.SL.BI
open scoped Idealize.SL.BI
open Idealize.SL.BI.BIBase
open Cert.KernelIdeal.Exchange
open Idealize.ShloMosaic.ValueIdx
variable {F : FTy → Type} [FloatOps F]
local notation "𝕄" => MT nD τ sig Unit (Elt F) ℕ UU ℕ

/-! ## Values -/

/-- The weights `exp (q · k)` of one head, whose columns begin at `o`. -/
def expw (o : ℕ) (ho : S256x1024.Slices ![0, o] S256x128) (Q K : FVec F S256x1024 .bf16) : FVec F S256x256 .f32 :=
  exp (matmul dot_S256x128_S256x128_S256x256_1_1_0_0_n_n none (extractStridedSlice S256x128 ![0, o] Q ho)
    (extractStridedSlice S256x128 ![0, o] K ho) (constant S256x256 .f32 0x00000000#32))
/-- The sums of one head's weights over the keys. -/
def rowSum (o : ℕ) (ho : S256x1024.Slices ![0, o] S256x128) (Q K : FVec F S256x1024 .bf16) : FVec F S256 .f32 :=
  multiReduction .add [1] S256 (expw o ho Q K) 0x00000000#32 reduces_S256x256_S256 (.inl rfl) rfl
/-- One head's weighted sum of values. -/
def headBlk (o : ℕ) (ho : S256x1024.Slices ![0, o] S256x128) (Q K V : FVec F S256x1024 .bf16) : FVec F S256x128 .bf16 :=
  shapeCast S256x128 (truncf .bf16 (matmul dot_S256x256_S256x128_S256x128_1_0_0_1_n_n none
    (truncf .bf16 (expw o ho Q K) bitsLt_bf16_f32) (extractStridedSlice S256x128 ![0, o] V ho)
    (constant S256x128 .f32 0x00000000#32)) bitsLt_bf16_f32) shapeCasts_S256x128_S256x128
/-- Eight blocks of 128 columns side by side. -/
def cols (p : Fin 8 → FVec F S256x128 .bf16) : Vec F S256x1024 .bf16 := fun i =>
  p ⟨(i 1).val / 128, Nat.div_lt_of_lt_mul (show (i 1).val < 128 * 8 from (i 1).isLt)⟩
    (ix2 (⟨(i 0).val, (i 0).isLt⟩ : Fin 256) (⟨(i 1).val % 128, Nat.mod_lt _ (by decide)⟩ : Fin 128))
/-- The weighted sums of all eight heads of one group of rows. -/
def ctxOf (Q K V : FVec F S256x1024 .bf16) : Vec F S256x1024 .bf16 :=
  cols ![headBlk 0 slices_S256x1024_o0_0_S256x128 Q K V, headBlk 128 slices_S256x1024_o0_128_S256x128 Q K V, headBlk 256 slices_S256x1024_o0_256_S256x128 Q K V, headBlk 384 slices_S256x1024_o0_384_S256x128 Q K V, headBlk 512 slices_S256x1024_o0_512_S256x128 Q K V, headBlk 640 slices_S256x1024_o0_640_S256x128 Q K V, headBlk 768 slices_S256x1024_o0_768_S256x128 Q K V, headBlk 896 slices_S256x1024_o0_896_S256x128 Q K V]
/-- The sums of weights of all eight heads of one group of rows. -/
def lOf (Q K : FVec F S256x1024 .bf16) : Vec F S8x256 .f32 :=
  shapeCast S8x256 (concatenate S8x256 0 [⟨S1x256, shapeCast S1x256 (rowSum 0 slices_S256x1024_o0_0_S256x128 Q K) shapeCasts_S256_S1x256⟩, ⟨S1x256, shapeCast S1x256 (rowSum 128 slices_S256x1024_o0_128_S256x128 Q K) shapeCasts_S256_S1x256⟩, ⟨S1x256, shapeCast S1x256 (rowSum 256 slices_S256x1024_o0_256_S256x128 Q K) shapeCasts_S256_S1x256⟩, ⟨S1x256, shapeCast S1x256 (rowSum 384 slices_S256x1024_o0_384_S256x128 Q K) shapeCasts_S256_S1x256⟩, ⟨S1x256, shapeCast S1x256 (rowSum 512 slices_S256x1024_o0_512_S256x128 Q K) shapeCasts_S256_S1x256⟩, ⟨S1x256, shapeCast S1x256 (rowSum 640 slices_S256x1024_o0_640_S256x128 Q K) shapeCasts_S256_S1x256⟩, ⟨S1x256, shapeCast S1x256 (rowSum 768 slices_S256x1024_o0_768_S256x128 Q K) shapeCasts_S256_S1x256⟩, ⟨S1x256, shapeCast S1x256 (rowSum 896 slices_S256x1024_o0_896_S256x128 Q K) shapeCasts_S256_S1x256⟩] concatenates_S1x256_S1x256_S1x256_S1x256_S1x256_S1x256_S1x256_S1x256_S8x256_d0) shapeCasts_S8x256_S8x256
/-- The sum of two weighted sums. -/
def addC (a b : Vec F S256x1024 .bf16) : Vec F S256x1024 .bf16 :=
  shapeCast S256x1024 (truncf .bf16 (addf (extf .f32 a bitsLt_bf16_f32) (extf .f32 b bitsLt_bf16_f32)) bitsLt_bf16_f32)
    shapeCasts_S256x1024_S256x1024
/-- The sum of two sums of weights. -/
def addL (a b : Vec F S8x256 .f32) : Vec F S8x256 .f32 := shapeCast S8x256 (addf a b) shapeCasts_S8x256_S8x256
/-- The output rows of one group: the totals divided, times the output weights. -/
def outOf (wo : Vec F S1024x1024 .f32) (a b : Vec F S256x1024 .bf16) (l l' : Vec F S8x256 .f32) : Vec F S256x1024 .f32 :=
  k0_pay156 (k0_pay155 wo) a b l l'

/-- Row `64 a + j` of group `q` is row `64 (4 a + q) + j` of the whole. -/
def rowAt (q : Fin 4) (r : Fin 256) : Fin 1024 :=
  ⟨64 * (4 * (r.val / 64) + q.val) + r.val % 64, by have := r.isLt; have := q.isLt; omega⟩
/-- The rows of block `a` of group `q` of the input. -/
def xRows (q a : Fin 4) (x : Vec F S1x1024x1024 .f32) : Vec F S1x64x1024 .f32 := fun i =>
  x (ix3 (0 : Fin 1) (⟨64 * (4 * a.val + q.val) + (i 1).val, by have := a.isLt; have := q.isLt; have : (i 1).val < 64 := (i 1).isLt; omega⟩ : Fin 1024) (⟨(i 2).val, (i 2).isLt⟩ : Fin 1024))
/-- The scaled queries of group `q`. -/
def qG (q : Fin 4) (x : Vec F S1x1024x1024 .f32) (wq : Vec F S1024x1024 .f32) : FVec F S256x1024 .bf16 :=
  k0_pay2 wq (xRows q 0 x) (xRows q 1 x) (xRows q 2 x) (xRows q 3 x)
/-- The keys or values of group `q`. -/
def grp (q : Fin 4) (kk : Vec F S1x1024x8x128 .f32) : Vec F S256x8x128 .f32 := fun i =>
  kk (ix4 (0 : Fin 1) (rowAt q ⟨(i 0).val, (i 0).isLt⟩) (⟨(i 1).val, (i 1).isLt⟩ : Fin 8) (⟨(i 2).val, (i 2).isLt⟩ : Fin 128))
/-- The keys of group `q`, one row per key. -/
def kG (q : Fin 4) (kk : Vec F S1x1024x8x128 .f32) : FVec F S256x1024 .bf16 := k0_pay3 (grp q kk)
/-- The values of group `q`, one row per key. -/
def vG (q : Fin 4) (vv : Vec F S1x1024x8x128 .f32) : FVec F S256x1024 .bf16 := k0_pay4 (grp q vv)

/-! ## The pieces of a buffer -/

omit [FloatOps F] in
/-- A load of the rows of one block of the input. -/
theorem xRows_read (q a : Fin 4) (o : ℕ) (ho : o = 64 * (4 * a.val + q.val)) (inb) (x : Vec F S1x1024x1024 .f32) :
    View.readAt (Elt F) (Memref.whole cc0_stg0_0).view (Rect.unit (s := S1x1024x1024) ![0, o, 0] S1x64x1024.size inb).toLoadRect x = xRows q a x := by
  subst ho
  funext i
  refine congrArg x (funext fun d => Fin.ext ?_)
  match d with
  | ⟨0, _⟩ => show 0 + 1 * (i 0).val = 0; have : (i 0).val < 1 := (i 0).isLt; omega
  | ⟨1, _⟩ => show _ + 1 * (i 1).val = _; rw [Nat.one_mul]; rfl
  | ⟨2, _⟩ => show 0 + 1 * (i 2).val = _; exact (Nat.zero_add _).trans (Nat.one_mul _)
omit [FloatOps F] in
/-- A load of all of the query weights. -/
theorem wq_read (inb) (wq : Vec F S1024x1024 .f32) :
    View.readAt (Elt F) (Memref.whole cc0_stg1_0).view (Rect.unit (s := S1024x1024) ![0, 0] S1024x1024.size inb).toLoadRect wq = wq := by
  funext i
  refine congrArg wq (funext fun d => Fin.ext ?_)
  match d with
  | ⟨0, _⟩ => show 0 + 1 * (i 0).val = _; exact (Nat.zero_add _).trans (Nat.one_mul _)
  | ⟨1, _⟩ => show 0 + 1 * (i 1).val = _; exact (Nat.zero_add _).trans (Nat.one_mul _)
omit [FloatOps F] in
/-- A copy of 64 rows of the keys or values carries those rows. -/
theorem rows_read {sp : Space} (M : Memref sig .tc sp S1x1024x8x128 .f32) (o : ℕ) (inb) (hr) (hq : S1x64x8x128.Squeezes S64x8x128) (kk : M.view.ty.Contents (Elt F)) (j : S64x8x128.Idx) (y : S1x1024x8x128.Idx)
    (h0 : (y 0).val = 0) (h1 : (y 1).val = o + (j 0).val) (h2 : (y 2).val = (j 1).val) (h3 : (y 3).val = (j 2).val) :
    View.read (Elt F) ((M.slice (Rect.unit (s := S1x1024x8x128) ![0, o, 0, 0] S1x64x8x128.size inb) hr).squeeze S64x8x128 hq).view kk j = M.view.read (Elt F) kk y := by
  have e : View.read (Elt F) ((M.slice (Rect.unit (s := S1x1024x8x128) ![0, o, 0, 0] S1x64x8x128.size inb) hr).squeeze S64x8x128 hq).view kk j
      = M.view.read (Elt F) kk ((Rect.unit (s := S1x1024x8x128) ![0, o, 0, 0] S1x64x8x128.size inb).emb (Shape.reshapeEquiv hq.numel_eq j)) := rfl
  rw [e, Shape.reshapeEquiv_cons_one]
  congr 1
  funext d
  apply Fin.ext
  rw [Rect.emb_apply]
  match d with
  | ⟨0, _⟩ => show 0 + 1 * 0 = (y 0).val; omega
  | ⟨1, _⟩ => show o + 1 * (j 0).val = (y 1).val; omega
  | ⟨2, _⟩ => show 0 + 1 * (j 1).val = (y 2).val; omega
  | ⟨3, _⟩ => show 0 + 1 * (j 2).val = (y 3).val; omega

/-- The whole of a buffer made up of four blocks of 64 rows reads the function which the blocks are pieces of. -/
theorem rows_cov {sp : Space} (v : View sig .tc sp S256x8x128 .f32) (G : Vec F S256x8x128 .f32) (p0 p1 p2 p3 : S64x8x128.Idx → Elt F .f32) (i0 i1 i2 i3 inb)
    (h0 : ∀ j : S64x8x128.Idx, p0 j = G (ix3 (⟨0 + (j 0).val, by have : (j 0).val < 64 := (j 0).isLt; omega⟩ : Fin 256) (⟨(j 1).val, (j 1).isLt⟩ : Fin 8) (⟨(j 2).val, (j 2).isLt⟩ : Fin 128)))
    (h1 : ∀ j : S64x8x128.Idx, p1 j = G (ix3 (⟨64 + (j 0).val, by have : (j 0).val < 64 := (j 0).isLt; omega⟩ : Fin 256) (⟨(j 1).val, (j 1).isLt⟩ : Fin 8) (⟨(j 2).val, (j 2).isLt⟩ : Fin 128)))
    (h2 : ∀ j : S64x8x128.Idx, p2 j = G (ix3 (⟨128 + (j 0).val, by have : (j 0).val < 64 := (j 0).isLt; omega⟩ : Fin 256) (⟨(j 1).val, (j 1).isLt⟩ : Fin 8) (⟨(j 2).val, (j 2).isLt⟩ : Fin 128)))
    (h3 : ∀ j : S64x8x128.Idx, p3 j = G (ix3 (⟨192 + (j 0).val, by have : (j 0).val < 64 := (j 0).isLt; omega⟩ : Fin 256) (⟨(j 1).val, (j 1).isLt⟩ : Fin 8) (⟨(j 2).val, (j 2).isLt⟩ : Fin 128))) :
    v.readCov [⟨Rect.unit ![192, 0, 0] S64x8x128.size i3, p3⟩, ⟨Rect.unit ![128, 0, 0] S64x8x128.size i2, p2⟩, ⟨Rect.unit ![64, 0, 0] S64x8x128.size i1, p1⟩, ⟨Rect.unit ![0, 0, 0] S64x8x128.size i0, p0⟩]
      (Rect.unit (s := S256x8x128) ![0, 0, 0] S256x8x128.size inb).toLoadRect = G := by
  funext i
  have hi : (Rect.unit (s := S256x8x128) ![0, 0, 0] S256x8x128.size inb).toLoadRect.idx i = i := by
    funext d
    apply Fin.ext
    match d with
    | ⟨0, _⟩ => show 0 + 1 * (i 0).val = _; exact (Nat.zero_add _).trans (Nat.one_mul _)
    | ⟨1, _⟩ => show 0 + 1 * (i 1).val = _; exact (Nat.zero_add _).trans (Nat.one_mul _)
    | ⟨2, _⟩ => show 0 + 1 * (i 2).val = _; exact (Nat.zero_add _).trans (Nat.one_mul _)
  have gen : ∀ (o : ℕ) (inb : ∀ a, (![o, 0, 0] : Fin 3 → ℕ) a + S64x8x128.size a ≤ S256x8x128.size a) (x : (Rect.unit (s := S256x8x128) ![o, 0, 0] S64x8x128.size inb).shape.Idx) (hlt : o + (x 0).val < 256),
      (Rect.unit (s := S256x8x128) ![o, 0, 0] S64x8x128.size inb).emb x = ix3 (⟨o + (x 0).val, hlt⟩ : Fin 256) (⟨(x 1).val, (x 1).isLt⟩ : Fin 8) (⟨(x 2).val, (x 2).isLt⟩ : Fin 128) := by
    intro o inb x hlt
    funext d
    apply Fin.ext
    rw [Rect.emb_apply]
    match d with
    | ⟨0, _⟩ => show o + 1 * (x 0).val = o + (x 0).val; omega
    | ⟨1, _⟩ => show 0 + 1 * (x 1).val = (x 1).val; omega
    | ⟨2, _⟩ => show 0 + 1 * (x 2).val = (x 2).val; omega
  show v.read (Elt F) _ ((Rect.unit (s := S256x8x128) ![0, 0, 0] S256x8x128.size inb).toLoadRect.idx i) = G i
  rw [hi]
  refine View.read_writes_apply_of_pieces v _ G _ ?_ i ?_
  · intro p hp x
    simp only [List.mem_cons, List.not_mem_nil, or_false] at hp
    rcases hp with rfl | rfl | rfl | rfl
    · exact (h3 x).trans (congrArg G (gen 192 i3 x _).symm)
    · exact (h2 x).trans (congrArg G (gen 128 i2 x _).symm)
    · exact (h1 x).trans (congrArg G (gen 64 i1 x _).symm)
    · exact (h0 x).trans (congrArg G (gen 0 i0 x _).symm)
  · have hl0 : (i 0).val < 256 := (i 0).isLt
    have hl1 : (i 1).val < 8 := (i 1).isLt
    have hl2 : (i 2).val < 128 := (i 2).isLt
    have mem : ∀ (o : ℕ) (inb : ∀ a, (![o, 0, 0] : Fin 3 → ℕ) a + S64x8x128.size a ≤ S256x8x128.size a), o ≤ (i 0).val → (i 0).val < o + 64 → i ∈ (Rect.unit (s := S256x8x128) ![o, 0, 0] S64x8x128.size inb).set := by
      intro o inb ha hb
      rw [Rect.mem_set_unit]
      intro d
      match d with
      | ⟨0, _⟩ => exact ⟨ha, hb⟩
      | ⟨1, _⟩ => exact ⟨Nat.zero_le _, by show (i 1).val < 0 + 8; omega⟩
      | ⟨2, _⟩ => exact ⟨Nat.zero_le _, by show (i 2).val < 0 + 128; omega⟩
    simp only [List.mem_cons, List.not_mem_nil, or_false, exists_eq_or_imp, exists_eq_left]
    rcases Nat.lt_or_ge (i 0).val 64 with h | h
    · exact Or.inr (Or.inr (Or.inr (mem 0 i0 (Nat.zero_le _) (by omega))))
    · rcases Nat.lt_or_ge (i 0).val 128 with h' | h'
      · exact Or.inr (Or.inr (Or.inl (mem 64 i1 h (by omega))))
      · rcases Nat.lt_or_ge (i 0).val 192 with h'' | h''
        · exact Or.inr (Or.inl (mem 128 i2 h' (by omega)))
        · exact Or.inl (mem 192 i3 h'' (by omega))

/-- Eight blocks of 128 columns written side by side make up the whole, whatever was there before. -/
theorem cols_read {sp : Space} (v : View sig .tc sp S256x1024 .bf16) (f : v.ty.Contents (Elt F)) (p : Fin 8 → FVec F S256x128 .bf16) (i0 i1 i2 i3 i4 i5 i6 i7) :
    v.read (Elt F) (v.writes (Elt F) f [⟨Rect.unit ![0, 896] S256x128.size i7, p 7⟩, ⟨Rect.unit ![0, 768] S256x128.size i6, p 6⟩, ⟨Rect.unit ![0, 640] S256x128.size i5, p 5⟩, ⟨Rect.unit ![0, 512] S256x128.size i4, p 4⟩, ⟨Rect.unit ![0, 384] S256x128.size i3, p 3⟩, ⟨Rect.unit ![0, 256] S256x128.size i2, p 2⟩, ⟨Rect.unit ![0, 128] S256x128.size i1, p 1⟩, ⟨Rect.unit ![0, 0] S256x128.size i0, p 0⟩]) = cols p := by
  funext i
  have piece : ∀ (h : Fin 8) (o : ℕ) (inb : ∀ a, (![0, o] : Fin 2 → ℕ) a + S256x128.size a ≤ S256x1024.size a), o = 128 * h.val → ∀ x : (Rect.unit (s := S256x1024) ![0, o] S256x128.size inb).shape.Idx,
      p h x = cols p ((Rect.unit (s := S256x1024) ![0, o] S256x128.size inb).emb x) := by
    intro h o inb ho x
    have hx1 : (x 1).val < 128 := (x 1).isLt
    have hx0 : (x 0).val < 256 := (x 0).isLt
    have e1 : (((Rect.unit (s := S256x1024) ![0, o] S256x128.size inb).emb x) 1).val = o + (x 1).val := by
      rw [Rect.emb_apply]; show o + 1 * (x 1).val = _; omega
    have e0 : (((Rect.unit (s := S256x1024) ![0, o] S256x128.size inb).emb x) 0).val = (x 0).val := by
      rw [Rect.emb_apply]; show 0 + 1 * (x 0).val = _; omega
    unfold cols
    have a1 : (⟨(((Rect.unit (s := S256x1024) ![0, o] S256x128.size inb).emb x) 1).val / 128, Nat.div_lt_of_lt_mul (show _ < 128 * 8 from (((Rect.unit (s := S256x1024) ![0, o] S256x128.size inb).emb x) 1).isLt)⟩ : Fin 8) = h :=
      Fin.ext (by show _ / 128 = h.val; rw [e1]; omega)
    rw [a1]
    refine congrArg (p h) (funext fun d => Fin.ext ?_)
    match d with
    | ⟨0, _⟩ => exact e0.symm
    | ⟨1, _⟩ => show (x 1).val = _ % 128; rw [e1]; omega
  refine View.read_writes_apply_of_pieces v _ (cols p) _ ?_ i ?_
  · intro q hq x
    simp only [List.mem_cons, List.not_mem_nil, or_false] at hq
    rcases hq with rfl | rfl | rfl | rfl | rfl | rfl | rfl | rfl
    · exact piece 7 896 i7 rfl x
    · exact piece 6 768 i6 rfl x
    · exact piece 5 640 i5 rfl x
    · exact piece 4 512 i4 rfl x
    · exact piece 3 384 i3 rfl x
    · exact piece 2 256 i2 rfl x
    · exact piece 1 128 i1 rfl x
    · exact piece 0 0 i0 rfl x
  · have hl0 : (i 0).val < 256 := (i 0).isLt
    have hl1 : (i 1).val < 1024 := (i 1).isLt
    have mem : ∀ (o : ℕ) (inb : ∀ a, (![0, o] : Fin 2 → ℕ) a + S256x128.size a ≤ S256x1024.size a), o ≤ (i 1).val ∧ (i 1).val < o + 128 → i ∈ (Rect.unit (s := S256x1024) ![0, o] S256x128.size inb).set := by
      intro o inb ha
      rw [Rect.mem_set_unit]
      intro d
      match d with
      | ⟨0, _⟩ => exact ⟨Nat.zero_le _, by show (i 0).val < 0 + 256; omega⟩
      | ⟨1, _⟩ => exact ha
    simp only [List.mem_cons, List.not_mem_nil, or_false, exists_eq_or_imp, exists_eq_left]
    have hc : (896 ≤ (i 1).val ∧ (i 1).val < 896 + 128) ∨ (768 ≤ (i 1).val ∧ (i 1).val < 768 + 128) ∨ (640 ≤ (i 1).val ∧ (i 1).val < 640 + 128) ∨ (512 ≤ (i 1).val ∧ (i 1).val < 512 + 128)
        ∨ (384 ≤ (i 1).val ∧ (i 1).val < 384 + 128) ∨ (256 ≤ (i 1).val ∧ (i 1).val < 256 + 128) ∨ (128 ≤ (i 1).val ∧ (i 1).val < 128 + 128) ∨ (0 ≤ (i 1).val ∧ (i 1).val < 0 + 128) := by omega
    exact hc.imp (mem _ i7) (Or.imp (mem _ i6) (Or.imp (mem _ i5) (Or.imp (mem _ i4) (Or.imp (mem _ i3) (Or.imp (mem _ i2) (Or.imp (mem _ i1) (mem _ i0)))))))
theorem made_ctx0 (c : Dev nD) (f : Buf (Elt F) ((c : Thread nD τ).loc cc0_scratch11)) (Q K V : FVec F S256x1024 .bf16) :
    (((View.loc (c : Thread nD τ) (Memref.whole cc0_scratch11).view) ↦{fullShare} ((Memref.whole cc0_scratch11).view.writes (Elt F) f [⟨Rect.unit ![0, 896] S256x128.size inb_S256x1024_S256x128_0_896, headBlk 896 slices_S256x1024_o0_896_S256x128 Q K V⟩, ⟨Rect.unit ![0, 768] S256x128.size inb_S256x1024_S256x128_0_768, headBlk 768 slices_S256x1024_o0_768_S256x128 Q K V⟩, ⟨Rect.unit ![0, 640] S256x128.size inb_S256x1024_S256x128_0_640, headBlk 640 slices_S256x1024_o0_640_S256x128 Q K V⟩, ⟨Rect.unit ![0, 512] S256x128.size inb_S256x1024_S256x128_0_512, headBlk 512 slices_S256x1024_o0_512_S256x128 Q K V⟩, ⟨Rect.unit ![0, 384] S256x128.size inb_S256x1024_S256x128_0_384, headBlk 384 slices_S256x1024_o0_384_S256x128 Q K V⟩, ⟨Rect.unit ![0, 256] S256x128.size inb_S256x1024_S256x128_0_256, headBlk 256 slices_S256x1024_o0_256_S256x128 Q K V⟩, ⟨Rect.unit ![0, 128] S256x128.size inb_S256x1024_S256x128_0_128, headBlk 128 slices_S256x1024_o0_128_S256x128 Q K V⟩, ⟨Rect.unit ![0, 0] S256x128.size inb_S256x1024_S256x128_0_0, headBlk 0 slices_S256x1024_o0_0_S256x128 Q K V⟩])) : sProp 𝕄)
      ⊢ ((View.loc (c : Thread nD τ) (Memref.whole cc0_scratch11).view) ↦{fullShare} ctxOf Q K V) := by
  exact Entails.of_eq (congrArg (fun g => (((View.loc (c : Thread nD τ) (Memref.whole cc0_scratch11).view) ↦{fullShare} g) : sProp 𝕄)) (cols_read (Memref.whole cc0_scratch11).view f ![headBlk 0 slices_S256x1024_o0_0_S256x128 Q K V, headBlk 128 slices_S256x1024_o0_128_S256x128 Q K V, headBlk 256 slices_S256x1024_o0_256_S256x128 Q K V, headBlk 384 slices_S256x1024_o0_384_S256x128 Q K V, headBlk 512 slices_S256x1024_o0_512_S256x128 Q K V, headBlk 640 slices_S256x1024_o0_640_S256x128 Q K V, headBlk 768 slices_S256x1024_o0_768_S256x128 Q K V, headBlk 896 slices_S256x1024_o0_896_S256x128 Q K V] _ _ _ _ _ _ _ _))
theorem made_ctx1 (c : Dev nD) (f : Buf (Elt F) ((c : Thread nD τ).loc cc0_scratch12)) (Q K V : FVec F S256x1024 .bf16) :
    (((View.loc (c : Thread nD τ) (Memref.whole cc0_scratch12).view) ↦{fullShare} ((Memref.whole cc0_scratch12).view.writes (Elt F) f [⟨Rect.unit ![0, 896] S256x128.size inb_S256x1024_S256x128_0_896, headBlk 896 slices_S256x1024_o0_896_S256x128 Q K V⟩, ⟨Rect.unit ![0, 768] S256x128.size inb_S256x1024_S256x128_0_768, headBlk 768 slices_S256x1024_o0_768_S256x128 Q K V⟩, ⟨Rect.unit ![0, 640] S256x128.size inb_S256x1024_S256x128_0_640, headBlk 640 slices_S256x1024_o0_640_S256x128 Q K V⟩, ⟨Rect.unit ![0, 512] S256x128.size inb_S256x1024_S256x128_0_512, headBlk 512 slices_S256x1024_o0_512_S256x128 Q K V⟩, ⟨Rect.unit ![0, 384] S256x128.size inb_S256x1024_S256x128_0_384, headBlk 384 slices_S256x1024_o0_384_S256x128 Q K V⟩, ⟨Rect.unit ![0, 256] S256x128.size inb_S256x1024_S256x128_0_256, headBlk 256 slices_S256x1024_o0_256_S256x128 Q K V⟩, ⟨Rect.unit ![0, 128] S256x128.size inb_S256x1024_S256x128_0_128, headBlk 128 slices_S256x1024_o0_128_S256x128 Q K V⟩, ⟨Rect.unit ![0, 0] S256x128.size inb_S256x1024_S256x128_0_0, headBlk 0 slices_S256x1024_o0_0_S256x128 Q K V⟩])) : sProp 𝕄)
      ⊢ ((View.loc (c : Thread nD τ) (Memref.whole cc0_scratch12).view) ↦{fullShare} ctxOf Q K V) := by
  exact Entails.of_eq (congrArg (fun g => (((View.loc (c : Thread nD τ) (Memref.whole cc0_scratch12).view) ↦{fullShare} g) : sProp 𝕄)) (cols_read (Memref.whole cc0_scratch12).view f ![headBlk 0 slices_S256x1024_o0_0_S256x128 Q K V, headBlk 128 slices_S256x1024_o0_128_S256x128 Q K V, headBlk 256 slices_S256x1024_o0_256_S256x128 Q K V, headBlk 384 slices_S256x1024_o0_384_S256x128 Q K V, headBlk 512 slices_S256x1024_o0_512_S256x128 Q K V, headBlk 640 slices_S256x1024_o0_640_S256x128 Q K V, headBlk 768 slices_S256x1024_o0_768_S256x128 Q K V, headBlk 896 slices_S256x1024_o0_896_S256x128 Q K V] _ _ _ _ _ _ _ _))
theorem made_ctx2 (c : Dev nD) (f : Buf (Elt F) ((c : Thread nD τ).loc cc0_scratch13)) (Q K V : FVec F S256x1024 .bf16) :
    (((View.loc (c : Thread nD τ) (Memref.whole cc0_scratch13).view) ↦{fullShare} ((Memref.whole cc0_scratch13).view.writes (Elt F) f [⟨Rect.unit ![0, 896] S256x128.size inb_S256x1024_S256x128_0_896, headBlk 896 slices_S256x1024_o0_896_S256x128 Q K V⟩, ⟨Rect.unit ![0, 768] S256x128.size inb_S256x1024_S256x128_0_768, headBlk 768 slices_S256x1024_o0_768_S256x128 Q K V⟩, ⟨Rect.unit ![0, 640] S256x128.size inb_S256x1024_S256x128_0_640, headBlk 640 slices_S256x1024_o0_640_S256x128 Q K V⟩, ⟨Rect.unit ![0, 512] S256x128.size inb_S256x1024_S256x128_0_512, headBlk 512 slices_S256x1024_o0_512_S256x128 Q K V⟩, ⟨Rect.unit ![0, 384] S256x128.size inb_S256x1024_S256x128_0_384, headBlk 384 slices_S256x1024_o0_384_S256x128 Q K V⟩, ⟨Rect.unit ![0, 256] S256x128.size inb_S256x1024_S256x128_0_256, headBlk 256 slices_S256x1024_o0_256_S256x128 Q K V⟩, ⟨Rect.unit ![0, 128] S256x128.size inb_S256x1024_S256x128_0_128, headBlk 128 slices_S256x1024_o0_128_S256x128 Q K V⟩, ⟨Rect.unit ![0, 0] S256x128.size inb_S256x1024_S256x128_0_0, headBlk 0 slices_S256x1024_o0_0_S256x128 Q K V⟩])) : sProp 𝕄)
      ⊢ ((View.loc (c : Thread nD τ) (Memref.whole cc0_scratch13).view) ↦{fullShare} ctxOf Q K V) := by
  exact Entails.of_eq (congrArg (fun g => (((View.loc (c : Thread nD τ) (Memref.whole cc0_scratch13).view) ↦{fullShare} g) : sProp 𝕄)) (cols_read (Memref.whole cc0_scratch13).view f ![headBlk 0 slices_S256x1024_o0_0_S256x128 Q K V, headBlk 128 slices_S256x1024_o0_128_S256x128 Q K V, headBlk 256 slices_S256x1024_o0_256_S256x128 Q K V, headBlk 384 slices_S256x1024_o0_384_S256x128 Q K V, headBlk 512 slices_S256x1024_o0_512_S256x128 Q K V, headBlk 640 slices_S256x1024_o0_640_S256x128 Q K V, headBlk 768 slices_S256x1024_o0_768_S256x128 Q K V, headBlk 896 slices_S256x1024_o0_896_S256x128 Q K V] _ _ _ _ _ _ _ _))
theorem made_ctx3 (c : Dev nD) (f : Buf (Elt F) ((c : Thread nD τ).loc cc0_scratch14)) (Q K V : FVec F S256x1024 .bf16) :
    (((View.loc (c : Thread nD τ) (Memref.whole cc0_scratch14).view) ↦{fullShare} ((Memref.whole cc0_scratch14).view.writes (Elt F) f [⟨Rect.unit ![0, 896] S256x128.size inb_S256x1024_S256x128_0_896, headBlk 896 slices_S256x1024_o0_896_S256x128 Q K V⟩, ⟨Rect.unit ![0, 768] S256x128.size inb_S256x1024_S256x128_0_768, headBlk 768 slices_S256x1024_o0_768_S256x128 Q K V⟩, ⟨Rect.unit ![0, 640] S256x128.size inb_S256x1024_S256x128_0_640, headBlk 640 slices_S256x1024_o0_640_S256x128 Q K V⟩, ⟨Rect.unit ![0, 512] S256x128.size inb_S256x1024_S256x128_0_512, headBlk 512 slices_S256x1024_o0_512_S256x128 Q K V⟩, ⟨Rect.unit ![0, 384] S256x128.size inb_S256x1024_S256x128_0_384, headBlk 384 slices_S256x1024_o0_384_S256x128 Q K V⟩, ⟨Rect.unit ![0, 256] S256x128.size inb_S256x1024_S256x128_0_256, headBlk 256 slices_S256x1024_o0_256_S256x128 Q K V⟩, ⟨Rect.unit ![0, 128] S256x128.size inb_S256x1024_S256x128_0_128, headBlk 128 slices_S256x1024_o0_128_S256x128 Q K V⟩, ⟨Rect.unit ![0, 0] S256x128.size inb_S256x1024_S256x128_0_0, headBlk 0 slices_S256x1024_o0_0_S256x128 Q K V⟩])) : sProp 𝕄)
      ⊢ ((View.loc (c : Thread nD τ) (Memref.whole cc0_scratch14).view) ↦{fullShare} ctxOf Q K V) := by
  exact Entails.of_eq (congrArg (fun g => (((View.loc (c : Thread nD τ) (Memref.whole cc0_scratch14).view) ↦{fullShare} g) : sProp 𝕄)) (cols_read (Memref.whole cc0_scratch14).view f ![headBlk 0 slices_S256x1024_o0_0_S256x128 Q K V, headBlk 128 slices_S256x1024_o0_128_S256x128 Q K V, headBlk 256 slices_S256x1024_o0_256_S256x128 Q K V, headBlk 384 slices_S256x1024_o0_384_S256x128 Q K V, headBlk 512 slices_S256x1024_o0_512_S256x128 Q K V, headBlk 640 slices_S256x1024_o0_640_S256x128 Q K V, headBlk 768 slices_S256x1024_o0_768_S256x128 Q K V, headBlk 896 slices_S256x1024_o0_896_S256x128 Q K V] _ _ _ _ _ _ _ _))
theorem sent_ctx0 (c : Dev nD) (f : Buf (Elt F) ((c : Thread nD τ).loc cc0_scratch11)) (Q K V : FVec F S256x1024 .bf16) (g : Vec F S256x1024 .bf16) (e : ctxOf Q K V = g) :
    (((View.loc (c : Thread nD τ) (Memref.whole cc0_scratch11).view) ↦{fullShare} ((Memref.whole cc0_scratch11).view.writes (Elt F) f [⟨Rect.unit ![0, 896] S256x128.size inb_S256x1024_S256x128_0_896, headBlk 896 slices_S256x1024_o0_896_S256x128 Q K V⟩, ⟨Rect.unit ![0, 768] S256x128.size inb_S256x1024_S256x128_0_768, headBlk 768 slices_S256x1024_o0_768_S256x128 Q K V⟩, ⟨Rect.unit ![0, 640] S256x128.size inb_S256x1024_S256x128_0_640, headBlk 640 slices_S256x1024_o0_640_S256x128 Q K V⟩, ⟨Rect.unit ![0, 512] S256x128.size inb_S256x1024_S256x128_0_512, headBlk 512 slices_S256x1024_o0_512_S256x128 Q K V⟩, ⟨Rect.unit ![0, 384] S256x128.size inb_S256x1024_S256x128_0_384, headBlk 384 slices_S256x1024_o0_384_S256x128 Q K V⟩, ⟨Rect.unit ![0, 256] S256x128.size inb_S256x1024_S256x128_0_256, headBlk 256 slices_S256x1024_o0_256_S256x128 Q K V⟩, ⟨Rect.unit ![0, 128] S256x128.size inb_S256x1024_S256x128_0_128, headBlk 128 slices_S256x1024_o0_128_S256x128 Q K V⟩, ⟨Rect.unit ![0, 0] S256x128.size inb_S256x1024_S256x128_0_0, headBlk 0 slices_S256x1024_o0_0_S256x128 Q K V⟩])) : sProp 𝕄)
      ⊢ ((View.loc (c : Thread nD τ) (Memref.whole cc0_scratch11).view) ↦{fullShare} g) := by
  subst e; exact made_ctx0 c f Q K V
theorem sent_ctx1 (c : Dev nD) (f : Buf (Elt F) ((c : Thread nD τ).loc cc0_scratch12)) (Q K V : FVec F S256x1024 .bf16) (g : Vec F S256x1024 .bf16) (e : ctxOf Q K V = g) :
    (((View.loc (c : Thread nD τ) (Memref.whole cc0_scratch12).view) ↦{fullShare} ((Memref.whole cc0_scratch12).view.writes (Elt F) f [⟨Rect.unit ![0, 896] S256x128.size inb_S256x1024_S256x128_0_896, headBlk 896 slices_S256x1024_o0_896_S256x128 Q K V⟩, ⟨Rect.unit ![0, 768] S256x128.size inb_S256x1024_S256x128_0_768, headBlk 768 slices_S256x1024_o0_768_S256x128 Q K V⟩, ⟨Rect.unit ![0, 640] S256x128.size inb_S256x1024_S256x128_0_640, headBlk 640 slices_S256x1024_o0_640_S256x128 Q K V⟩, ⟨Rect.unit ![0, 512] S256x128.size inb_S256x1024_S256x128_0_512, headBlk 512 slices_S256x1024_o0_512_S256x128 Q K V⟩, ⟨Rect.unit ![0, 384] S256x128.size inb_S256x1024_S256x128_0_384, headBlk 384 slices_S256x1024_o0_384_S256x128 Q K V⟩, ⟨Rect.unit ![0, 256] S256x128.size inb_S256x1024_S256x128_0_256, headBlk 256 slices_S256x1024_o0_256_S256x128 Q K V⟩, ⟨Rect.unit ![0, 128] S256x128.size inb_S256x1024_S256x128_0_128, headBlk 128 slices_S256x1024_o0_128_S256x128 Q K V⟩, ⟨Rect.unit ![0, 0] S256x128.size inb_S256x1024_S256x128_0_0, headBlk 0 slices_S256x1024_o0_0_S256x128 Q K V⟩])) : sProp 𝕄)
      ⊢ ((View.loc (c : Thread nD τ) (Memref.whole cc0_scratch12).view) ↦{fullShare} g) := by
  subst e; exact made_ctx1 c f Q K V
theorem sent_ctx2 (c : Dev nD) (f : Buf (Elt F) ((c : Thread nD τ).loc cc0_scratch13)) (Q K V : FVec F S256x1024 .bf16) (g : Vec F S256x1024 .bf16) (e : ctxOf Q K V = g) :
    (((View.loc (c : Thread nD τ) (Memref.whole cc0_scratch13).view) ↦{fullShare} ((Memref.whole cc0_scratch13).view.writes (Elt F) f [⟨Rect.unit ![0, 896] S256x128.size inb_S256x1024_S256x128_0_896, headBlk 896 slices_S256x1024_o0_896_S256x128 Q K V⟩, ⟨Rect.unit ![0, 768] S256x128.size inb_S256x1024_S256x128_0_768, headBlk 768 slices_S256x1024_o0_768_S256x128 Q K V⟩, ⟨Rect.unit ![0, 640] S256x128.size inb_S256x1024_S256x128_0_640, headBlk 640 slices_S256x1024_o0_640_S256x128 Q K V⟩, ⟨Rect.unit ![0, 512] S256x128.size inb_S256x1024_S256x128_0_512, headBlk 512 slices_S256x1024_o0_512_S256x128 Q K V⟩, ⟨Rect.unit ![0, 384] S256x128.size inb_S256x1024_S256x128_0_384, headBlk 384 slices_S256x1024_o0_384_S256x128 Q K V⟩, ⟨Rect.unit ![0, 256] S256x128.size inb_S256x1024_S256x128_0_256, headBlk 256 slices_S256x1024_o0_256_S256x128 Q K V⟩, ⟨Rect.unit ![0, 128] S256x128.size inb_S256x1024_S256x128_0_128, headBlk 128 slices_S256x1024_o0_128_S256x128 Q K V⟩, ⟨Rect.unit ![0, 0] S256x128.size inb_S256x1024_S256x128_0_0, headBlk 0 slices_S256x1024_o0_0_S256x128 Q K V⟩])) : sProp 𝕄)
      ⊢ ((View.loc (c : Thread nD τ) (Memref.whole cc0_scratch13).view) ↦{fullShare} g) := by
  subst e; exact made_ctx2 c f Q K V
theorem sent_ctx3 (c : Dev nD) (f : Buf (Elt F) ((c : Thread nD τ).loc cc0_scratch14)) (Q K V : FVec F S256x1024 .bf16) (g : Vec F S256x1024 .bf16) (e : ctxOf Q K V = g) :
    (((View.loc (c : Thread nD τ) (Memref.whole cc0_scratch14).view) ↦{fullShare} ((Memref.whole cc0_scratch14).view.writes (Elt F) f [⟨Rect.unit ![0, 896] S256x128.size inb_S256x1024_S256x128_0_896, headBlk 896 slices_S256x1024_o0_896_S256x128 Q K V⟩, ⟨Rect.unit ![0, 768] S256x128.size inb_S256x1024_S256x128_0_768, headBlk 768 slices_S256x1024_o0_768_S256x128 Q K V⟩, ⟨Rect.unit ![0, 640] S256x128.size inb_S256x1024_S256x128_0_640, headBlk 640 slices_S256x1024_o0_640_S256x128 Q K V⟩, ⟨Rect.unit ![0, 512] S256x128.size inb_S256x1024_S256x128_0_512, headBlk 512 slices_S256x1024_o0_512_S256x128 Q K V⟩, ⟨Rect.unit ![0, 384] S256x128.size inb_S256x1024_S256x128_0_384, headBlk 384 slices_S256x1024_o0_384_S256x128 Q K V⟩, ⟨Rect.unit ![0, 256] S256x128.size inb_S256x1024_S256x128_0_256, headBlk 256 slices_S256x1024_o0_256_S256x128 Q K V⟩, ⟨Rect.unit ![0, 128] S256x128.size inb_S256x1024_S256x128_0_128, headBlk 128 slices_S256x1024_o0_128_S256x128 Q K V⟩, ⟨Rect.unit ![0, 0] S256x128.size inb_S256x1024_S256x128_0_0, headBlk 0 slices_S256x1024_o0_0_S256x128 Q K V⟩])) : sProp 𝕄)
      ⊢ ((View.loc (c : Thread nD τ) (Memref.whole cc0_scratch14).view) ↦{fullShare} g) := by
  subst e; exact made_ctx3 c f Q K V
theorem full_c {sp : Space} (v : View sig .tc sp S256x1024 .bf16) (f : v.ty.Contents (Elt F)) (inb) (w : Vec F S256x1024 .bf16) :
    v.read (Elt F) (v.writes (Elt F) f [⟨Rect.unit (s := S256x1024) ![0, 0] S256x1024.size inb, w⟩]) = w := View.read_writes_full v f inb w []
theorem sum_eq0 (f : (Memref.whole cc0_scratch15).view.ty.Contents (Elt F)) (inb : ∀ a, (![0, 0] : Fin 2 → ℕ) a + S256x1024.size a ≤ S256x1024.size a) (w g : Vec F S256x1024 .bf16) (e : w = g) :
    (Memref.whole cc0_scratch15).view.writes (Elt F) f [⟨Rect.unit (s := S256x1024) ![0, 0] S256x1024.size inb, w⟩] = g :=
  (View.read_whole cc0_scratch15 _).symm.trans ((full_c (Memref.whole cc0_scratch15).view f inb w).trans e)
theorem sent_sum0 (c : Dev nD) (f : Buf (Elt F) ((c : Thread nD τ).loc cc0_scratch15)) (w g : Vec F S256x1024 .bf16) (inb : ∀ a, (![0, 0] : Fin 2 → ℕ) a + S256x1024.size a ≤ S256x1024.size a) (e : w = g) :
    (((View.loc (c : Thread nD τ) (Memref.whole cc0_scratch15).view) ↦{fullShare} ((Memref.whole cc0_scratch15).view.writes (Elt F) f [⟨Rect.unit (s := S256x1024) ![0, 0] S256x1024.size inb, w⟩])) : sProp 𝕄)
      ⊢ ((View.loc (c : Thread nD τ) (Memref.whole cc0_scratch15).view) ↦{fullShare} g) := by
  exact Entails.of_eq (congrArg (fun g => (((View.loc (c : Thread nD τ) (Memref.whole cc0_scratch15).view) ↦{fullShare} g) : sProp 𝕄)) (sum_eq0 f inb w g e))
theorem sum_eq1 (f : (Memref.whole cc0_scratch16).view.ty.Contents (Elt F)) (inb : ∀ a, (![0, 0] : Fin 2 → ℕ) a + S256x1024.size a ≤ S256x1024.size a) (w g : Vec F S256x1024 .bf16) (e : w = g) :
    (Memref.whole cc0_scratch16).view.writes (Elt F) f [⟨Rect.unit (s := S256x1024) ![0, 0] S256x1024.size inb, w⟩] = g :=
  (View.read_whole cc0_scratch16 _).symm.trans ((full_c (Memref.whole cc0_scratch16).view f inb w).trans e)
theorem sent_sum1 (c : Dev nD) (f : Buf (Elt F) ((c : Thread nD τ).loc cc0_scratch16)) (w g : Vec F S256x1024 .bf16) (inb : ∀ a, (![0, 0] : Fin 2 → ℕ) a + S256x1024.size a ≤ S256x1024.size a) (e : w = g) :
    (((View.loc (c : Thread nD τ) (Memref.whole cc0_scratch16).view) ↦{fullShare} ((Memref.whole cc0_scratch16).view.writes (Elt F) f [⟨Rect.unit (s := S256x1024) ![0, 0] S256x1024.size inb, w⟩])) : sProp 𝕄)
      ⊢ ((View.loc (c : Thread nD τ) (Memref.whole cc0_scratch16).view) ↦{fullShare} g) := by
  exact Entails.of_eq (congrArg (fun g => (((View.loc (c : Thread nD τ) (Memref.whole cc0_scratch16).view) ↦{fullShare} g) : sProp 𝕄)) (sum_eq1 f inb w g e))
theorem sum_eq2 (f : (Memref.whole cc0_scratch17).view.ty.Contents (Elt F)) (inb : ∀ a, (![0, 0] : Fin 2 → ℕ) a + S256x1024.size a ≤ S256x1024.size a) (w g : Vec F S256x1024 .bf16) (e : w = g) :
    (Memref.whole cc0_scratch17).view.writes (Elt F) f [⟨Rect.unit (s := S256x1024) ![0, 0] S256x1024.size inb, w⟩] = g :=
  (View.read_whole cc0_scratch17 _).symm.trans ((full_c (Memref.whole cc0_scratch17).view f inb w).trans e)
theorem sent_sum2 (c : Dev nD) (f : Buf (Elt F) ((c : Thread nD τ).loc cc0_scratch17)) (w g : Vec F S256x1024 .bf16) (inb : ∀ a, (![0, 0] : Fin 2 → ℕ) a + S256x1024.size a ≤ S256x1024.size a) (e : w = g) :
    (((View.loc (c : Thread nD τ) (Memref.whole cc0_scratch17).view) ↦{fullShare} ((Memref.whole cc0_scratch17).view.writes (Elt F) f [⟨Rect.unit (s := S256x1024) ![0, 0] S256x1024.size inb, w⟩])) : sProp 𝕄)
      ⊢ ((View.loc (c : Thread nD τ) (Memref.whole cc0_scratch17).view) ↦{fullShare} g) := by
  exact Entails.of_eq (congrArg (fun g => (((View.loc (c : Thread nD τ) (Memref.whole cc0_scratch17).view) ↦{fullShare} g) : sProp 𝕄)) (sum_eq2 f inb w g e))
theorem sum_eq3 (f : (Memref.whole cc0_scratch18).view.ty.Contents (Elt F)) (inb : ∀ a, (![0, 0] : Fin 2 → ℕ) a + S256x1024.size a ≤ S256x1024.size a) (w g : Vec F S256x1024 .bf16) (e : w = g) :
    (Memref.whole cc0_scratch18).view.writes (Elt F) f [⟨Rect.unit (s := S256x1024) ![0, 0] S256x1024.size inb, w⟩] = g :=
  (View.read_whole cc0_scratch18 _).symm.trans ((full_c (Memref.whole cc0_scratch18).view f inb w).trans e)
theorem sent_sum3 (c : Dev nD) (f : Buf (Elt F) ((c : Thread nD τ).loc cc0_scratch18)) (w g : Vec F S256x1024 .bf16) (inb : ∀ a, (![0, 0] : Fin 2 → ℕ) a + S256x1024.size a ≤ S256x1024.size a) (e : w = g) :
    (((View.loc (c : Thread nD τ) (Memref.whole cc0_scratch18).view) ↦{fullShare} ((Memref.whole cc0_scratch18).view.writes (Elt F) f [⟨Rect.unit (s := S256x1024) ![0, 0] S256x1024.size inb, w⟩])) : sProp 𝕄)
      ⊢ ((View.loc (c : Thread nD τ) (Memref.whole cc0_scratch18).view) ↦{fullShare} g) := by
  exact Entails.of_eq (congrArg (fun g => (((View.loc (c : Thread nD τ) (Memref.whole cc0_scratch18).view) ↦{fullShare} g) : sProp 𝕄)) (sum_eq3 f inb w g e))
theorem sent_l0 (c : Dev nD) (f : Buf (Elt F) ((c : Thread nD τ).loc cc0_scratch19)) (w g : Vec F S8x256 .f32) (inb) (e : w = g) :
    (((View.loc (c : Thread nD τ) (Memref.whole cc0_scratch19).view) ↦{fullShare} ((Memref.whole cc0_scratch19).view.writes (Elt F) f [⟨Rect.unit ![0, 0] S8x256.size inb, w⟩])) : sProp 𝕄)
      ⊢ ((View.loc (c : Thread nD τ) (Memref.whole cc0_scratch19).view) ↦{fullShare} g) := by
  subst e; exact Entails.of_eq (congrArg (fun g => (((View.loc (c : Thread nD τ) (Memref.whole cc0_scratch19).view) ↦{fullShare} g) : sProp 𝕄)) (View.read_writes_full (Memref.whole cc0_scratch19).view f inb w []))
theorem sent_l1 (c : Dev nD) (f : Buf (Elt F) ((c : Thread nD τ).loc cc0_scratch20)) (w g : Vec F S8x256 .f32) (inb) (e : w = g) :
    (((View.loc (c : Thread nD τ) (Memref.whole cc0_scratch20).view) ↦{fullShare} ((Memref.whole cc0_scratch20).view.writes (Elt F) f [⟨Rect.unit ![0, 0] S8x256.size inb, w⟩])) : sProp 𝕄)
      ⊢ ((View.loc (c : Thread nD τ) (Memref.whole cc0_scratch20).view) ↦{fullShare} g) := by
  subst e; exact Entails.of_eq (congrArg (fun g => (((View.loc (c : Thread nD τ) (Memref.whole cc0_scratch20).view) ↦{fullShare} g) : sProp 𝕄)) (View.read_writes_full (Memref.whole cc0_scratch20).view f inb w []))
theorem sent_l2 (c : Dev nD) (f : Buf (Elt F) ((c : Thread nD τ).loc cc0_scratch21)) (w g : Vec F S8x256 .f32) (inb) (e : w = g) :
    (((View.loc (c : Thread nD τ) (Memref.whole cc0_scratch21).view) ↦{fullShare} ((Memref.whole cc0_scratch21).view.writes (Elt F) f [⟨Rect.unit ![0, 0] S8x256.size inb, w⟩])) : sProp 𝕄)
      ⊢ ((View.loc (c : Thread nD τ) (Memref.whole cc0_scratch21).view) ↦{fullShare} g) := by
  subst e; exact Entails.of_eq (congrArg (fun g => (((View.loc (c : Thread nD τ) (Memref.whole cc0_scratch21).view) ↦{fullShare} g) : sProp 𝕄)) (View.read_writes_full (Memref.whole cc0_scratch21).view f inb w []))
theorem sent_l3 (c : Dev nD) (f : Buf (Elt F) ((c : Thread nD τ).loc cc0_scratch22)) (w g : Vec F S8x256 .f32) (inb) (e : w = g) :
    (((View.loc (c : Thread nD τ) (Memref.whole cc0_scratch22).view) ↦{fullShare} ((Memref.whole cc0_scratch22).view.writes (Elt F) f [⟨Rect.unit ![0, 0] S8x256.size inb, w⟩])) : sProp 𝕄)
      ⊢ ((View.loc (c : Thread nD τ) (Memref.whole cc0_scratch22).view) ↦{fullShare} g) := by
  subst e; exact Entails.of_eq (congrArg (fun g => (((View.loc (c : Thread nD τ) (Memref.whole cc0_scratch22).view) ↦{fullShare} g) : sProp 𝕄)) (View.read_writes_full (Memref.whole cc0_scratch22).view f inb w []))
theorem sent_l4 (c : Dev nD) (f : Buf (Elt F) ((c : Thread nD τ).loc cc0_scratch23)) (w g : Vec F S8x256 .f32) (inb) (e : w = g) :
    (((View.loc (c : Thread nD τ) (Memref.whole cc0_scratch23).view) ↦{fullShare} ((Memref.whole cc0_scratch23).view.writes (Elt F) f [⟨Rect.unit ![0, 0] S8x256.size inb, w⟩])) : sProp 𝕄)
      ⊢ ((View.loc (c : Thread nD τ) (Memref.whole cc0_scratch23).view) ↦{fullShare} g) := by
  subst e; exact Entails.of_eq (congrArg (fun g => (((View.loc (c : Thread nD τ) (Memref.whole cc0_scratch23).view) ↦{fullShare} g) : sProp 𝕄)) (View.read_writes_full (Memref.whole cc0_scratch23).view f inb w []))
theorem sent_l5 (c : Dev nD) (f : Buf (Elt F) ((c : Thread nD τ).loc cc0_scratch24)) (w g : Vec F S8x256 .f32) (inb) (e : w = g) :
    (((View.loc (c : Thread nD τ) (Memref.whole cc0_scratch24).view) ↦{fullShare} ((Memref.whole cc0_scratch24).view.writes (Elt F) f [⟨Rect.unit ![0, 0] S8x256.size inb, w⟩])) : sProp 𝕄)
      ⊢ ((View.loc (c : Thread nD τ) (Memref.whole cc0_scratch24).view) ↦{fullShare} g) := by
  subst e; exact Entails.of_eq (congrArg (fun g => (((View.loc (c : Thread nD τ) (Memref.whole cc0_scratch24).view) ↦{fullShare} g) : sProp 𝕄)) (View.read_writes_full (Memref.whole cc0_scratch24).view f inb w []))
theorem sent_l6 (c : Dev nD) (f : Buf (Elt F) ((c : Thread nD τ).loc cc0_scratch25)) (w g : Vec F S8x256 .f32) (inb) (e : w = g) :
    (((View.loc (c : Thread nD τ) (Memref.whole cc0_scratch25).view) ↦{fullShare} ((Memref.whole cc0_scratch25).view.writes (Elt F) f [⟨Rect.unit ![0, 0] S8x256.size inb, w⟩])) : sProp 𝕄)
      ⊢ ((View.loc (c : Thread nD τ) (Memref.whole cc0_scratch25).view) ↦{fullShare} g) := by
  subst e; exact Entails.of_eq (congrArg (fun g => (((View.loc (c : Thread nD τ) (Memref.whole cc0_scratch25).view) ↦{fullShare} g) : sProp 𝕄)) (View.read_writes_full (Memref.whole cc0_scratch25).view f inb w []))
theorem sent_l7 (c : Dev nD) (f : Buf (Elt F) ((c : Thread nD τ).loc cc0_scratch26)) (w g : Vec F S8x256 .f32) (inb) (e : w = g) :
    (((View.loc (c : Thread nD τ) (Memref.whole cc0_scratch26).view) ↦{fullShare} ((Memref.whole cc0_scratch26).view.writes (Elt F) f [⟨Rect.unit ![0, 0] S8x256.size inb, w⟩])) : sProp 𝕄)
      ⊢ ((View.loc (c : Thread nD τ) (Memref.whole cc0_scratch26).view) ↦{fullShare} g) := by
  subst e; exact Entails.of_eq (congrArg (fun g => (((View.loc (c : Thread nD τ) (Memref.whole cc0_scratch26).view) ↦{fullShare} g) : sProp 𝕄)) (View.read_writes_full (Memref.whole cc0_scratch26).view f inb w []))
theorem qG_lit0 (x : Vec F S1x1024x1024 .f32) (wq : Vec F S1024x1024 .f32) (iw) (i0) (i256) (i512) (i768) :
    k0_pay2 (View.readAt (Elt F) (Memref.whole cc0_stg1_0).view (Rect.unit (s := S1024x1024) ![0, 0] S1024x1024.size iw).toLoadRect wq) (View.readAt (Elt F) (Memref.whole cc0_stg0_0).view (Rect.unit (s := S1x1024x1024) ![0, 0, 0] S1x64x1024.size i0).toLoadRect x) (View.readAt (Elt F) (Memref.whole cc0_stg0_0).view (Rect.unit (s := S1x1024x1024) ![0, 256, 0] S1x64x1024.size i256).toLoadRect x) (View.readAt (Elt F) (Memref.whole cc0_stg0_0).view (Rect.unit (s := S1x1024x1024) ![0, 512, 0] S1x64x1024.size i512).toLoadRect x) (View.readAt (Elt F) (Memref.whole cc0_stg0_0).view (Rect.unit (s := S1x1024x1024) ![0, 768, 0] S1x64x1024.size i768).toLoadRect x) = qG 0 x wq := by
  rw [wq_read, xRows_read 0 0 0 rfl, xRows_read 0 1 256 rfl, xRows_read 0 2 512 rfl, xRows_read 0 3 768 rfl]; rfl
theorem kG_lit0 (kk : Vec F S1x1024x8x128 .f32) (ib) (i0) (n0) (r0) (hq0 : S1x64x8x128.Squeezes S64x8x128) (i1) (n1) (r1) (hq1 : S1x64x8x128.Squeezes S64x8x128) (i2) (n2) (r2) (hq2 : S1x64x8x128.Squeezes S64x8x128) (i3) (n3) (r3) (hq3 : S1x64x8x128.Squeezes S64x8x128) :
    k0_pay3 ((Memref.whole cc0_scratch3).view.readCov [⟨Rect.unit ![192, 0, 0] S64x8x128.size i3, ReadAs.same.apply (View.read (Elt F) (((Memref.whole main_arg2).slice (Rect.unit (s := S1x1024x8x128) ![0, 768, 0, 0] S1x64x8x128.size n3) r3).squeeze S64x8x128 hq3).view kk)⟩, ⟨Rect.unit ![128, 0, 0] S64x8x128.size i2, ReadAs.same.apply (View.read (Elt F) (((Memref.whole main_arg2).slice (Rect.unit (s := S1x1024x8x128) ![0, 512, 0, 0] S1x64x8x128.size n2) r2).squeeze S64x8x128 hq2).view kk)⟩, ⟨Rect.unit ![64, 0, 0] S64x8x128.size i1, ReadAs.same.apply (View.read (Elt F) (((Memref.whole main_arg2).slice (Rect.unit (s := S1x1024x8x128) ![0, 256, 0, 0] S1x64x8x128.size n1) r1).squeeze S64x8x128 hq1).view kk)⟩, ⟨Rect.unit ![0, 0, 0] S64x8x128.size i0, ReadAs.same.apply (View.read (Elt F) (((Memref.whole main_arg2).slice (Rect.unit (s := S1x1024x8x128) ![0, 0, 0, 0] S1x64x8x128.size n0) r0).squeeze S64x8x128 hq0).view kk)⟩] (Rect.unit (s := S256x8x128) ![0, 0, 0] S256x8x128.size ib).toLoadRect) = kG 0 kk := by
  refine congrArg k0_pay3 (rows_cov (Memref.whole cc0_scratch3).view (grp 0 kk) _ _ _ _ i0 i1 i2 i3 ib ?_ ?_ ?_ ?_)
  · intro j
    have hj : (j 0).val < 64 := (j 0).isLt
    refine rows_read (Memref.whole main_arg2) 0 n0 r0 hq0 kk j _ rfl ?_ rfl rfl
    show 64 * (4 * ((0 + (j 0).val) / 64) + 0) + (0 + (j 0).val) % 64 = 0 + (j 0).val
    omega
  · intro j
    have hj : (j 0).val < 64 := (j 0).isLt
    refine rows_read (Memref.whole main_arg2) 256 n1 r1 hq1 kk j _ rfl ?_ rfl rfl
    show 64 * (4 * ((64 + (j 0).val) / 64) + 0) + (64 + (j 0).val) % 64 = 256 + (j 0).val
    omega
  · intro j
    have hj : (j 0).val < 64 := (j 0).isLt
    refine rows_read (Memref.whole main_arg2) 512 n2 r2 hq2 kk j _ rfl ?_ rfl rfl
    show 64 * (4 * ((128 + (j 0).val) / 64) + 0) + (128 + (j 0).val) % 64 = 512 + (j 0).val
    omega
  · intro j
    have hj : (j 0).val < 64 := (j 0).isLt
    refine rows_read (Memref.whole main_arg2) 768 n3 r3 hq3 kk j _ rfl ?_ rfl rfl
    show 64 * (4 * ((192 + (j 0).val) / 64) + 0) + (192 + (j 0).val) % 64 = 768 + (j 0).val
    omega
theorem vG_lit0 (kk : Vec F S1x1024x8x128 .f32) (ib) (i0) (n0) (r0) (hq0 : S1x64x8x128.Squeezes S64x8x128) (i1) (n1) (r1) (hq1 : S1x64x8x128.Squeezes S64x8x128) (i2) (n2) (r2) (hq2 : S1x64x8x128.Squeezes S64x8x128) (i3) (n3) (r3) (hq3 : S1x64x8x128.Squeezes S64x8x128) :
    k0_pay4 ((Memref.whole cc0_scratch7).view.readCov [⟨Rect.unit ![192, 0, 0] S64x8x128.size i3, ReadAs.same.apply (View.read (Elt F) (((Memref.whole main_arg3).slice (Rect.unit (s := S1x1024x8x128) ![0, 768, 0, 0] S1x64x8x128.size n3) r3).squeeze S64x8x128 hq3).view kk)⟩, ⟨Rect.unit ![128, 0, 0] S64x8x128.size i2, ReadAs.same.apply (View.read (Elt F) (((Memref.whole main_arg3).slice (Rect.unit (s := S1x1024x8x128) ![0, 512, 0, 0] S1x64x8x128.size n2) r2).squeeze S64x8x128 hq2).view kk)⟩, ⟨Rect.unit ![64, 0, 0] S64x8x128.size i1, ReadAs.same.apply (View.read (Elt F) (((Memref.whole main_arg3).slice (Rect.unit (s := S1x1024x8x128) ![0, 256, 0, 0] S1x64x8x128.size n1) r1).squeeze S64x8x128 hq1).view kk)⟩, ⟨Rect.unit ![0, 0, 0] S64x8x128.size i0, ReadAs.same.apply (View.read (Elt F) (((Memref.whole main_arg3).slice (Rect.unit (s := S1x1024x8x128) ![0, 0, 0, 0] S1x64x8x128.size n0) r0).squeeze S64x8x128 hq0).view kk)⟩] (Rect.unit (s := S256x8x128) ![0, 0, 0] S256x8x128.size ib).toLoadRect) = vG 0 kk := by
  refine congrArg k0_pay4 (rows_cov (Memref.whole cc0_scratch7).view (grp 0 kk) _ _ _ _ i0 i1 i2 i3 ib ?_ ?_ ?_ ?_)
  · intro j
    have hj : (j 0).val < 64 := (j 0).isLt
    refine rows_read (Memref.whole main_arg3) 0 n0 r0 hq0 kk j _ rfl ?_ rfl rfl
    show 64 * (4 * ((0 + (j 0).val) / 64) + 0) + (0 + (j 0).val) % 64 = 0 + (j 0).val
    omega
  · intro j
    have hj : (j 0).val < 64 := (j 0).isLt
    refine rows_read (Memref.whole main_arg3) 256 n1 r1 hq1 kk j _ rfl ?_ rfl rfl
    show 64 * (4 * ((64 + (j 0).val) / 64) + 0) + (64 + (j 0).val) % 64 = 256 + (j 0).val
    omega
  · intro j
    have hj : (j 0).val < 64 := (j 0).isLt
    refine rows_read (Memref.whole main_arg3) 512 n2 r2 hq2 kk j _ rfl ?_ rfl rfl
    show 64 * (4 * ((128 + (j 0).val) / 64) + 0) + (128 + (j 0).val) % 64 = 512 + (j 0).val
    omega
  · intro j
    have hj : (j 0).val < 64 := (j 0).isLt
    refine rows_read (Memref.whole main_arg3) 768 n3 r3 hq3 kk j _ rfl ?_ rfl rfl
    show 64 * (4 * ((192 + (j 0).val) / 64) + 0) + (192 + (j 0).val) % 64 = 768 + (j 0).val
    omega
theorem qG_lit1 (x : Vec F S1x1024x1024 .f32) (wq : Vec F S1024x1024 .f32) (iw) (i64) (i320) (i576) (i832) :
    k0_pay2 (View.readAt (Elt F) (Memref.whole cc0_stg1_0).view (Rect.unit (s := S1024x1024) ![0, 0] S1024x1024.size iw).toLoadRect wq) (View.readAt (Elt F) (Memref.whole cc0_stg0_0).view (Rect.unit (s := S1x1024x1024) ![0, 64, 0] S1x64x1024.size i64).toLoadRect x) (View.readAt (Elt F) (Memref.whole cc0_stg0_0).view (Rect.unit (s := S1x1024x1024) ![0, 320, 0] S1x64x1024.size i320).toLoadRect x) (View.readAt (Elt F) (Memref.whole cc0_stg0_0).view (Rect.unit (s := S1x1024x1024) ![0, 576, 0] S1x64x1024.size i576).toLoadRect x) (View.readAt (Elt F) (Memref.whole cc0_stg0_0).view (Rect.unit (s := S1x1024x1024) ![0, 832, 0] S1x64x1024.size i832).toLoadRect x) = qG 1 x wq := by
  rw [wq_read, xRows_read 1 0 64 rfl, xRows_read 1 1 320 rfl, xRows_read 1 2 576 rfl, xRows_read 1 3 832 rfl]; rfl
theorem kG_lit1 (kk : Vec F S1x1024x8x128 .f32) (ib) (i0) (n0) (r0) (hq0 : S1x64x8x128.Squeezes S64x8x128) (i1) (n1) (r1) (hq1 : S1x64x8x128.Squeezes S64x8x128) (i2) (n2) (r2) (hq2 : S1x64x8x128.Squeezes S64x8x128) (i3) (n3) (r3) (hq3 : S1x64x8x128.Squeezes S64x8x128) :
    k0_pay3 ((Memref.whole cc0_scratch4).view.readCov [⟨Rect.unit ![192, 0, 0] S64x8x128.size i3, ReadAs.same.apply (View.read (Elt F) (((Memref.whole main_arg2).slice (Rect.unit (s := S1x1024x8x128) ![0, 832, 0, 0] S1x64x8x128.size n3) r3).squeeze S64x8x128 hq3).view kk)⟩, ⟨Rect.unit ![128, 0, 0] S64x8x128.size i2, ReadAs.same.apply (View.read (Elt F) (((Memref.whole main_arg2).slice (Rect.unit (s := S1x1024x8x128) ![0, 576, 0, 0] S1x64x8x128.size n2) r2).squeeze S64x8x128 hq2).view kk)⟩, ⟨Rect.unit ![64, 0, 0] S64x8x128.size i1, ReadAs.same.apply (View.read (Elt F) (((Memref.whole main_arg2).slice (Rect.unit (s := S1x1024x8x128) ![0, 320, 0, 0] S1x64x8x128.size n1) r1).squeeze S64x8x128 hq1).view kk)⟩, ⟨Rect.unit ![0, 0, 0] S64x8x128.size i0, ReadAs.same.apply (View.read (Elt F) (((Memref.whole main_arg2).slice (Rect.unit (s := S1x1024x8x128) ![0, 64, 0, 0] S1x64x8x128.size n0) r0).squeeze S64x8x128 hq0).view kk)⟩] (Rect.unit (s := S256x8x128) ![0, 0, 0] S256x8x128.size ib).toLoadRect) = kG 1 kk := by
  refine congrArg k0_pay3 (rows_cov (Memref.whole cc0_scratch4).view (grp 1 kk) _ _ _ _ i0 i1 i2 i3 ib ?_ ?_ ?_ ?_)
  · intro j
    have hj : (j 0).val < 64 := (j 0).isLt
    refine rows_read (Memref.whole main_arg2) 64 n0 r0 hq0 kk j _ rfl ?_ rfl rfl
    show 64 * (4 * ((0 + (j 0).val) / 64) + 1) + (0 + (j 0).val) % 64 = 64 + (j 0).val
    omega
  · intro j
    have hj : (j 0).val < 64 := (j 0).isLt
    refine rows_read (Memref.whole main_arg2) 320 n1 r1 hq1 kk j _ rfl ?_ rfl rfl
    show 64 * (4 * ((64 + (j 0).val) / 64) + 1) + (64 + (j 0).val) % 64 = 320 + (j 0).val
    omega
  · intro j
    have hj : (j 0).val < 64 := (j 0).isLt
    refine rows_read (Memref.whole main_arg2) 576 n2 r2 hq2 kk j _ rfl ?_ rfl rfl
    show 64 * (4 * ((128 + (j 0).val) / 64) + 1) + (128 + (j 0).val) % 64 = 576 + (j 0).val
    omega
  · intro j
    have hj : (j 0).val < 64 := (j 0).isLt
    refine rows_read (Memref.whole main_arg2) 832 n3 r3 hq3 kk j _ rfl ?_ rfl rfl
    show 64 * (4 * ((192 + (j 0).val) / 64) + 1) + (192 + (j 0).val) % 64 = 832 + (j 0).val
    omega
theorem vG_lit1 (kk : Vec F S1x1024x8x128 .f32) (ib) (i0) (n0) (r0) (hq0 : S1x64x8x128.Squeezes S64x8x128) (i1) (n1) (r1) (hq1 : S1x64x8x128.Squeezes S64x8x128) (i2) (n2) (r2) (hq2 : S1x64x8x128.Squeezes S64x8x128) (i3) (n3) (r3) (hq3 : S1x64x8x128.Squeezes S64x8x128) :
    k0_pay4 ((Memref.whole cc0_scratch8).view.readCov [⟨Rect.unit ![192, 0, 0] S64x8x128.size i3, ReadAs.same.apply (View.read (Elt F) (((Memref.whole main_arg3).slice (Rect.unit (s := S1x1024x8x128) ![0, 832, 0, 0] S1x64x8x128.size n3) r3).squeeze S64x8x128 hq3).view kk)⟩, ⟨Rect.unit ![128, 0, 0] S64x8x128.size i2, ReadAs.same.apply (View.read (Elt F) (((Memref.whole main_arg3).slice (Rect.unit (s := S1x1024x8x128) ![0, 576, 0, 0] S1x64x8x128.size n2) r2).squeeze S64x8x128 hq2).view kk)⟩, ⟨Rect.unit ![64, 0, 0] S64x8x128.size i1, ReadAs.same.apply (View.read (Elt F) (((Memref.whole main_arg3).slice (Rect.unit (s := S1x1024x8x128) ![0, 320, 0, 0] S1x64x8x128.size n1) r1).squeeze S64x8x128 hq1).view kk)⟩, ⟨Rect.unit ![0, 0, 0] S64x8x128.size i0, ReadAs.same.apply (View.read (Elt F) (((Memref.whole main_arg3).slice (Rect.unit (s := S1x1024x8x128) ![0, 64, 0, 0] S1x64x8x128.size n0) r0).squeeze S64x8x128 hq0).view kk)⟩] (Rect.unit (s := S256x8x128) ![0, 0, 0] S256x8x128.size ib).toLoadRect) = vG 1 kk := by
  refine congrArg k0_pay4 (rows_cov (Memref.whole cc0_scratch8).view (grp 1 kk) _ _ _ _ i0 i1 i2 i3 ib ?_ ?_ ?_ ?_)
  · intro j
    have hj : (j 0).val < 64 := (j 0).isLt
    refine rows_read (Memref.whole main_arg3) 64 n0 r0 hq0 kk j _ rfl ?_ rfl rfl
    show 64 * (4 * ((0 + (j 0).val) / 64) + 1) + (0 + (j 0).val) % 64 = 64 + (j 0).val
    omega
  · intro j
    have hj : (j 0).val < 64 := (j 0).isLt
    refine rows_read (Memref.whole main_arg3) 320 n1 r1 hq1 kk j _ rfl ?_ rfl rfl
    show 64 * (4 * ((64 + (j 0).val) / 64) + 1) + (64 + (j 0).val) % 64 = 320 + (j 0).val
    omega
  · intro j
    have hj : (j 0).val < 64 := (j 0).isLt
    refine rows_read (Memref.whole main_arg3) 576 n2 r2 hq2 kk j _ rfl ?_ rfl rfl
    show 64 * (4 * ((128 + (j 0).val) / 64) + 1) + (128 + (j 0).val) % 64 = 576 + (j 0).val
    omega
  · intro j
    have hj : (j 0).val < 64 := (j 0).isLt
    refine rows_read (Memref.whole main_arg3) 832 n3 r3 hq3 kk j _ rfl ?_ rfl rfl
    show 64 * (4 * ((192 + (j 0).val) / 64) + 1) + (192 + (j 0).val) % 64 = 832 + (j 0).val
    omega
theorem qG_lit2 (x : Vec F S1x1024x1024 .f32) (wq : Vec F S1024x1024 .f32) (iw) (i128) (i384) (i640) (i896) :
    k0_pay2 (View.readAt (Elt F) (Memref.whole cc0_stg1_0).view (Rect.unit (s := S1024x1024) ![0, 0] S1024x1024.size iw).toLoadRect wq) (View.readAt (Elt F) (Memref.whole cc0_stg0_0).view (Rect.unit (s := S1x1024x1024) ![0, 128, 0] S1x64x1024.size i128).toLoadRect x) (View.readAt (Elt F) (Memref.whole cc0_stg0_0).view (Rect.unit (s := S1x1024x1024) ![0, 384, 0] S1x64x1024.size i384).toLoadRect x) (View.readAt (Elt F) (Memref.whole cc0_stg0_0).view (Rect.unit (s := S1x1024x1024) ![0, 640, 0] S1x64x1024.size i640).toLoadRect x) (View.readAt (Elt F) (Memref.whole cc0_stg0_0).view (Rect.unit (s := S1x1024x1024) ![0, 896, 0] S1x64x1024.size i896).toLoadRect x) = qG 2 x wq := by
  rw [wq_read, xRows_read 2 0 128 rfl, xRows_read 2 1 384 rfl, xRows_read 2 2 640 rfl, xRows_read 2 3 896 rfl]; rfl
theorem kG_lit2 (kk : Vec F S1x1024x8x128 .f32) (ib) (i0) (n0) (r0) (hq0 : S1x64x8x128.Squeezes S64x8x128) (i1) (n1) (r1) (hq1 : S1x64x8x128.Squeezes S64x8x128) (i2) (n2) (r2) (hq2 : S1x64x8x128.Squeezes S64x8x128) (i3) (n3) (r3) (hq3 : S1x64x8x128.Squeezes S64x8x128) :
    k0_pay3 ((Memref.whole cc0_scratch5).view.readCov [⟨Rect.unit ![192, 0, 0] S64x8x128.size i3, ReadAs.same.apply (View.read (Elt F) (((Memref.whole main_arg2).slice (Rect.unit (s := S1x1024x8x128) ![0, 896, 0, 0] S1x64x8x128.size n3) r3).squeeze S64x8x128 hq3).view kk)⟩, ⟨Rect.unit ![128, 0, 0] S64x8x128.size i2, ReadAs.same.apply (View.read (Elt F) (((Memref.whole main_arg2).slice (Rect.unit (s := S1x1024x8x128) ![0, 640, 0, 0] S1x64x8x128.size n2) r2).squeeze S64x8x128 hq2).view kk)⟩, ⟨Rect.unit ![64, 0, 0] S64x8x128.size i1, ReadAs.same.apply (View.read (Elt F) (((Memref.whole main_arg2).slice (Rect.unit (s := S1x1024x8x128) ![0, 384, 0, 0] S1x64x8x128.size n1) r1).squeeze S64x8x128 hq1).view kk)⟩, ⟨Rect.unit ![0, 0, 0] S64x8x128.size i0, ReadAs.same.apply (View.read (Elt F) (((Memref.whole main_arg2).slice (Rect.unit (s := S1x1024x8x128) ![0, 128, 0, 0] S1x64x8x128.size n0) r0).squeeze S64x8x128 hq0).view kk)⟩] (Rect.unit (s := S256x8x128) ![0, 0, 0] S256x8x128.size ib).toLoadRect) = kG 2 kk := by
  refine congrArg k0_pay3 (rows_cov (Memref.whole cc0_scratch5).view (grp 2 kk) _ _ _ _ i0 i1 i2 i3 ib ?_ ?_ ?_ ?_)
  · intro j
    have hj : (j 0).val < 64 := (j 0).isLt
    refine rows_read (Memref.whole main_arg2) 128 n0 r0 hq0 kk j _ rfl ?_ rfl rfl
    show 64 * (4 * ((0 + (j 0).val) / 64) + 2) + (0 + (j 0).val) % 64 = 128 + (j 0).val
    omega
  · intro j
    have hj : (j 0).val < 64 := (j 0).isLt
    refine rows_read (Memref.whole main_arg2) 384 n1 r1 hq1 kk j _ rfl ?_ rfl rfl
    show 64 * (4 * ((64 + (j 0).val) / 64) + 2) + (64 + (j 0).val) % 64 = 384 + (j 0).val
    omega
  · intro j
    have hj : (j 0).val < 64 := (j 0).isLt
    refine rows_read (Memref.whole main_arg2) 640 n2 r2 hq2 kk j _ rfl ?_ rfl rfl
    show 64 * (4 * ((128 + (j 0).val) / 64) + 2) + (128 + (j 0).val) % 64 = 640 + (j 0).val
    omega
  · intro j
    have hj : (j 0).val < 64 := (j 0).isLt
    refine rows_read (Memref.whole main_arg2) 896 n3 r3 hq3 kk j _ rfl ?_ rfl rfl
    show 64 * (4 * ((192 + (j 0).val) / 64) + 2) + (192 + (j 0).val) % 64 = 896 + (j 0).val
    omega
theorem vG_lit2 (kk : Vec F S1x1024x8x128 .f32) (ib) (i0) (n0) (r0) (hq0 : S1x64x8x128.Squeezes S64x8x128) (i1) (n1) (r1) (hq1 : S1x64x8x128.Squeezes S64x8x128) (i2) (n2) (r2) (hq2 : S1x64x8x128.Squeezes S64x8x128) (i3) (n3) (r3) (hq3 : S1x64x8x128.Squeezes S64x8x128) :
    k0_pay4 ((Memref.whole cc0_scratch9).view.readCov [⟨Rect.unit ![192, 0, 0] S64x8x128.size i3, ReadAs.same.apply (View.read (Elt F) (((Memref.whole main_arg3).slice (Rect.unit (s := S1x1024x8x128) ![0, 896, 0, 0] S1x64x8x128.size n3) r3).squeeze S64x8x128 hq3).view kk)⟩, ⟨Rect.unit ![128, 0, 0] S64x8x128.size i2, ReadAs.same.apply (View.read (Elt F) (((Memref.whole main_arg3).slice (Rect.unit (s := S1x1024x8x128) ![0, 640, 0, 0] S1x64x8x128.size n2) r2).squeeze S64x8x128 hq2).view kk)⟩, ⟨Rect.unit ![64, 0, 0] S64x8x128.size i1, ReadAs.same.apply (View.read (Elt F) (((Memref.whole main_arg3).slice (Rect.unit (s := S1x1024x8x128) ![0, 384, 0, 0] S1x64x8x128.size n1) r1).squeeze S64x8x128 hq1).view kk)⟩, ⟨Rect.unit ![0, 0, 0] S64x8x128.size i0, ReadAs.same.apply (View.read (Elt F) (((Memref.whole main_arg3).slice (Rect.unit (s := S1x1024x8x128) ![0, 128, 0, 0] S1x64x8x128.size n0) r0).squeeze S64x8x128 hq0).view kk)⟩] (Rect.unit (s := S256x8x128) ![0, 0, 0] S256x8x128.size ib).toLoadRect) = vG 2 kk := by
  refine congrArg k0_pay4 (rows_cov (Memref.whole cc0_scratch9).view (grp 2 kk) _ _ _ _ i0 i1 i2 i3 ib ?_ ?_ ?_ ?_)
  · intro j
    have hj : (j 0).val < 64 := (j 0).isLt
    refine rows_read (Memref.whole main_arg3) 128 n0 r0 hq0 kk j _ rfl ?_ rfl rfl
    show 64 * (4 * ((0 + (j 0).val) / 64) + 2) + (0 + (j 0).val) % 64 = 128 + (j 0).val
    omega
  · intro j
    have hj : (j 0).val < 64 := (j 0).isLt
    refine rows_read (Memref.whole main_arg3) 384 n1 r1 hq1 kk j _ rfl ?_ rfl rfl
    show 64 * (4 * ((64 + (j 0).val) / 64) + 2) + (64 + (j 0).val) % 64 = 384 + (j 0).val
    omega
  · intro j
    have hj : (j 0).val < 64 := (j 0).isLt
    refine rows_read (Memref.whole main_arg3) 640 n2 r2 hq2 kk j _ rfl ?_ rfl rfl
    show 64 * (4 * ((128 + (j 0).val) / 64) + 2) + (128 + (j 0).val) % 64 = 640 + (j 0).val
    omega
  · intro j
    have hj : (j 0).val < 64 := (j 0).isLt
    refine rows_read (Memref.whole main_arg3) 896 n3 r3 hq3 kk j _ rfl ?_ rfl rfl
    show 64 * (4 * ((192 + (j 0).val) / 64) + 2) + (192 + (j 0).val) % 64 = 896 + (j 0).val
    omega
theorem qG_lit3 (x : Vec F S1x1024x1024 .f32) (wq : Vec F S1024x1024 .f32) (iw) (i192) (i448) (i704) (i960) :
    k0_pay2 (View.readAt (Elt F) (Memref.whole cc0_stg1_0).view (Rect.unit (s := S1024x1024) ![0, 0] S1024x1024.size iw).toLoadRect wq) (View.readAt (Elt F) (Memref.whole cc0_stg0_0).view (Rect.unit (s := S1x1024x1024) ![0, 192, 0] S1x64x1024.size i192).toLoadRect x) (View.readAt (Elt F) (Memref.whole cc0_stg0_0).view (Rect.unit (s := S1x1024x1024) ![0, 448, 0] S1x64x1024.size i448).toLoadRect x) (View.readAt (Elt F) (Memref.whole cc0_stg0_0).view (Rect.unit (s := S1x1024x1024) ![0, 704, 0] S1x64x1024.size i704).toLoadRect x) (View.readAt (Elt F) (Memref.whole cc0_stg0_0).view (Rect.unit (s := S1x1024x1024) ![0, 960, 0] S1x64x1024.size i960).toLoadRect x) = qG 3 x wq := by
  rw [wq_read, xRows_read 3 0 192 rfl, xRows_read 3 1 448 rfl, xRows_read 3 2 704 rfl, xRows_read 3 3 960 rfl]; rfl
theorem kG_lit3 (kk : Vec F S1x1024x8x128 .f32) (ib) (i0) (n0) (r0) (hq0 : S1x64x8x128.Squeezes S64x8x128) (i1) (n1) (r1) (hq1 : S1x64x8x128.Squeezes S64x8x128) (i2) (n2) (r2) (hq2 : S1x64x8x128.Squeezes S64x8x128) (i3) (n3) (r3) (hq3 : S1x64x8x128.Squeezes S64x8x128) :
    k0_pay3 ((Memref.whole cc0_scratch6).view.readCov [⟨Rect.unit ![192, 0, 0] S64x8x128.size i3, ReadAs.same.apply (View.read (Elt F) (((Memref.whole main_arg2).slice (Rect.unit (s := S1x1024x8x128) ![0, 960, 0, 0] S1x64x8x128.size n3) r3).squeeze S64x8x128 hq3).view kk)⟩, ⟨Rect.unit ![128, 0, 0] S64x8x128.size i2, ReadAs.same.apply (View.read (Elt F) (((Memref.whole main_arg2).slice (Rect.unit (s := S1x1024x8x128) ![0, 704, 0, 0] S1x64x8x128.size n2) r2).squeeze S64x8x128 hq2).view kk)⟩, ⟨Rect.unit ![64, 0, 0] S64x8x128.size i1, ReadAs.same.apply (View.read (Elt F) (((Memref.whole main_arg2).slice (Rect.unit (s := S1x1024x8x128) ![0, 448, 0, 0] S1x64x8x128.size n1) r1).squeeze S64x8x128 hq1).view kk)⟩, ⟨Rect.unit ![0, 0, 0] S64x8x128.size i0, ReadAs.same.apply (View.read (Elt F) (((Memref.whole main_arg2).slice (Rect.unit (s := S1x1024x8x128) ![0, 192, 0, 0] S1x64x8x128.size n0) r0).squeeze S64x8x128 hq0).view kk)⟩] (Rect.unit (s := S256x8x128) ![0, 0, 0] S256x8x128.size ib).toLoadRect) = kG 3 kk := by
  refine congrArg k0_pay3 (rows_cov (Memref.whole cc0_scratch6).view (grp 3 kk) _ _ _ _ i0 i1 i2 i3 ib ?_ ?_ ?_ ?_)
  · intro j
    have hj : (j 0).val < 64 := (j 0).isLt
    refine rows_read (Memref.whole main_arg2) 192 n0 r0 hq0 kk j _ rfl ?_ rfl rfl
    show 64 * (4 * ((0 + (j 0).val) / 64) + 3) + (0 + (j 0).val) % 64 = 192 + (j 0).val
    omega
  · intro j
    have hj : (j 0).val < 64 := (j 0).isLt
    refine rows_read (Memref.whole main_arg2) 448 n1 r1 hq1 kk j _ rfl ?_ rfl rfl
    show 64 * (4 * ((64 + (j 0).val) / 64) + 3) + (64 + (j 0).val) % 64 = 448 + (j 0).val
    omega
  · intro j
    have hj : (j 0).val < 64 := (j 0).isLt
    refine rows_read (Memref.whole main_arg2) 704 n2 r2 hq2 kk j _ rfl ?_ rfl rfl
    show 64 * (4 * ((128 + (j 0).val) / 64) + 3) + (128 + (j 0).val) % 64 = 704 + (j 0).val
    omega
  · intro j
    have hj : (j 0).val < 64 := (j 0).isLt
    refine rows_read (Memref.whole main_arg2) 960 n3 r3 hq3 kk j _ rfl ?_ rfl rfl
    show 64 * (4 * ((192 + (j 0).val) / 64) + 3) + (192 + (j 0).val) % 64 = 960 + (j 0).val
    omega
theorem vG_lit3 (kk : Vec F S1x1024x8x128 .f32) (ib) (i0) (n0) (r0) (hq0 : S1x64x8x128.Squeezes S64x8x128) (i1) (n1) (r1) (hq1 : S1x64x8x128.Squeezes S64x8x128) (i2) (n2) (r2) (hq2 : S1x64x8x128.Squeezes S64x8x128) (i3) (n3) (r3) (hq3 : S1x64x8x128.Squeezes S64x8x128) :
    k0_pay4 ((Memref.whole cc0_scratch10).view.readCov [⟨Rect.unit ![192, 0, 0] S64x8x128.size i3, ReadAs.same.apply (View.read (Elt F) (((Memref.whole main_arg3).slice (Rect.unit (s := S1x1024x8x128) ![0, 960, 0, 0] S1x64x8x128.size n3) r3).squeeze S64x8x128 hq3).view kk)⟩, ⟨Rect.unit ![128, 0, 0] S64x8x128.size i2, ReadAs.same.apply (View.read (Elt F) (((Memref.whole main_arg3).slice (Rect.unit (s := S1x1024x8x128) ![0, 704, 0, 0] S1x64x8x128.size n2) r2).squeeze S64x8x128 hq2).view kk)⟩, ⟨Rect.unit ![64, 0, 0] S64x8x128.size i1, ReadAs.same.apply (View.read (Elt F) (((Memref.whole main_arg3).slice (Rect.unit (s := S1x1024x8x128) ![0, 448, 0, 0] S1x64x8x128.size n1) r1).squeeze S64x8x128 hq1).view kk)⟩, ⟨Rect.unit ![0, 0, 0] S64x8x128.size i0, ReadAs.same.apply (View.read (Elt F) (((Memref.whole main_arg3).slice (Rect.unit (s := S1x1024x8x128) ![0, 192, 0, 0] S1x64x8x128.size n0) r0).squeeze S64x8x128 hq0).view kk)⟩] (Rect.unit (s := S256x8x128) ![0, 0, 0] S256x8x128.size ib).toLoadRect) = vG 3 kk := by
  refine congrArg k0_pay4 (rows_cov (Memref.whole cc0_scratch10).view (grp 3 kk) _ _ _ _ i0 i1 i2 i3 ib ?_ ?_ ?_ ?_)
  · intro j
    have hj : (j 0).val < 64 := (j 0).isLt
    refine rows_read (Memref.whole main_arg3) 192 n0 r0 hq0 kk j _ rfl ?_ rfl rfl
    show 64 * (4 * ((0 + (j 0).val) / 64) + 3) + (0 + (j 0).val) % 64 = 192 + (j 0).val
    omega
  · intro j
    have hj : (j 0).val < 64 := (j 0).isLt
    refine rows_read (Memref.whole main_arg3) 448 n1 r1 hq1 kk j _ rfl ?_ rfl rfl
    show 64 * (4 * ((64 + (j 0).val) / 64) + 3) + (64 + (j 0).val) % 64 = 448 + (j 0).val
    omega
  · intro j
    have hj : (j 0).val < 64 := (j 0).isLt
    refine rows_read (Memref.whole main_arg3) 704 n2 r2 hq2 kk j _ rfl ?_ rfl rfl
    show 64 * (4 * ((128 + (j 0).val) / 64) + 3) + (128 + (j 0).val) % 64 = 704 + (j 0).val
    omega
  · intro j
    have hj : (j 0).val < 64 := (j 0).isLt
    refine rows_read (Memref.whole main_arg3) 960 n3 r3 hq3 kk j _ rfl ?_ rfl rfl
    show 64 * (4 * ((192 + (j 0).val) / 64) + 3) + (192 + (j 0).val) % 64 = 960 + (j 0).val
    omega
theorem l_pieces (c : Dev nD) (f : Buf (Elt F) ((c : Thread nD τ).loc cc0_scratch1)) (a0 a1 a2 a3 b0 b1 b2 b3 : Vec F S8x256 .f32) (i0 i1 i2 i3) (e0 : a0 = b0) (e1 : a1 = b1) (e2 : a2 = b2) (e3 : a3 = b3) :
    (((View.loc (c : Thread nD τ) (Memref.whole cc0_scratch1).view) ↦{fullShare} ((Memref.whole cc0_scratch1).view.writes (Elt F) f [⟨Rect.unit (s := S8x1024) ![0, 768] S8x256.size i3, a3⟩, ⟨Rect.unit (s := S8x1024) ![0, 512] S8x256.size i2, a2⟩, ⟨Rect.unit (s := S8x1024) ![0, 256] S8x256.size i1, a1⟩, ⟨Rect.unit (s := S8x1024) ![0, 0] S8x256.size i0, a0⟩])) : sProp 𝕄)
      ⊢ ((View.loc (c : Thread nD τ) (Memref.whole cc0_scratch1).view) ↦{fullShare} ((Memref.whole cc0_scratch1).view.writes (Elt F) f [⟨Rect.unit (s := S8x1024) ![0, 768] S8x256.size i3, b3⟩, ⟨Rect.unit (s := S8x1024) ![0, 512] S8x256.size i2, b2⟩, ⟨Rect.unit (s := S8x1024) ![0, 256] S8x256.size i1, b1⟩, ⟨Rect.unit (s := S8x1024) ![0, 0] S8x256.size i0, b0⟩])) := by
  subst e0 e1 e2 e3; exact Entails.rfl
end Cert.KernelIdeal.Values
end
-- ==== Proof.Reads.lean ====
module
public import proofs.«01_k».proof.Proof.Values
@[expose] public section
/-! Loads of whole buffers. -/
noncomputable section

namespace Cert.KernelIdeal.Values
open Cert.KernelIdeal Cert.KernelIdeal.Gen
open Idealize.ShloMosaic
open Idealize.ShloMosaic.TcCoe
open Idealize.SL Idealize.SL.RA Idealize.SL.BI
open scoped Idealize.SL.BI
open Idealize.SL.BI.BIBase
open Cert.KernelIdeal.Exchange
open Idealize.ShloMosaic.ValueIdx
variable {F : FTy → Type} [FloatOps F]
local notation "𝕄" => MT nD τ sig Unit (Elt F) ℕ UU ℕ

omit [FloatOps F]
theorem read_full11 (f : Vec F S256x1024 .bf16) : View.readAt (Elt F) (Memref.whole cc0_scratch11).view (Rect.unit ![0, 0] S256x1024.size inb_S256x1024_S256x1024_0_0).toLoadRect f = f := Memref.readAt_unit_zero (Elt F) cc0_scratch11 (by decide) _ f
theorem read_full12 (f : Vec F S256x1024 .bf16) : View.readAt (Elt F) (Memref.whole cc0_scratch12).view (Rect.unit ![0, 0] S256x1024.size inb_S256x1024_S256x1024_0_0).toLoadRect f = f := Memref.readAt_unit_zero (Elt F) cc0_scratch12 (by decide) _ f
theorem read_full13 (f : Vec F S256x1024 .bf16) : View.readAt (Elt F) (Memref.whole cc0_scratch13).view (Rect.unit ![0, 0] S256x1024.size inb_S256x1024_S256x1024_0_0).toLoadRect f = f := Memref.readAt_unit_zero (Elt F) cc0_scratch13 (by decide) _ f
theorem read_full14 (f : Vec F S256x1024 .bf16) : View.readAt (Elt F) (Memref.whole cc0_scratch14).view (Rect.unit ![0, 0] S256x1024.size inb_S256x1024_S256x1024_0_0).toLoadRect f = f := Memref.readAt_unit_zero (Elt F) cc0_scratch14 (by decide) _ f
theorem read_full15 (f : Vec F S256x1024 .bf16) : View.readAt (Elt F) (Memref.whole cc0_scratch15).view (Rect.unit ![0, 0] S256x1024.size inb_S256x1024_S256x1024_0_0).toLoadRect f = f := Memref.readAt_unit_zero (Elt F) cc0_scratch15 (by decide) _ f
theorem read_full16 (f : Vec F S256x1024 .bf16) : View.readAt (Elt F) (Memref.whole cc0_scratch16).view (Rect.unit ![0, 0] S256x1024.size inb_S256x1024_S256x1024_0_0).toLoadRect f = f := Memref.readAt_unit_zero (Elt F) cc0_scratch16 (by decide) _ f
theorem read_full17 (f : Vec F S256x1024 .bf16) : View.readAt (Elt F) (Memref.whole cc0_scratch17).view (Rect.unit ![0, 0] S256x1024.size inb_S256x1024_S256x1024_0_0).toLoadRect f = f := Memref.readAt_unit_zero (Elt F) cc0_scratch17 (by decide) _ f
theorem read_full18 (f : Vec F S256x1024 .bf16) : View.readAt (Elt F) (Memref.whole cc0_scratch18).view (Rect.unit ![0, 0] S256x1024.size inb_S256x1024_S256x1024_0_0).toLoadRect f = f := Memref.readAt_unit_zero (Elt F) cc0_scratch18 (by decide) _ f
theorem read_full27 (f : Vec F S256x1024 .bf16) : View.readAt (Elt F) (Memref.whole cc0_scratch27).view (Rect.unit ![0, 0] S256x1024.size inb_S256x1024_S256x1024_0_0).toLoadRect f = f := Memref.readAt_unit_zero (Elt F) cc0_scratch27 (by decide) _ f
theorem read_full28 (f : Vec F S256x1024 .bf16) : View.readAt (Elt F) (Memref.whole cc0_scratch28).view (Rect.unit ![0, 0] S256x1024.size inb_S256x1024_S256x1024_0_0).toLoadRect f = f := Memref.readAt_unit_zero (Elt F) cc0_scratch28 (by decide) _ f
theorem read_full29 (f : Vec F S256x1024 .bf16) : View.readAt (Elt F) (Memref.whole cc0_scratch29).view (Rect.unit ![0, 0] S256x1024.size inb_S256x1024_S256x1024_0_0).toLoadRect f = f := Memref.readAt_unit_zero (Elt F) cc0_scratch29 (by decide) _ f
theorem read_full30 (f : Vec F S256x1024 .bf16) : View.readAt (Elt F) (Memref.whole cc0_scratch30).view (Rect.unit ![0, 0] S256x1024.size inb_S256x1024_S256x1024_0_0).toLoadRect f = f := Memref.readAt_unit_zero (Elt F) cc0_scratch30 (by decide) _ f
theorem read_full31 (f : Vec F S256x1024 .bf16) : View.readAt (Elt F) (Memref.whole cc0_scratch31).view (Rect.unit ![0, 0] S256x1024.size inb_S256x1024_S256x1024_0_0).toLoadRect f = f := Memref.readAt_unit_zero (Elt F) cc0_scratch31 (by decide) _ f
theorem read_full32 (f : Vec F S256x1024 .bf16) : View.readAt (Elt F) (Memref.whole cc0_scratch32).view (Rect.unit ![0, 0] S256x1024.size inb_S256x1024_S256x1024_0_0).toLoadRect f = f := Memref.readAt_unit_zero (Elt F) cc0_scratch32 (by decide) _ f
theorem read_full33 (f : Vec F S256x1024 .bf16) : View.readAt (Elt F) (Memref.whole cc0_scratch33).view (Rect.unit ![0, 0] S256x1024.size inb_S256x1024_S256x1024_0_0).toLoadRect f = f := Memref.readAt_unit_zero (Elt F) cc0_scratch33 (by decide) _ f
theorem read_full34 (f : Vec F S256x1024 .bf16) : View.readAt (Elt F) (Memref.whole cc0_scratch34).view (Rect.unit ![0, 0] S256x1024.size inb_S256x1024_S256x1024_0_0).toLoadRect f = f := Memref.readAt_unit_zero (Elt F) cc0_scratch34 (by decide) _ f
theorem read_full19 (f : Vec F S8x256 .f32) : View.readAt (Elt F) (Memref.whole cc0_scratch19).view (Rect.unit ![0, 0] S8x256.size inb_S8x256_S8x256_0_0).toLoadRect f = f := Memref.readAt_unit_zero (Elt F) cc0_scratch19 (by decide) _ f
theorem read_full20 (f : Vec F S8x256 .f32) : View.readAt (Elt F) (Memref.whole cc0_scratch20).view (Rect.unit ![0, 0] S8x256.size inb_S8x256_S8x256_0_0).toLoadRect f = f := Memref.readAt_unit_zero (Elt F) cc0_scratch20 (by decide) _ f
theorem read_full21 (f : Vec F S8x256 .f32) : View.readAt (Elt F) (Memref.whole cc0_scratch21).view (Rect.unit ![0, 0] S8x256.size inb_S8x256_S8x256_0_0).toLoadRect f = f := Memref.readAt_unit_zero (Elt F) cc0_scratch21 (by decide) _ f
theorem read_full22 (f : Vec F S8x256 .f32) : View.readAt (Elt F) (Memref.whole cc0_scratch22).view (Rect.unit ![0, 0] S8x256.size inb_S8x256_S8x256_0_0).toLoadRect f = f := Memref.readAt_unit_zero (Elt F) cc0_scratch22 (by decide) _ f
theorem read_full23 (f : Vec F S8x256 .f32) : View.readAt (Elt F) (Memref.whole cc0_scratch23).view (Rect.unit ![0, 0] S8x256.size inb_S8x256_S8x256_0_0).toLoadRect f = f := Memref.readAt_unit_zero (Elt F) cc0_scratch23 (by decide) _ f
theorem read_full24 (f : Vec F S8x256 .f32) : View.readAt (Elt F) (Memref.whole cc0_scratch24).view (Rect.unit ![0, 0] S8x256.size inb_S8x256_S8x256_0_0).toLoadRect f = f := Memref.readAt_unit_zero (Elt F) cc0_scratch24 (by decide) _ f
theorem read_full25 (f : Vec F S8x256 .f32) : View.readAt (Elt F) (Memref.whole cc0_scratch25).view (Rect.unit ![0, 0] S8x256.size inb_S8x256_S8x256_0_0).toLoadRect f = f := Memref.readAt_unit_zero (Elt F) cc0_scratch25 (by decide) _ f
theorem read_full26 (f : Vec F S8x256 .f32) : View.readAt (Elt F) (Memref.whole cc0_scratch26).view (Rect.unit ![0, 0] S8x256.size inb_S8x256_S8x256_0_0).toLoadRect f = f := Memref.readAt_unit_zero (Elt F) cc0_scratch26 (by decide) _ f
theorem read_full35 (f : Vec F S8x256 .f32) : View.readAt (Elt F) (Memref.whole cc0_scratch35).view (Rect.unit ![0, 0] S8x256.size inb_S8x256_S8x256_0_0).toLoadRect f = f := Memref.readAt_unit_zero (Elt F) cc0_scratch35 (by decide) _ f
theorem read_full36 (f : Vec F S8x256 .f32) : View.readAt (Elt F) (Memref.whole cc0_scratch36).view (Rect.unit ![0, 0] S8x256.size inb_S8x256_S8x256_0_0).toLoadRect f = f := Memref.readAt_unit_zero (Elt F) cc0_scratch36 (by decide) _ f
theorem read_full37 (f : Vec F S8x256 .f32) : View.readAt (Elt F) (Memref.whole cc0_scratch37).view (Rect.unit ![0, 0] S8x256.size inb_S8x256_S8x256_0_0).toLoadRect f = f := Memref.readAt_unit_zero (Elt F) cc0_scratch37 (by decide) _ f
theorem read_full38 (f : Vec F S8x256 .f32) : View.readAt (Elt F) (Memref.whole cc0_scratch38).view (Rect.unit ![0, 0] S8x256.size inb_S8x256_S8x256_0_0).toLoadRect f = f := Memref.readAt_unit_zero (Elt F) cc0_scratch38 (by decide) _ f
theorem read_full39 (f : Vec F S8x256 .f32) : View.readAt (Elt F) (Memref.whole cc0_scratch39).view (Rect.unit ![0, 0] S8x256.size inb_S8x256_S8x256_0_0).toLoadRect f = f := Memref.readAt_unit_zero (Elt F) cc0_scratch39 (by decide) _ f
theorem read_full40 (f : Vec F S8x256 .f32) : View.readAt (Elt F) (Memref.whole cc0_scratch40).view (Rect.unit ![0, 0] S8x256.size inb_S8x256_S8x256_0_0).toLoadRect f = f := Memref.readAt_unit_zero (Elt F) cc0_scratch40 (by decide) _ f
theorem read_full41 (f : Vec F S8x256 .f32) : View.readAt (Elt F) (Memref.whole cc0_scratch41).view (Rect.unit ![0, 0] S8x256.size inb_S8x256_S8x256_0_0).toLoadRect f = f := Memref.readAt_unit_zero (Elt F) cc0_scratch41 (by decide) _ f
theorem read_full42 (f : Vec F S8x256 .f32) : View.readAt (Elt F) (Memref.whole cc0_scratch42).view (Rect.unit ![0, 0] S8x256.size inb_S8x256_S8x256_0_0).toLoadRect f = f := Memref.readAt_unit_zero (Elt F) cc0_scratch42 (by decide) _ f
end Cert.KernelIdeal.Values
end
-- ==== Proof.Pieces.lean ====
module
public import proofs.«01_k».proof.Proof.Reads
public import Idealize.ShloMosaic.Lib.ValueLayout
@[expose] public section
/-! The sixteen row blocks of the result: what each copy out of the staging buffer carries, and that together they write every row. -/
noncomputable section

namespace Cert.KernelIdeal.Exchange
open Cert.KernelIdeal Cert.KernelIdeal.Gen Cert.KernelIdeal.Values
open Idealize.ShloMosaic
open Idealize.ShloMosaic.TcCoe
open Idealize.SL Idealize.SL.RA Idealize.SL.BI
open scoped Idealize.SL.BI
open Idealize.SL.BI.BIBase
open Idealize.ShloMosaic.ValueIdx
variable {F : FTy → Type} [FloatOps F]
local notation "𝕄" => MT nD τ sig Unit (Elt F) ℕ UU ℕ
variable (C : Carried F)

/-- The output row `64 (4 a + q) + j` of device `c`: row `64 a + j` of group `q`'s. -/
def outAll (c : Dev nD) (wo : Vec F S1024x1024 .f32) : Vec F S1x1024x1024 .f32 := fun i =>
  let q : Fin 4 := ⟨(i 1).val / 64 % 4, Nat.mod_lt _ (by decide)⟩
  outOf wo (C.c2 c q) (C.c2 (if q.val % 2 = 0 then py c else px c) q) (C.l2 c q) (C.l2 (if q.val % 2 = 0 then py c else px c) q)
    (ix2 (⟨64 * ((i 1).val / 256) + (i 1).val % 64, by have : (i 1).val < 1024 := (i 1).isLt; omega⟩ : Fin 256) (⟨(i 2).val, (i 2).isLt⟩ : Fin 1024))

/-- One row block written into the result. -/
abbrev putRows (R : ℕ) (inb : ∀ a : Fin 3, (![0, R, 0] : Fin 3 → ℕ) a + S1x64x1024.size a ≤ S1x1024x1024.size a) (pf : ∀ a, (Rect.unit (s := S1x1024x1024) ![0, R, 0] S1x64x1024.size inb).stride a = 1)
    (f : Vec F S1x1024x1024 .f32) (w : Vec F S64x1024 .f32) : Vec F S1x1024x1024 .f32 :=
  View.write (Elt F) (((Memref.whole main_v1).slice (Rect.unit (s := S1x1024x1024) ![0, R, 0] S1x64x1024.size inb) pf).squeeze S64x1024 squeezes_S1x64x1024_S64x1024).view f w Finset.univ

theorem putRows_apply (n R : ℕ) (hR : R = 64 * n) (hn : n < 16) (inb) (pf) (f : Vec F S1x1024x1024 .f32) (w : Vec F S64x1024 .f32) (G : Vec F S1x1024x1024 .f32)
    (hw : ∀ (a : Fin 64) (b : Fin 1024), w (ix2 a b) = G (ix3 (0 : Fin 1) (⟨R + a.val, by have := a.isLt; omega⟩ : Fin 1024) b)) (i : S1x1024x1024.Idx) :
    putRows R inb pf f w i = if (i 1).val / 64 = n then G i else f i := by
  have e : putRows R inb pf f w = (Memref.whole main_v1).view.writes (Elt F) f [⟨Rect.unit (s := S1x1024x1024) ![0, R, 0] S1x64x1024.size inb, fun x => w ((Shape.reshapeEquiv squeezes_S1x64x1024_S64x1024.numel_eq).symm x)⟩] :=
    View.write_reshape_univ _ _ _ _
  have hi0 : (i 0).val = 0 := by have h : (i 0).val < 1 := (i 0).isLt; omega
  have hi1 : (i 1).val < 1024 := (i 1).isLt
  have hi2 : (i 2).val < 1024 := (i 2).isLt
  have hread : ∀ g : Vec F S1x1024x1024 .f32, View.read (Elt F) (Memref.whole main_v1).view g = g := fun _ => rfl
  rw [e]
  split
  · rename_i h
    let a : Fin 64 := ⟨(i 1).val - R, by omega⟩
    let b : Fin 1024 := ⟨(i 2).val, hi2⟩
    have key := View.read_writes_cons_unit_of_mem (Memref.whole main_v1).view f inb (fun x => w ((Shape.reshapeEquiv squeezes_S1x64x1024_S64x1024.numel_eq).symm x)) [] i (ix3 (0 : Fin 1) a b) rfl
      (by intro k; match k with
          | ⟨0, _⟩ => exact hi0.trans (by rfl)
          | ⟨1, _⟩ => show (i 1).val = R + ((i 1).val - R); omega
          | ⟨2, _⟩ => show (i 2).val = 0 + (i 2).val; omega)
    refine (congrFun (hread _).symm i).trans (key.trans ?_)
    have hs : (Shape.reshapeEquiv squeezes_S1x64x1024_S64x1024.numel_eq).symm (ix3 (0 : Fin 1) a b) = (ix2 a b : S64x1024.Idx) :=
      (Equiv.symm_apply_eq _).mpr (reshapeEquiv_ix2_1ab _ a b).symm
    show w ((Shape.reshapeEquiv squeezes_S1x64x1024_S64x1024.numel_eq).symm (ix3 (0 : Fin 1) a b)) = _
    rw [hs, hw a b]
    refine congrArg G (funext fun k => ?_)
    match k with
    | ⟨0, _⟩ => exact Fin.ext hi0.symm
    | ⟨1, _⟩ => exact Fin.ext (by show R + ((i 1).val - R) = (i 1).val; omega)
    | ⟨2, _⟩ => rfl
  · rename_i h
    refine (congrFun (hread _).symm i).trans ((View.read_writes_cons_unit_of_not_mem (Memref.whole main_v1).view f inb (fun x => w ((Shape.reshapeEquiv squeezes_S1x64x1024_S64x1024.numel_eq).symm x)) [] i rfl 1 (by
      show (i 1).val < R ∨ R + 64 ≤ (i 1).val
      omega)).trans (congrFun (hread f) i))

/-- Rows of the staging buffer's newest piece. -/
theorem stage_rows (o p : ℕ) (d : ℕ) (hp : p = o + d) (inb) (pf) (inb') (f2 : Vec F S1024x1024 .f32) (pay : Vec F S256x1024 .f32) (L : List (View.Piece (Elt F) S1024x1024 .f32))
    (a : Fin 64) (b : Fin 1024) (ha : d + a.val < 256) :
    ReadAs.same.apply (View.read (Elt F) ((Memref.whole cc0_scratch2).slice (Rect.unit (s := S1024x1024) ![p, 0] S64x1024.size inb) pf).view
      ((Memref.whole cc0_scratch2).view.writes (Elt F) f2 (⟨Rect.unit (s := S1024x1024) ![o, 0] S256x1024.size inb', pay⟩ :: L))) (ix2 a b : S64x1024.Idx)
    = pay (ix2 (⟨d + a.val, ha⟩ : Fin 256) b) := by
  refine View.read_writes_cons_unit_of_mem (Memref.whole cc0_scratch2).view f2 inb' pay L ((Rect.unit (s := S1024x1024) ![p, 0] S64x1024.size inb).emb (ix2 a b)) (ix2 (⟨d + a.val, ha⟩ : Fin 256) b) rfl ?_
  intro k
  match k with
  | ⟨0, _⟩ => show p + 1 * a.val = o + (d + a.val); omega
  | ⟨1, _⟩ => show 0 + 1 * b.val = 0 + b.val; omega

theorem out_rows (c : Dev nD) (wo : Vec F S1024x1024 .f32) (q : Fin 4) (t : ℕ) (ht : t < 4) (d R : ℕ) (hd : d = 64 * t) (hR : R = 64 * (4 * t + q.val)) (a : Fin 64) (b : Fin 1024) :
    outAll C c wo (ix3 (0 : Fin 1) (⟨R + a.val, by have := a.isLt; have := q.isLt; omega⟩ : Fin 1024) b)
      = outOf wo (C.c2 c q) (C.c2 (if q.val % 2 = 0 then py c else px c) q) (C.l2 c q) (C.l2 (if q.val % 2 = 0 then py c else px c) q)
        (ix2 (⟨d + a.val, by have := a.isLt; omega⟩ : Fin 256) b) := by
  have ha := a.isLt
  have hq := q.isLt
  have gen : ∀ (q' : Fin 4) (r r' : Fin 256), q' = q → r = r' →
      outOf wo (C.c2 c q') (C.c2 (if q'.val % 2 = 0 then py c else px c) q') (C.l2 c q') (C.l2 (if q'.val % 2 = 0 then py c else px c) q') (ix2 r b)
      = outOf wo (C.c2 c q) (C.c2 (if q.val % 2 = 0 then py c else px c) q) (C.l2 c q) (C.l2 (if q.val % 2 = 0 then py c else px c) q) (ix2 r' b) := by
    intro q' r r' h h'; subst h; subst h'; rfl
  exact gen _ _ _ (Fin.ext (by show (R + a.val) / 64 % 4 = q.val; omega)) (Fin.ext (by show 64 * ((R + a.val) / 256) + (R + a.val) % 64 = d + a.val; omega))

/-- A copy out of the staging buffer carries its rows of the result. -/
theorem carries (c : Dev nD) (wo : Vec F S1024x1024 .f32) (q : Fin 4) (t : ℕ) (ht : t < 4) (o p R : ℕ) (hp : p = o + 64 * t) (hR : R = 64 * (4 * t + q.val)) (inb) (pf) (inb')
    (f2 : Vec F S1024x1024 .f32) (pay : Vec F S256x1024 .f32) (L : List (View.Piece (Elt F) S1024x1024 .f32)) (pr : Dev nD) (hpr : (if q.val % 2 = 0 then py c else px c) = pr)
    (e : pay = outOf wo (C.c2 c q) (C.c2 pr q) (C.l2 c q) (C.l2 pr q)) (a : Fin 64) (b : Fin 1024) :
    ReadAs.same.apply (View.read (Elt F) ((Memref.whole cc0_scratch2).slice (Rect.unit (s := S1024x1024) ![p, 0] S64x1024.size inb) pf).view
      ((Memref.whole cc0_scratch2).view.writes (Elt F) f2 (⟨Rect.unit (s := S1024x1024) ![o, 0] S256x1024.size inb', pay⟩ :: L))) (ix2 a b : S64x1024.Idx)
    = outAll C c wo (ix3 (0 : Fin 1) (⟨R + a.val, by have := a.isLt; have := q.isLt; omega⟩ : Fin 1024) b) := by
  subst hpr
  rw [stage_rows o p (64 * t) hp inb pf inb' f2 pay L a b (by have := a.isLt; omega), out_rows C c wo q t ht (64 * t) R rfl hR a b, e]

theorem out0 {w : FVec F S1024x1024 .bf16} {wo : Vec F S1024x1024 .f32} {A B a b : Vec F S256x1024 .bf16} {M L l l' : Vec F S8x256 .f32} (ew : w = k0_pay155 wo) (eA : A = a) (eB : B = b) (eM : M = l) (eL : L = l') :
    k0_pay156 w A B M L = outOf wo a b l l' := by subst ew eA eB eM eL; rfl
theorem out1 {w : FVec F S1024x1024 .bf16} {wo : Vec F S1024x1024 .f32} {A B a b : Vec F S256x1024 .bf16} {M L l l' : Vec F S8x256 .f32} (ew : w = k0_pay155 wo) (eA : A = a) (eB : B = b) (eM : M = l) (eL : L = l') :
    k0_pay158 w (k0_pay157 A) B M L = outOf wo a b l l' := by subst ew eA eB eM eL; rfl
theorem out2 {w : FVec F S1024x1024 .bf16} {wo : Vec F S1024x1024 .f32} {A B a b : Vec F S256x1024 .bf16} {M L l l' : Vec F S8x256 .f32} (ew : w = k0_pay155 wo) (eA : A = a) (eB : B = b) (eM : M = l) (eL : L = l') :
    k0_pay161 w (k0_pay159 M L) (k0_pay160 A B) = outOf wo a b l l' := by subst ew eA eB eM eL; rfl
theorem out3 {w : FVec F S1024x1024 .bf16} {wo : Vec F S1024x1024 .f32} {A B a b : Vec F S256x1024 .bf16} {M L l l' : Vec F S8x256 .f32} (ew : w = k0_pay155 wo) (eA : A = a) (eB : B = b) (eM : M = l) (eL : L = l') :
    k0_pay163 (k0_pay162 w A B M L) = outOf wo a b l l' := by subst ew eA eB eM eL; rfl

theorem sum_l139 {M L m l r : Vec F S8x256 .f32} (e1 : M = m) (e2 : L = l) (h : r = addL m l) : k0_pay139 M L = r := by subst e1 e2; exact h.symm
theorem sum_l143 {M L m l r : Vec F S8x256 .f32} (e1 : M = m) (e2 : L = l) (h : r = addL m l) : k0_pay143 M L = r := by subst e1 e2; exact h.symm
theorem sum_l148 {M L m l r : Vec F S8x256 .f32} (e1 : M = m) (e2 : L = l) (h : r = addL m l) : k0_pay148 M L = r := by subst e1 e2; exact h.symm
theorem sum_l152 {M L m l r : Vec F S8x256 .f32} (e1 : M = m) (e2 : L = l) (h : r = addL m l) : k0_pay152 M L = r := by subst e1 e2; exact h.symm
theorem sum_l150 {M L m l r : Vec F S8x256 .f32} (e1 : M = m) (e2 : L = l) (h : r = addL m l) : k0_pay150 M L = r := by subst e1 e2; exact h.symm

theorem wo_read (f0 : Vec F S1024x1024 .f32) (wo : Vec F S1024x1024 .f32) :
    View.readAt (Elt F) (Memref.whole cc0_scratch0).view (Rect.unit ![0, 0] S1024x1024.size inb_S1024x1024_S1024x1024_0_0).toLoadRect
      (View.write (Elt F) (Memref.whole cc0_scratch0).view f0 (ReadAs.same.apply (View.read (Elt F) (Memref.whole main_arg4).view wo)) Finset.univ) = wo := by
  refine (Memref.readAt_unit_zero (Elt F) cc0_scratch0 (by decide) _ _).trans ?_
  exact View.read_write_univ (v := (Memref.whole cc0_scratch0).view) f0 wo

/-- A load that misses a store's rectangle reads what the stores before it left. -/
theorem read_past (r : Rect S8x1024) (w : r.shape.Idx → Elt F .f32) (L : List (View.Piece (Elt F) S8x1024 .f32)) (B : LoadRect S8x1024) (h : LoadRect.disj r B = true) :
    (Memref.whole cc0_scratch1).view.readCov (⟨r, w⟩ :: L) B = (Memref.whole cc0_scratch1).view.readCov L B := by
  rw [View.readCov_eq_canon', View.readCov_eq_canon']
  funext j
  exact View.canon_cons_of_not_mem ⟨r, w⟩ L (LoadRect.idx_not_mem_of_disj h j)

theorem pt_change (c : Dev nD) (f : Buf (Elt F) ((c : Thread nD τ).loc main_v1)) {g : Buf (Elt F) ((c : Thread nD τ).loc main_v1)} (e : f = g) :
    (iprop(View.loc (c : Thread nD τ) (Memref.whole main_v1).view ↦{fullShare} f) : sProp 𝕄) ⊢ pt (F := F) c main_v1 g := by
  subst e; exact Entails.refl _

theorem all_rows (zz G : Vec F S1x1024x1024 .f32) (w0 w1 w2 w3 w4 w5 w6 w7 w8 w9 w10 w11 w12 w13 w14 w15 : Vec F S64x1024 .f32)
    (h0) (e0 : ∀ (a : Fin 64) (b : Fin 1024), w0 (ix2 a b) = G (ix3 (0 : Fin 1) (⟨0 + a.val, by have := a.isLt; omega⟩ : Fin 1024) b))
    (h1) (e1 : ∀ (a : Fin 64) (b : Fin 1024), w1 (ix2 a b) = G (ix3 (0 : Fin 1) (⟨256 + a.val, by have := a.isLt; omega⟩ : Fin 1024) b))
    (h2) (e2 : ∀ (a : Fin 64) (b : Fin 1024), w2 (ix2 a b) = G (ix3 (0 : Fin 1) (⟨512 + a.val, by have := a.isLt; omega⟩ : Fin 1024) b))
    (h3) (e3 : ∀ (a : Fin 64) (b : Fin 1024), w3 (ix2 a b) = G (ix3 (0 : Fin 1) (⟨768 + a.val, by have := a.isLt; omega⟩ : Fin 1024) b))
    (h4) (e4 : ∀ (a : Fin 64) (b : Fin 1024), w4 (ix2 a b) = G (ix3 (0 : Fin 1) (⟨64 + a.val, by have := a.isLt; omega⟩ : Fin 1024) b))
    (h5) (e5 : ∀ (a : Fin 64) (b : Fin 1024), w5 (ix2 a b) = G (ix3 (0 : Fin 1) (⟨320 + a.val, by have := a.isLt; omega⟩ : Fin 1024) b))
    (h6) (e6 : ∀ (a : Fin 64) (b : Fin 1024), w6 (ix2 a b) = G (ix3 (0 : Fin 1) (⟨576 + a.val, by have := a.isLt; omega⟩ : Fin 1024) b))
    (h7) (e7 : ∀ (a : Fin 64) (b : Fin 1024), w7 (ix2 a b) = G (ix3 (0 : Fin 1) (⟨832 + a.val, by have := a.isLt; omega⟩ : Fin 1024) b))
    (h8) (e8 : ∀ (a : Fin 64) (b : Fin 1024), w8 (ix2 a b) = G (ix3 (0 : Fin 1) (⟨128 + a.val, by have := a.isLt; omega⟩ : Fin 1024) b))
    (h9) (e9 : ∀ (a : Fin 64) (b : Fin 1024), w9 (ix2 a b) = G (ix3 (0 : Fin 1) (⟨384 + a.val, by have := a.isLt; omega⟩ : Fin 1024) b))
    (h10) (e10 : ∀ (a : Fin 64) (b : Fin 1024), w10 (ix2 a b) = G (ix3 (0 : Fin 1) (⟨640 + a.val, by have := a.isLt; omega⟩ : Fin 1024) b))
    (h11) (e11 : ∀ (a : Fin 64) (b : Fin 1024), w11 (ix2 a b) = G (ix3 (0 : Fin 1) (⟨896 + a.val, by have := a.isLt; omega⟩ : Fin 1024) b))
    (h12) (e12 : ∀ (a : Fin 64) (b : Fin 1024), w12 (ix2 a b) = G (ix3 (0 : Fin 1) (⟨192 + a.val, by have := a.isLt; omega⟩ : Fin 1024) b))
    (h13) (e13 : ∀ (a : Fin 64) (b : Fin 1024), w13 (ix2 a b) = G (ix3 (0 : Fin 1) (⟨448 + a.val, by have := a.isLt; omega⟩ : Fin 1024) b))
    (h14) (e14 : ∀ (a : Fin 64) (b : Fin 1024), w14 (ix2 a b) = G (ix3 (0 : Fin 1) (⟨704 + a.val, by have := a.isLt; omega⟩ : Fin 1024) b))
    (h15) (e15 : ∀ (a : Fin 64) (b : Fin 1024), w15 (ix2 a b) = G (ix3 (0 : Fin 1) (⟨960 + a.val, by have := a.isLt; omega⟩ : Fin 1024) b)) :
    (putRows 960 inb_S1x1024x1024_S1x64x1024_0_960_0 h15 (putRows 704 inb_S1x1024x1024_S1x64x1024_0_704_0 h14 (putRows 448 inb_S1x1024x1024_S1x64x1024_0_448_0 h13 (putRows 192 inb_S1x1024x1024_S1x64x1024_0_192_0 h12 (putRows 896 inb_S1x1024x1024_S1x64x1024_0_896_0 h11 (putRows 640 inb_S1x1024x1024_S1x64x1024_0_640_0 h10 (putRows 384 inb_S1x1024x1024_S1x64x1024_0_384_0 h9 (putRows 128 inb_S1x1024x1024_S1x64x1024_0_128_0 h8 (putRows 832 inb_S1x1024x1024_S1x64x1024_0_832_0 h7 (putRows 576 inb_S1x1024x1024_S1x64x1024_0_576_0 h6 (putRows 320 inb_S1x1024x1024_S1x64x1024_0_320_0 h5 (putRows 64 inb_S1x1024x1024_S1x64x1024_0_64_0 h4 (putRows 768 inb_S1x1024x1024_S1x64x1024_0_768_0 h3 (putRows 512 inb_S1x1024x1024_S1x64x1024_0_512_0 h2 (putRows 256 inb_S1x1024x1024_S1x64x1024_0_256_0 h1 (putRows 0 inb_S1x1024x1024_S1x64x1024_0_0_0 h0 zz w0) w1) w2) w3) w4) w5) w6) w7) w8) w9) w10) w11) w12) w13) w14) w15) = G := by
  funext i
  have hi : (i 1).val / 64 < 16 := by have h : (i 1).val < 1024 := (i 1).isLt; omega
  rw [putRows_apply 15 960 (by decide) (by decide) _ h15 _ w15 G e15 i]
  split
  · rfl
  rw [putRows_apply 11 704 (by decide) (by decide) _ h14 _ w14 G e14 i]
  split
  · rfl
  rw [putRows_apply 7 448 (by decide) (by decide) _ h13 _ w13 G e13 i]
  split
  · rfl
  rw [putRows_apply 3 192 (by decide) (by decide) _ h12 _ w12 G e12 i]
  split
  · rfl
  rw [putRows_apply 14 896 (by decide) (by decide) _ h11 _ w11 G e11 i]
  split
  · rfl
  rw [putRows_apply 10 640 (by decide) (by decide) _ h10 _ w10 G e10 i]
  split
  · rfl
  rw [putRows_apply 6 384 (by decide) (by decide) _ h9 _ w9 G e9 i]
  split
  · rfl
  rw [putRows_apply 2 128 (by decide) (by decide) _ h8 _ w8 G e8 i]
  split
  · rfl
  rw [putRows_apply 13 832 (by decide) (by decide) _ h7 _ w7 G e7 i]
  split
  · rfl
  rw [putRows_apply 9 576 (by decide) (by decide) _ h6 _ w6 G e6 i]
  split
  · rfl
  rw [putRows_apply 5 320 (by decide) (by decide) _ h5 _ w5 G e5 i]
  split
  · rfl
  rw [putRows_apply 1 64 (by decide) (by decide) _ h4 _ w4 G e4 i]
  split
  · rfl
  rw [putRows_apply 12 768 (by decide) (by decide) _ h3 _ w3 G e3 i]
  split
  · rfl
  rw [putRows_apply 8 512 (by decide) (by decide) _ h2 _ w2 G e2 i]
  split
  · rfl
  rw [putRows_apply 4 256 (by decide) (by decide) _ h1 _ w1 G e1 i]
  split
  · rfl
  rw [putRows_apply 0 0 (by decide) (by decide) _ h0 _ w0 G e0 i]
  split
  · rfl
  omega

end Cert.KernelIdeal.Exchange
end
-- ==== Proof.Body.lean ====
module

public import proofs.«01_k».proof.Proof.Resources
public import proofs.«01_k».proof.Proof.Pieces
public import proofs.«01_k».proof.Proof.Gen.KernelIdeal.Skeleton

@[expose] public section

noncomputable section

namespace Cert.KernelIdeal.Exchange

open Cert.KernelIdeal Cert.KernelIdeal.Gen Cert.KernelIdeal.Values
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (C : Carried F) (K : Dev nD × Fin 33 → ℕ)
abbrev 𝒱₀ : Variants := Variants.none
attribute [local sl_rounds] duties_bar duties_send duties_recv amount_bar amount_send amount_recv expect_bar expect_send expect_recv payload_bar_px payload_bar_py payload_bar_at_px payload_bar_at_py px_px py_py
attribute [local sl_rounds] payload_send0 payload_recv0 amt_0
attribute [local sl_rounds] payload_send1 payload_recv1 amt_1
attribute [local sl_rounds] payload_send2 payload_recv2 amt_2
attribute [local sl_rounds] payload_send3 payload_recv3 amt_3
attribute [local sl_rounds] payload_send4 payload_recv4 amt_4
attribute [local sl_rounds] payload_send5 payload_recv5 amt_5
attribute [local sl_rounds] payload_send6 payload_recv6 amt_6
attribute [local sl_rounds] payload_send7 payload_recv7 amt_7
attribute [local sl_rounds] payload_send8 payload_recv8 amt_8
attribute [local sl_rounds] payload_send9 payload_recv9 amt_9
attribute [local sl_rounds] payload_send10 payload_recv10 amt_10
attribute [local sl_rounds] payload_send11 payload_recv11 amt_11
attribute [local sl_rounds] payload_send12 payload_recv12 amt_12
attribute [local sl_rounds] payload_send13 payload_recv13 amt_13
attribute [local sl_rounds] payload_send14 payload_recv14 amt_14
attribute [local sl_rounds] payload_send15 payload_recv15 amt_15

set_option maxRecDepth 100000 in
set_option maxHeartbeats 0 in
/-- The kernel's body at a symbolic device: it leaves its counters at zero, its scratch whole, its operands unchanged and the result written. -/
theorem body_run (c : Dev nD) (W : Waits sig Unit) (x : Buf (Elt F) ((c : Thread nD τ).loc cc0_stg0_0)) (wq : Buf (Elt F) ((c : Thread nD τ).loc cc0_stg1_0)) (kk : Buf (Elt F) ((c : Thread nD τ).loc main_arg2)) (vv : Buf (Elt F) ((c : Thread nD τ).loc main_arg3)) (wo : Buf (Elt F) ((c : Thread nD τ).loc main_arg4)) (zz : Buf (Elt F) ((c : Thread nD τ).loc main_v1))
    (hc1 : ∀ q, C.c1 c q = ctxOf (qG q x wq) (kG q kk) (vG q vv)) (hlo : ∀ q, C.l1 c q = lOf (qG q x wq) (kG q kk))
    (hc20 : C.c2 c 0 = addC (C.c1 c 0) (C.c1 (px c) 0)) (hl20 : C.l2 c 0 = addL (C.l1 c 0) (C.l1 (px c) 0))
    (hc21 : C.c2 c 1 = addC (C.c1 c 1) (C.c1 (py c) 1)) (hl21 : C.l2 c 1 = addL (C.l1 c 1) (C.l1 (py c) 1))
    (hc22 : C.c2 c 2 = addC (C.c1 c 2) (C.c1 (px c) 2)) (hl22 : C.l2 c 2 = addL (C.l1 c 2) (C.l1 (px c) 2))
    (hc23 : C.c2 c 3 = addC (C.c1 c 3) (C.c1 (py c) 3)) (hl23 : C.l2 c 3 = addL (C.l1 c 3) (C.l1 (py c) 3)) (Kt : PUnit → sProp 𝕄) :
    iprop((invs C K c ∗ marks c ∗ payToks c ∗ poss c) ∗ levAts L lv ∗ creds c ∗ locals c ∗ scr c
      ∗ pt (F := F) c cc0_stg0_0 x ∗ pt (F := F) c cc0_stg1_0 wq ∗ pt (F := F) c main_arg2 kk ∗ pt (F := F) c main_arg3 vv ∗ pt (F := F) c main_arg4 wo ∗ pt (F := F) c main_v1 zz
      ∗ owes (c : Thread nD τ) (owed₀ c) W ∗ (leaves c x wq kk vv wo (outAll C c wo) -∗ Kt ⟨⟩))
    ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole main_arg2) (Memref.isWhole_whole _) (Memref.whole main_arg3) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) (Memref.whole cc0_scratch32) (Memref.isWhole_whole _) (Memref.whole cc0_scratch33) (Memref.isWhole_whole _) (Memref.whole cc0_scratch34) (Memref.isWhole_whole _) (Memref.whole cc0_scratch35) (Memref.isWhole_whole _) (Memref.whole cc0_scratch36) (Memref.isWhole_whole _) (Memref.whole cc0_scratch37) (Memref.isWhole_whole _) (Memref.whole cc0_scratch38) (Memref.isWhole_whole _) (Memref.whole cc0_scratch39) (Memref.isWhole_whole _) (Memref.whole cc0_scratch40) (Memref.isWhole_whole _) (Memref.whole cc0_scratch41) (Memref.isWhole_whole _) (Memref.whole cc0_scratch42) (Memref.isWhole_whole _) cc0_scratch43 cc0_scratch44 cc0_scratch45 cc0_scratch46 cc0_scratch47) Kt := by
  have hd1 := dev1_eq c
  have hd2 := dev2_eq c
  have hd18 := dev18_eq c
  have hd17 := dev17_eq c
  have hd16 := dev16_eq c
  have hd15 := dev15_eq c
  have hd14 := dev14_eq c
  have hd13 := dev13_eq c
  have hd12 := dev12_eq c
  have hd11 := dev11_eq c
  have hd10 := dev10_eq c
  have hd9 := dev9_eq c
  have hd8 := dev8_eq c
  have hd7 := dev7_eq c
  have hd6 := dev6_eq c
  have hd5 := dev5_eq c
  have hd4 := dev4_eq c
  have hd3 := dev3_eq c
  have ho1 : left c 1 = tallyAt (recvCell (px c) 15) () nL := by rw [left_1 c, zero_add]
  have ho2 : left c 2 = tallyAt (recvCell (px c) 15) () nL + tallyAt (recvCell (px c) 7) () nC := by rw [left_2 c, left_1 c, zero_add]
  have ho3 : left c 3 = tallyAt (recvCell (px c) 15) () nL + tallyAt (recvCell (px c) 7) () nC + tallyAt (recvCell (py c) 14) () nL := by rw [left_3 c, left_2 c, left_1 c, zero_add]
  have ho4 : left c 4 = tallyAt (recvCell (px c) 15) () nL + tallyAt (recvCell (px c) 7) () nC + tallyAt (recvCell (py c) 14) () nL + tallyAt (recvCell (py c) 6) () nC := by rw [left_4 c, left_3 c, left_2 c, left_1 c, zero_add]
  have ho5 : left c 5 = tallyAt (recvCell (px c) 15) () nL + tallyAt (recvCell (px c) 7) () nC + tallyAt (recvCell (py c) 14) () nL + tallyAt (recvCell (py c) 6) () nC + tallyAt (recvCell (px c) 13) () nL := by rw [left_5 c, left_4 c, left_3 c, left_2 c, left_1 c, zero_add]
  have ho6 : left c 6 = tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC := by rw [left_6 c, left_5 c, left_4 c, left_3 c, left_2 c, left_1 c, zero_add]
  have ho7 : left c 7 = tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL := by rw [left_7 c, left_6 c, left_5 c, left_4 c, left_3 c, left_2 c, left_1 c, zero_add]
  have ho8 : left c 8 = tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC := by rw [left_8 c, left_7 c, left_6 c, left_5 c, left_4 c, left_3 c, left_2 c, left_1 c, zero_add]
  have ho9 : left c 9 = tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL := by rw [left_9 c, left_8 c, left_7 c, left_6 c, left_5 c, left_4 c, left_3 c, left_2 c, left_1 c, zero_add]
  have ho10 : left c 10 = tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC := by rw [left_10 c, left_9 c, left_8 c, left_7 c, left_6 c, left_5 c, left_4 c, left_3 c, left_2 c, left_1 c, zero_add]
  have ho11 : left c 11 = tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC + tallyAt (recvCell (px c) 10) () nL := by rw [left_11 c, left_10 c, left_9 c, left_8 c, left_7 c, left_6 c, left_5 c, left_4 c, left_3 c, left_2 c, left_1 c, zero_add]
  have ho12 : left c 12 = tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC + tallyAt (recvCell (px c) 10) () nL + tallyAt (recvCell (px c) 2) () nC := by rw [left_12 c, left_11 c, left_10 c, left_9 c, left_8 c, left_7 c, left_6 c, left_5 c, left_4 c, left_3 c, left_2 c, left_1 c, zero_add]
  have ho13 : left c 13 = tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC + tallyAt (recvCell (px c) 10) () nL + tallyAt (recvCell (px c) 2) () nC + tallyAt (recvCell (py c) 9) () nL := by rw [left_13 c, left_12 c, left_11 c, left_10 c, left_9 c, left_8 c, left_7 c, left_6 c, left_5 c, left_4 c, left_3 c, left_2 c, left_1 c, zero_add]
  have ho14 : left c 14 = tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC + tallyAt (recvCell (px c) 10) () nL + tallyAt (recvCell (px c) 2) () nC + tallyAt (recvCell (py c) 9) () nL + tallyAt (recvCell (py c) 1) () nC := by rw [left_14 c, left_13 c, left_12 c, left_11 c, left_10 c, left_9 c, left_8 c, left_7 c, left_6 c, left_5 c, left_4 c, left_3 c, left_2 c, left_1 c, zero_add]
  have ho15 : left c 15 = tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC + tallyAt (recvCell (px c) 10) () nL + tallyAt (recvCell (px c) 2) () nC + tallyAt (recvCell (py c) 9) () nL + tallyAt (recvCell (py c) 1) () nC + tallyAt (recvCell (px c) 8) () nL := by rw [left_15 c, left_14 c, left_13 c, left_12 c, left_11 c, left_10 c, left_9 c, left_8 c, left_7 c, left_6 c, left_5 c, left_4 c, left_3 c, left_2 c, left_1 c, zero_add]
  have ho16 : left c 16 = tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC + tallyAt (recvCell (px c) 10) () nL + tallyAt (recvCell (px c) 2) () nC + tallyAt (recvCell (py c) 9) () nL + tallyAt (recvCell (py c) 1) () nC + tallyAt (recvCell (px c) 8) () nL + tallyAt (recvCell (px c) 0) () nC := by rw [left_16 c, left_15 c, left_14 c, left_13 c, left_12 c, left_11 c, left_10 c, left_9 c, left_8 c, left_7 c, left_6 c, left_5 c, left_4 c, left_3 c, left_2 c, left_1 c, zero_add]
  have h16 : owed₀ c = tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC + tallyAt (recvCell (px c) 10) () nL + tallyAt (recvCell (px c) 2) () nC + tallyAt (recvCell (py c) 9) () nL + tallyAt (recvCell (py c) 1) () nC + tallyAt (recvCell (px c) 8) () nL + tallyAt (recvCell (px c) 0) () nC + tallyAt (barCell (py c)) () 1 + tallyAt (barCell (px c)) () 1 := by
    rw [← ho16]; rfl
  have hmb : (levAts L lv : sProp 𝕄) ⊢ MayWait (c : Thread nD τ) (.reg barS) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC + tallyAt (recvCell (px c) 10) () nL + tallyAt (recvCell (px c) 2) () nC + tallyAt (recvCell (py c) 9) () nL + tallyAt (recvCell (py c) 1) () nC + tallyAt (recvCell (px c) 8) () nL + tallyAt (recvCell (px c) 0) () nC) := by rw [← ho16]; exact may_bar (F := F) c
  have hsw0 : (levAts L lv : sProp 𝕄) ⊢ MayWait (c : Thread nD τ) (.dma (sendS 0)) () (left c 0) := may_low c (sendS 0) (low_of_lt (by decide)) 0 (by decide)
  have hsw1 : (levAts L lv : sProp 𝕄) ⊢ MayWait (c : Thread nD τ) (.dma (sendS 1)) () (left c 0) := may_low c (sendS 1) (low_of_lt (by decide)) 0 (by decide)
  have hsw2 : (levAts L lv : sProp 𝕄) ⊢ MayWait (c : Thread nD τ) (.dma (sendS 2)) () (left c 0) := may_low c (sendS 2) (low_of_lt (by decide)) 0 (by decide)
  have hsw3 : (levAts L lv : sProp 𝕄) ⊢ MayWait (c : Thread nD τ) (.dma (sendS 3)) () (left c 0) := may_low c (sendS 3) (low_of_lt (by decide)) 0 (by decide)
  have hsw4 : (levAts L lv : sProp 𝕄) ⊢ MayWait (c : Thread nD τ) (.dma (sendS 4)) () (left c 0) := may_low c (sendS 4) (low_of_lt (by decide)) 0 (by decide)
  have hsw5 : (levAts L lv : sProp 𝕄) ⊢ MayWait (c : Thread nD τ) (.dma (sendS 5)) () (left c 0) := may_low c (sendS 5) (low_of_lt (by decide)) 0 (by decide)
  have hsw6 : (levAts L lv : sProp 𝕄) ⊢ MayWait (c : Thread nD τ) (.dma (sendS 6)) () (left c 0) := may_low c (sendS 6) (low_of_lt (by decide)) 0 (by decide)
  have hsw7 : (levAts L lv : sProp 𝕄) ⊢ MayWait (c : Thread nD τ) (.dma (sendS 7)) () (left c 0) := may_low c (sendS 7) (low_of_lt (by decide)) 0 (by decide)
  have hsw8 : (levAts L lv : sProp 𝕄) ⊢ MayWait (c : Thread nD τ) (.dma (sendS 8)) () (left c 0) := may_low c (sendS 8) (low_of_lt (by decide)) 0 (by decide)
  have hsw9 : (levAts L lv : sProp 𝕄) ⊢ MayWait (c : Thread nD τ) (.dma (sendS 9)) () (left c 0) := may_low c (sendS 9) (low_of_lt (by decide)) 0 (by decide)
  have hsw10 : (levAts L lv : sProp 𝕄) ⊢ MayWait (c : Thread nD τ) (.dma (sendS 10)) () (left c 0) := may_low c (sendS 10) (low_of_lt (by decide)) 0 (by decide)
  have hsw11 : (levAts L lv : sProp 𝕄) ⊢ MayWait (c : Thread nD τ) (.dma (sendS 11)) () (left c 0) := may_low c (sendS 11) (low_of_lt (by decide)) 0 (by decide)
  have hsw12 : (levAts L lv : sProp 𝕄) ⊢ MayWait (c : Thread nD τ) (.dma (sendS 12)) () (left c 0) := may_low c (sendS 12) (low_of_lt (by decide)) 0 (by decide)
  have hsw13 : (levAts L lv : sProp 𝕄) ⊢ MayWait (c : Thread nD τ) (.dma (sendS 13)) () (left c 0) := may_low c (sendS 13) (low_of_lt (by decide)) 0 (by decide)
  have hsw14 : (levAts L lv : sProp 𝕄) ⊢ MayWait (c : Thread nD τ) (.dma (sendS 14)) () (left c 0) := may_low c (sendS 14) (low_of_lt (by decide)) 0 (by decide)
  have hsw15 : (levAts L lv : sProp 𝕄) ⊢ MayWait (c : Thread nD τ) (.dma (sendS 15)) () (left c 0) := may_low c (sendS 15) (low_of_lt (by decide)) 0 (by decide)
  have hrc0 : (levAts L lv : sProp 𝕄) ⊢ MayWait (c : Thread nD τ) (.dma (recvS 0)) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC) := by rw [← ho8]; exact may_recv (F := F) c 0 (by decide) 8 (by decide)
  have hrc8 : (levAts L lv : sProp 𝕄) ⊢ MayWait (c : Thread nD τ) (.dma (recvS 8)) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC) := by rw [← ho8]; exact may_recv (F := F) c 8 (by decide) 8 (by decide)
  have hrc1 : (levAts L lv : sProp 𝕄) ⊢ MayWait (c : Thread nD τ) (.dma (recvS 1)) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC) := by rw [← ho6]; exact may_recv (F := F) c 1 (by decide) 6 (by decide)
  have hrc9 : (levAts L lv : sProp 𝕄) ⊢ MayWait (c : Thread nD τ) (.dma (recvS 9)) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC) := by rw [← ho6]; exact may_recv (F := F) c 9 (by decide) 6 (by decide)
  have hrc2 : (levAts L lv : sProp 𝕄) ⊢ MayWait (c : Thread nD τ) (.dma (recvS 2)) () (tallyAt (recvCell (px c) 15) () nL + tallyAt (recvCell (px c) 7) () nC + tallyAt (recvCell (py c) 14) () nL + tallyAt (recvCell (py c) 6) () nC) := by rw [← ho4]; exact may_recv (F := F) c 2 (by decide) 4 (by decide)
  have hrc10 : (levAts L lv : sProp 𝕄) ⊢ MayWait (c : Thread nD τ) (.dma (recvS 10)) () (tallyAt (recvCell (px c) 15) () nL + tallyAt (recvCell (px c) 7) () nC + tallyAt (recvCell (py c) 14) () nL + tallyAt (recvCell (py c) 6) () nC) := by rw [← ho4]; exact may_recv (F := F) c 10 (by decide) 4 (by decide)
  have hrc3 : (levAts L lv : sProp 𝕄) ⊢ MayWait (c : Thread nD τ) (.dma (recvS 3)) () (tallyAt (recvCell (px c) 15) () nL + tallyAt (recvCell (px c) 7) () nC) := by rw [← ho2]; exact may_recv (F := F) c 3 (by decide) 2 (by decide)
  have hrc11 : (levAts L lv : sProp 𝕄) ⊢ MayWait (c : Thread nD τ) (.dma (recvS 11)) () (tallyAt (recvCell (px c) 15) () nL + tallyAt (recvCell (px c) 7) () nC) := by rw [← ho2]; exact may_recv (F := F) c 11 (by decide) 2 (by decide)
  have hlow1 : ∀ (s : DmaSem sig), s.val < 53 → ((levAts L lv : sProp 𝕄) ⊢ MayWait (c : Thread nD τ) (.dma s) () (tallyAt (recvCell (px c) 15) () nL)) := fun s h => by rw [← ho1]; exact may_low c s (low_of_lt h) 1 (by decide)
  have hlow2 : ∀ (s : DmaSem sig), s.val < 53 → ((levAts L lv : sProp 𝕄) ⊢ MayWait (c : Thread nD τ) (.dma s) () (tallyAt (recvCell (px c) 15) () nL + tallyAt (recvCell (px c) 7) () nC)) := fun s h => by rw [← ho2]; exact may_low c s (low_of_lt h) 2 (by decide)
  have hlow3 : ∀ (s : DmaSem sig), s.val < 53 → ((levAts L lv : sProp 𝕄) ⊢ MayWait (c : Thread nD τ) (.dma s) () (tallyAt (recvCell (px c) 15) () nL + tallyAt (recvCell (px c) 7) () nC + tallyAt (recvCell (py c) 14) () nL)) := fun s h => by rw [← ho3]; exact may_low c s (low_of_lt h) 3 (by decide)
  have hlow4 : ∀ (s : DmaSem sig), s.val < 53 → ((levAts L lv : sProp 𝕄) ⊢ MayWait (c : Thread nD τ) (.dma s) () (tallyAt (recvCell (px c) 15) () nL + tallyAt (recvCell (px c) 7) () nC + tallyAt (recvCell (py c) 14) () nL + tallyAt (recvCell (py c) 6) () nC)) := fun s h => by rw [← ho4]; exact may_low c s (low_of_lt h) 4 (by decide)
  have hlow5 : ∀ (s : DmaSem sig), s.val < 53 → ((levAts L lv : sProp 𝕄) ⊢ MayWait (c : Thread nD τ) (.dma s) () (tallyAt (recvCell (px c) 15) () nL + tallyAt (recvCell (px c) 7) () nC + tallyAt (recvCell (py c) 14) () nL + tallyAt (recvCell (py c) 6) () nC + tallyAt (recvCell (px c) 13) () nL)) := fun s h => by rw [← ho5]; exact may_low c s (low_of_lt h) 5 (by decide)
  have hlow6 : ∀ (s : DmaSem sig), s.val < 53 → ((levAts L lv : sProp 𝕄) ⊢ MayWait (c : Thread nD τ) (.dma s) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC)) := fun s h => by rw [← ho6]; exact may_low c s (low_of_lt h) 6 (by decide)
  have hlow7 : ∀ (s : DmaSem sig), s.val < 53 → ((levAts L lv : sProp 𝕄) ⊢ MayWait (c : Thread nD τ) (.dma s) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL)) := fun s h => by rw [← ho7]; exact may_low c s (low_of_lt h) 7 (by decide)
  have hlow8 : ∀ (s : DmaSem sig), s.val < 53 → ((levAts L lv : sProp 𝕄) ⊢ MayWait (c : Thread nD τ) (.dma s) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC)) := fun s h => by rw [← ho8]; exact may_low c s (low_of_lt h) 8 (by decide)
  have hlow9 : ∀ (s : DmaSem sig), s.val < 53 → ((levAts L lv : sProp 𝕄) ⊢ MayWait (c : Thread nD τ) (.dma s) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL)) := fun s h => by rw [← ho9]; exact may_low c s (low_of_lt h) 9 (by decide)
  have hlow10 : ∀ (s : DmaSem sig), s.val < 53 → ((levAts L lv : sProp 𝕄) ⊢ MayWait (c : Thread nD τ) (.dma s) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC)) := fun s h => by rw [← ho10]; exact may_low c s (low_of_lt h) 10 (by decide)
  have hlow11 : ∀ (s : DmaSem sig), s.val < 53 → ((levAts L lv : sProp 𝕄) ⊢ MayWait (c : Thread nD τ) (.dma s) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC + tallyAt (recvCell (px c) 10) () nL)) := fun s h => by rw [← ho11]; exact may_low c s (low_of_lt h) 11 (by decide)
  have hlow12 : ∀ (s : DmaSem sig), s.val < 53 → ((levAts L lv : sProp 𝕄) ⊢ MayWait (c : Thread nD τ) (.dma s) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC + tallyAt (recvCell (px c) 10) () nL + tallyAt (recvCell (px c) 2) () nC)) := fun s h => by rw [← ho12]; exact may_low c s (low_of_lt h) 12 (by decide)
  have hlow13 : ∀ (s : DmaSem sig), s.val < 53 → ((levAts L lv : sProp 𝕄) ⊢ MayWait (c : Thread nD τ) (.dma s) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC + tallyAt (recvCell (px c) 10) () nL + tallyAt (recvCell (px c) 2) () nC + tallyAt (recvCell (py c) 9) () nL)) := fun s h => by rw [← ho13]; exact may_low c s (low_of_lt h) 13 (by decide)
  have hlow14 : ∀ (s : DmaSem sig), s.val < 53 → ((levAts L lv : sProp 𝕄) ⊢ MayWait (c : Thread nD τ) (.dma s) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC + tallyAt (recvCell (px c) 10) () nL + tallyAt (recvCell (px c) 2) () nC + tallyAt (recvCell (py c) 9) () nL + tallyAt (recvCell (py c) 1) () nC)) := fun s h => by rw [← ho14]; exact may_low c s (low_of_lt h) 14 (by decide)
  have hlow15 : ∀ (s : DmaSem sig), s.val < 53 → ((levAts L lv : sProp 𝕄) ⊢ MayWait (c : Thread nD τ) (.dma s) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC + tallyAt (recvCell (px c) 10) () nL + tallyAt (recvCell (px c) 2) () nC + tallyAt (recvCell (py c) 9) () nL + tallyAt (recvCell (py c) 1) () nC + tallyAt (recvCell (px c) 8) () nL)) := fun s h => by rw [← ho15]; exact may_low c s (low_of_lt h) 15 (by decide)
  have hlow16 : ∀ (s : DmaSem sig), s.val < 53 → ((levAts L lv : sProp 𝕄) ⊢ MayWait (c : Thread nD τ) (.dma s) () (tallyAt (recvCell (px c) 15) () nL + tallyAt (recvCell (px c) 7) () nC + tallyAt (recvCell (py c) 14) () nL + tallyAt (recvCell (py c) 6) () nC + tallyAt (recvCell (px c) 13) () nL + tallyAt (recvCell (px c) 5) () nC + tallyAt (recvCell (py c) 12) () nL + tallyAt (recvCell (py c) 4) () nC + tallyAt (recvCell (py c) 11) () nL + tallyAt (recvCell (py c) 3) () nC + tallyAt (recvCell (px c) 10) () nL + tallyAt (recvCell (px c) 2) () nC + tallyAt (recvCell (py c) 9) () nL + tallyAt (recvCell (py c) 1) () nC + tallyAt (recvCell (px c) 8) () nL + tallyAt (recvCell (px c) 0) () nC)) := fun s h => by rw [← ho16]; exact may_low c s (low_of_lt h) 16 (by decide)
  unfold invs marks payToks poss creds locals scr
  iintro ⟨⟨⟨#Ib, #Ibx, #Iby, #Is0, #Is1, #Is2, #Is3, #Is4, #Is5, #Is6, #Is7, #Is8, #Is9, #Is10, #Is11, #Is12, #Is13, #Is14, #Is15, #Ir0, #Ir1, #Ir2, #Ir3, #Ir4, #Ir5, #Ir6, #Ir7, #Ir8, #Ir9, #Ir10, #Ir11, #Ir12, #Ir13, #Ir14, #Ir15, #Ip0, #Ip1, #Ip2, #Ip3, #Ip4, #Ip5, #Ip6, #Ip7, #Ip8, #Ip9, #Ip10, #Ip11, #Ip12, #Ip13, #Ip14, #Ip15⟩, ⟨#Rbx, #Rby, #Rs0, #Rs1, #Rs2, #Rs3, #Rs4, #Rs5, #Rs6, #Rs7, #Rs8, #Rs9, #Rs10, #Rs11, #Rs12, #Rs13, #Rs14, #Rs15, #Rp0, #Rp1, #Rp2, #Rp3, #Rp4, #Rp5, #Rp6, #Rp7, #Rp8, #Rp9, #Rp10, #Rp11, #Rp12, #Rp13, #Rp14, #Rp15⟩, ⟨Tbx, Tby, Ts0, Ts1, Ts2, Ts3, Ts4, Ts5, Ts6, Ts7, Ts8, Ts9, Ts10, Ts11, Ts12, Ts13, Ts14, Ts15, Tp0, Tp1, Tp2, Tp3, Tp4, Tp5, Tp6, Tp7, Tp8, Tp9, Tp10, Tp11, Tp12, Tp13, Tp14, Tp15⟩, ⟨Ab, As0, As1, As2, As3, As4, As5, As6, As7, As8, As9, As10, As11, As12, As13, As14, As15, Ar0, Ar1, Ar2, Ar3, Ar4, Ar5, Ar6, Ar7, Ar8, Ar9, Ar10, Ar11, Ar12, Ar13, Ar14, Ar15⟩⟩, #Lv, ⟨Cb, Cr0, Cr1, Cr2, Cr3, Cr4, Cr5, Cr6, Cr7, Cr8, Cr9, Cr10, Cr11, Cr12, Cr13, Cr14, Cr15⟩, ⟨S2, S3, S4, S5, S6, S7, S8, S9, S10, S11, S12, S13, S14, S15, S16, S17, S18, S19, S20, S21, S22, S23, S24, S25, S26, S27, S28, S29, S30, S31, S32, S33, S34, S35, S36, S69, S70, S71, S72, S73, S74, S75, S76, S77, S78, S79, S80, S81, S82, S83, S84⟩, ⟨⟨%f0, X0⟩, ⟨%f1, X1⟩, ⟨%f2, X2⟩, ⟨%f3, X3⟩, ⟨%f4, X4⟩, ⟨%f5, X5⟩, ⟨%f6, X6⟩, ⟨%f7, X7⟩, ⟨%f8, X8⟩, ⟨%f9, X9⟩, ⟨%f10, X10⟩, ⟨%f11, X11⟩, ⟨%f12, X12⟩, ⟨%f13, X13⟩, ⟨%f14, X14⟩, ⟨%f15, X15⟩, ⟨%f16, X16⟩, ⟨%f17, X17⟩, ⟨%f18, X18⟩, ⟨%f19, X19⟩, ⟨%f20, X20⟩, ⟨%f21, X21⟩, ⟨%f22, X22⟩, ⟨%f23, X23⟩, ⟨%f24, X24⟩, ⟨%f25, X25⟩, ⟨%f26, X26⟩, LX, LY⟩, Hx, Hq, Hk, Hv, Hw, Hz, Ho, HK⟩
  rw [h16]
  set_option sl_exec.dmaWindow true in
  (set_option sl_exec.stopBefore "k0_part9" in sl_exec_parts)
  ihave Hpx := (Entails.of_eq (both_bar C c)) $$ Ab_pay1
  icases Hpx with ⟨LX, LY⟩
  ihave LX := (Entails.of_eq (landX_eq (F := F) (px c))) $$ LX
  ihave LY := (Entails.of_eq (landY_eq (F := F) (py c))) $$ LY
  icases LX with ⟨⟨%g0, P0⟩, ⟨%g8, P8⟩, ⟨%g2, P2⟩, ⟨%g10, P10⟩, ⟨%g5, P5⟩, ⟨%g13, P13⟩, ⟨%g7, P7⟩, ⟨%g15, P15⟩⟩
  icases LY with ⟨⟨%g1, P1⟩, ⟨%g9, P9⟩, ⟨%g3, P3⟩, ⟨%g11, P11⟩, ⟨%g4, P4⟩, ⟨%g12, P12⟩, ⟨%g6, P6⟩, ⟨%g14, P14⟩⟩
  (set_option sl_exec.stopBefore "k0_part14" in sl_exec_parts!)
  (set_option sl_exec.maxSteps 5 in sl_exec_parts!)
  have eq0 : body_run.sl.r_1 c x wq = qG 0 x wq := qG_lit0 x wq _ _ _ _ _
  have ek0 : body_run.sl.r_2 c kk = kG 0 kk := kG_lit0 kk _ _ _ _ _ _ _ _ _ _ _ _ _ _ _ _ _
  have ev0 : body_run.sl.r_3 c vv = vG 0 vv := vG_lit0 vv _ _ _ _ _ _ _ _ _ _ _ _ _ _ _ _ _
  have ec0 : ctxOf (body_run.sl.r_1 c x wq) (body_run.sl.r_2 c kk) (body_run.sl.r_3 c vv) = C.c1 c 0 := by rw [hc1 0, eq0, ek0, ev0]
  have ew0 : body_run.sl.v342 c x wq kk = C.l1 c 0 := by rw [hlo 0, ← eq0, ← ek0]; rfl
  have es0 : (((View.loc (c : Thread nD τ) (Memref.whole cc0_scratch11).view) ↦{fullShare} (Memref.whole cc0_scratch11).view.writes (Elt F) f11 (⟨Rect.unit ![0, 896] S256x128.size inb_S256x1024_S256x128_0_896, k0_pay30 (body_run.sl.r_1 c x wq) (body_run.sl.r_2 c kk) (body_run.sl.r_3 c vv)⟩ :: ⟨Rect.unit ![0, 768] S256x128.size inb_S256x1024_S256x128_0_768, k0_pay27 (body_run.sl.r_1 c x wq) (body_run.sl.r_2 c kk) (body_run.sl.r_3 c vv)⟩ :: ⟨Rect.unit ![0, 640] S256x128.size inb_S256x1024_S256x128_0_640, k0_pay24 (body_run.sl.r_1 c x wq) (body_run.sl.r_2 c kk) (body_run.sl.r_3 c vv)⟩ :: ⟨Rect.unit ![0, 512] S256x128.size inb_S256x1024_S256x128_0_512, k0_pay21 (body_run.sl.r_11 c x wq kk vv)⟩ :: body_run.sl.X11_4 c x wq kk vv)) : sProp 𝕄) ⊢ ((View.loc (c : Thread nD τ) (Memref.whole cc0_scratch11).view) ↦{fullShare} C.c1 c 0) :=
    sent_ctx0 c f11 (body_run.sl.r_1 c x wq) (body_run.sl.r_2 c kk) (body_run.sl.r_3 c vv) (C.c1 c 0) ec0
  ihave X11 := es0 $$ X11
  ihave X19 := (sent_l0 c f19 (body_run.sl.v342 c x wq kk) (C.l1 c 0) inb_S8x256_S8x256_0_0 ew0) $$ X19
  (set_option sl_exec.stopBefore "k0_part20" in sl_exec_parts!)
  have eq1 : body_run.sl.r_16 c x wq = qG 1 x wq := qG_lit1 x wq _ _ _ _ _
  have ek1 : body_run.sl.r_17 c kk = kG 1 kk := kG_lit1 kk _ _ _ _ _ _ _ _ _ _ _ _ _ _ _ _ _
  have ev1 : body_run.sl.r_18 c vv = vG 1 vv := vG_lit1 vv _ _ _ _ _ _ _ _ _ _ _ _ _ _ _ _ _
  have ec1 : ctxOf (body_run.sl.r_16 c x wq) (body_run.sl.r_17 c kk) (body_run.sl.r_18 c vv) = C.c1 c 1 := by rw [hc1 1, eq1, ek1, ev1]
  have ew1 : k0_pay68 (body_run.sl.r_16 c x wq) (body_run.sl.r_17 c kk) (body_run.sl.r_19 c x wq kk) (body_run.sl.r_20 c x wq kk) (body_run.sl.r_22 c x wq kk) (body_run.sl.r_24 c x wq kk) (body_run.sl.r_25 c x wq kk) (body_run.sl.r_26 c x wq kk) = C.l1 c 1 := by rw [hlo 1, ← eq1, ← ek1]; rfl
  have es1 : (((View.loc (c : Thread nD τ) (Memref.whole cc0_scratch12).view) ↦{fullShare} (Memref.whole cc0_scratch12).view.writes (Elt F) f12 (⟨Rect.unit ![0, 896] S256x128.size inb_S256x1024_S256x128_0_896, k0_pay65 (body_run.sl.r_16 c x wq) (body_run.sl.r_17 c kk) (body_run.sl.r_18 c vv)⟩ :: ⟨Rect.unit ![0, 768] S256x128.size inb_S256x1024_S256x128_0_768, k0_pay63 (body_run.sl.r_16 c x wq) (body_run.sl.r_17 c kk) (body_run.sl.r_18 c vv)⟩ :: ⟨Rect.unit ![0, 640] S256x128.size inb_S256x1024_S256x128_0_640, k0_pay61 (body_run.sl.r_27 c x wq kk vv)⟩ :: body_run.sl.X12_5 c x wq kk vv)) : sProp 𝕄) ⊢ ((View.loc (c : Thread nD τ) (Memref.whole cc0_scratch12).view) ↦{fullShare} C.c1 c 1) :=
    sent_ctx1 c f12 (body_run.sl.r_16 c x wq) (body_run.sl.r_17 c kk) (body_run.sl.r_18 c vv) (C.c1 c 1) ec1
  ihave X12 := es1 $$ X12
  ihave X20 := (sent_l1 c f20 (k0_pay68 (body_run.sl.r_16 c x wq) (body_run.sl.r_17 c kk) (body_run.sl.r_19 c x wq kk) (body_run.sl.r_20 c x wq kk) (body_run.sl.r_22 c x wq kk) (body_run.sl.r_24 c x wq kk) (body_run.sl.r_25 c x wq kk) (body_run.sl.r_26 c x wq kk)) (C.l1 c 1) inb_S8x256_S8x256_0_0 ew1) $$ X20
  (set_option sl_exec.stopBefore "k0_part25" in sl_exec_parts!)
  (set_option sl_exec.maxSteps 7 in sl_exec_parts!)
  have eq2 : body_run.sl.r_28 c x wq = qG 2 x wq := qG_lit2 x wq _ _ _ _ _
  have ek2 : body_run.sl.r_29 c kk = kG 2 kk := kG_lit2 kk _ _ _ _ _ _ _ _ _ _ _ _ _ _ _ _ _
  have ev2 : body_run.sl.r_30 c vv = vG 2 vv := vG_lit2 vv _ _ _ _ _ _ _ _ _ _ _ _ _ _ _ _ _
  have ec2 : ctxOf (body_run.sl.r_28 c x wq) (body_run.sl.r_29 c kk) (body_run.sl.r_30 c vv) = C.c1 c 2 := by rw [hc1 2, eq2, ek2, ev2]
  have ew2 : k0_pay100 (body_run.sl.r_28 c x wq) (body_run.sl.r_33 c x wq kk) (body_run.sl.r_34 c x wq kk) (body_run.sl.r_35 c x wq kk) (body_run.sl.r_36 c x wq kk) (body_run.sl.r_38 c x wq kk) (body_run.sl.r_39 c x wq kk) (body_run.sl.r_40 c x wq kk) (body_run.sl.r_41 c kk) = C.l1 c 2 := by rw [hlo 2, ← eq2, ← ek2]; rfl
  have es2 : (((View.loc (c : Thread nD τ) (Memref.whole cc0_scratch13).view) ↦{fullShare} (Memref.whole cc0_scratch13).view.writes (Elt F) f13 (⟨Rect.unit ![0, 896] S256x128.size inb_S256x1024_S256x128_0_896, k0_pay97 (body_run.sl.r_28 c x wq) (body_run.sl.r_30 c vv) (body_run.sl.r_41 c kk)⟩ :: ⟨Rect.unit ![0, 768] S256x128.size inb_S256x1024_S256x128_0_768, k0_pay94 (body_run.sl.r_28 c x wq) (body_run.sl.r_29 c kk) (body_run.sl.r_30 c vv)⟩ :: ⟨Rect.unit ![0, 640] S256x128.size inb_S256x1024_S256x128_0_640, k0_pay91 (body_run.sl.r_28 c x wq) (body_run.sl.r_29 c kk) (body_run.sl.r_30 c vv)⟩ :: ⟨Rect.unit ![0, 512] S256x128.size inb_S256x1024_S256x128_0_512, k0_pay88 (body_run.sl.r_28 c x wq) (body_run.sl.r_29 c kk) (body_run.sl.r_30 c vv)⟩ :: ⟨Rect.unit ![0, 384] S256x128.size inb_S256x1024_S256x128_0_384, k0_pay85 (body_run.sl.r_37 c x wq kk vv)⟩ :: body_run.sl.X13_3 c x wq kk vv)) : sProp 𝕄) ⊢ ((View.loc (c : Thread nD τ) (Memref.whole cc0_scratch13).view) ↦{fullShare} C.c1 c 2) :=
    sent_ctx2 c f13 (body_run.sl.r_28 c x wq) (body_run.sl.r_29 c kk) (body_run.sl.r_30 c vv) (C.c1 c 2) ec2
  ihave X13 := es2 $$ X13
  ihave X21 := (sent_l2 c f21 (k0_pay100 (body_run.sl.r_28 c x wq) (body_run.sl.r_33 c x wq kk) (body_run.sl.r_34 c x wq kk) (body_run.sl.r_35 c x wq kk) (body_run.sl.r_36 c x wq kk) (body_run.sl.r_38 c x wq kk) (body_run.sl.r_39 c x wq kk) (body_run.sl.r_40 c x wq kk) (body_run.sl.r_41 c kk)) (C.l1 c 2) inb_S8x256_S8x256_0_0 ew2) $$ X21
  (set_option sl_exec.stopBefore "k0_part31" in sl_exec_parts!)
  (set_option sl_exec.maxSteps 5 in sl_exec_parts!)
  have eq3 : body_run.sl.r_42 c x wq = qG 3 x wq := qG_lit3 x wq _ _ _ _ _
  have ek3 : body_run.sl.r_43 c kk = kG 3 kk := kG_lit3 kk _ _ _ _ _ _ _ _ _ _ _ _ _ _ _ _ _
  have ev3 : body_run.sl.r_44 c vv = vG 3 vv := vG_lit3 vv _ _ _ _ _ _ _ _ _ _ _ _ _ _ _ _ _
  have ec3 : ctxOf (body_run.sl.r_42 c x wq) (body_run.sl.r_43 c kk) (body_run.sl.r_44 c vv) = C.c1 c 3 := by rw [hc1 3, eq3, ek3, ev3]
  have ew3 : body_run.sl.v891 c x wq kk = C.l1 c 3 := by rw [hlo 3, ← eq3, ← ek3]; rfl
  have es3 : (((View.loc (c : Thread nD τ) (Memref.whole cc0_scratch14).view) ↦{fullShare} (Memref.whole cc0_scratch14).view.writes (Elt F) f14 (⟨Rect.unit ![0, 896] S256x128.size inb_S256x1024_S256x128_0_896, k0_pay130 (body_run.sl.r_42 c x wq) (body_run.sl.r_43 c kk) (body_run.sl.r_44 c vv)⟩ :: ⟨Rect.unit ![0, 768] S256x128.size inb_S256x1024_S256x128_0_768, k0_pay127 (body_run.sl.r_42 c x wq) (body_run.sl.r_43 c kk) (body_run.sl.r_44 c vv)⟩ :: ⟨Rect.unit ![0, 640] S256x128.size inb_S256x1024_S256x128_0_640, k0_pay124 (body_run.sl.r_42 c x wq) (body_run.sl.r_43 c kk) (body_run.sl.r_44 c vv)⟩ :: ⟨Rect.unit ![0, 512] S256x128.size inb_S256x1024_S256x128_0_512, k0_pay121 (body_run.sl.r_52 c x wq kk vv)⟩ :: body_run.sl.X14_4 c x wq kk vv)) : sProp 𝕄) ⊢ ((View.loc (c : Thread nD τ) (Memref.whole cc0_scratch14).view) ↦{fullShare} C.c1 c 3) :=
    sent_ctx3 c f14 (body_run.sl.r_42 c x wq) (body_run.sl.r_43 c kk) (body_run.sl.r_44 c vv) (C.c1 c 3) ec3
  ihave X14 := es3 $$ X14
  ihave X22 := (sent_l3 c f22 (body_run.sl.v891 c x wq kk) (C.l1 c 3) inb_S8x256_S8x256_0_0 ew3) $$ X22
  ihave X1 := (l_pieces c f1 (body_run.sl.v342 c x wq kk) (k0_pay67 (body_run.sl.r_16 c x wq) (body_run.sl.r_17 c kk) (body_run.sl.r_19 c x wq kk) (body_run.sl.r_20 c x wq kk) (body_run.sl.r_22 c x wq kk) (body_run.sl.r_24 c x wq kk) (body_run.sl.r_25 c x wq kk) (body_run.sl.r_26 c x wq kk)) (k0_pay99 (body_run.sl.r_28 c x wq) (body_run.sl.r_33 c x wq kk) (body_run.sl.r_34 c x wq kk) (body_run.sl.r_35 c x wq kk) (body_run.sl.r_36 c x wq kk) (body_run.sl.r_38 c x wq kk) (body_run.sl.r_39 c x wq kk) (body_run.sl.r_40 c x wq kk) (body_run.sl.r_41 c kk)) (body_run.sl.v891 c x wq kk) (C.l1 c 0) (C.l1 c 1) (C.l1 c 2) (C.l1 c 3) inb_S8x1024_S8x256_0_0 inb_S8x1024_S8x256_0_256 inb_S8x1024_S8x256_0_512 inb_S8x1024_S8x256_0_768 ew0 ew1 ew2 ew3) $$ X1
  (set_option sl_exec.stopBefore "k0_part32" in sl_exec_parts!)
  (set_option sl_exec.maxSteps 12 in sl_exec_parts!)
  have eA0 : (View.readAt (Elt F) (Memref.whole cc0_scratch11).view (Rect.unit ![0, 0] S256x1024.size inb_S256x1024_S256x1024_0_0).toLoadRect (C.c1 c 0)) = C.c1 c 0 := read_full11 _
  have eB0 : (View.readAt (Elt F) (Memref.whole cc0_scratch27).view (Rect.unit ![0, 0] S256x1024.size inb_S256x1024_S256x1024_0_0).toLoadRect (C.c1 (px c) 0)) = C.c1 (px c) 0 := read_full27 _
  have eL0 : (View.readAt (Elt F) (Memref.whole cc0_scratch35).view (Rect.unit ![0, 0] S8x256.size inb_S8x256_S8x256_0_0).toLoadRect (C.l1 (px c) 0)) = C.l1 (px c) 0 := read_full35 _
  have eM0 : (body_run.sl.v924 C c) = C.l1 c 0 := by
    unfold body_run.sl.v924
    exact (read_past _ _ _ _ (by decide)).trans ((read_past _ _ _ _ (by decide)).trans ((read_past _ _ _ _ (by decide)).trans (View.readCov_cons_toLoadRect _ _ _ _)))
  have eS0 : k0_pay140 (View.readAt (Elt F) (Memref.whole cc0_scratch11).view (Rect.unit ![0, 0] S256x1024.size inb_S256x1024_S256x1024_0_0).toLoadRect (C.c1 c 0)) (View.readAt (Elt F) (Memref.whole cc0_scratch27).view (Rect.unit ![0, 0] S256x1024.size inb_S256x1024_S256x1024_0_0).toLoadRect (C.c1 (px c) 0)) = C.c2 c 0 := by rw [hc20]; exact congrArg₂ addC eA0 eB0
  have eT0 : k0_pay141 (body_run.sl.v924 C c) (View.readAt (Elt F) (Memref.whole cc0_scratch35).view (Rect.unit ![0, 0] S8x256.size inb_S8x256_S8x256_0_0).toLoadRect (C.l1 (px c) 0)) = C.l2 c 0 := by rw [hl20]; exact congrArg₂ addL eM0 eL0
  ihave X15 := (sent_sum0 c f15 (k0_pay140 (View.readAt (Elt F) (Memref.whole cc0_scratch11).view (Rect.unit ![0, 0] S256x1024.size inb_S256x1024_S256x1024_0_0).toLoadRect (C.c1 c 0)) (View.readAt (Elt F) (Memref.whole cc0_scratch27).view (Rect.unit ![0, 0] S256x1024.size inb_S256x1024_S256x1024_0_0).toLoadRect (C.c1 (px c) 0))) (C.c2 c 0) inb_S256x1024_S256x1024_0_0 eS0) $$ X15
  ihave X23 := (sent_l4 c f23 (k0_pay141 (body_run.sl.v924 C c) (View.readAt (Elt F) (Memref.whole cc0_scratch35).view (Rect.unit ![0, 0] S8x256.size inb_S8x256_S8x256_0_0).toLoadRect (C.l1 (px c) 0))) (C.l2 c 0) inb_S8x256_S8x256_0_0 eT0) $$ X23
  (set_option sl_exec.stopBefore "k0_part34" in sl_exec_parts!)
  (set_option sl_exec.maxSteps 5 in sl_exec_parts!)
  have eA1 : (View.readAt (Elt F) (Memref.whole cc0_scratch12).view (Rect.unit ![0, 0] S256x1024.size inb_S256x1024_S256x1024_0_0).toLoadRect (C.c1 c 1)) = C.c1 c 1 := read_full12 _
  have eB1 : (View.readAt (Elt F) (Memref.whole cc0_scratch28).view (Rect.unit ![0, 0] S256x1024.size inb_S256x1024_S256x1024_0_0).toLoadRect (C.c1 (py c) 1)) = C.c1 (py c) 1 := read_full28 _
  have eL1 : (View.readAt (Elt F) (Memref.whole cc0_scratch36).view (Rect.unit ![0, 0] S8x256.size inb_S8x256_S8x256_0_0).toLoadRect (C.l1 (py c) 1)) = C.l1 (py c) 1 := read_full36 _
  have eM1 : body_run.sl.v966 C c = C.l1 c 1 := by
    unfold body_run.sl.v966
    refine (read_past _ _ _ _ (by decide)).trans ?_
    refine (read_past _ _ _ _ (by decide)).trans ?_
    refine (read_past _ _ _ _ (by decide)).trans ?_
    exact View.readCov_cons_toLoadRect _ _ _ _
  have eS1 : body_run.sl.v975 C c = C.c2 c 1 := by rw [hc21]; exact congrArg₂ addC eA1 eB1
  have eT1 : body_run.sl.v978 C c = C.l2 c 1 := by
    unfold body_run.sl.v978 body_run.sl.r_60
    rw [hl21]
    exact congrArg₂ addL eM1 eL1
  ihave X16 := (sent_sum1 c f16 (body_run.sl.v975 C c) (C.c2 c 1) inb_S256x1024_S256x1024_0_0 eS1) $$ X16
  ihave X24 := (sent_l5 c f24 (body_run.sl.v978 C c) (C.l2 c 1) inb_S8x256_S8x256_0_0 eT1) $$ X24
  (set_option sl_exec.stopBefore "k0_part35" in sl_exec_parts!)
  (set_option sl_exec.maxSteps 12 in sl_exec_parts!)
  have eA2 : (View.readAt (Elt F) (Memref.whole cc0_scratch13).view (Rect.unit ![0, 0] S256x1024.size inb_S256x1024_S256x1024_0_0).toLoadRect (C.c1 c 2)) = C.c1 c 2 := read_full13 _
  have eB2 : (View.readAt (Elt F) (Memref.whole cc0_scratch29).view (Rect.unit ![0, 0] S256x1024.size inb_S256x1024_S256x1024_0_0).toLoadRect (C.c1 (px c) 2)) = C.c1 (px c) 2 := read_full29 _
  have eL2 : (View.readAt (Elt F) (Memref.whole cc0_scratch37).view (Rect.unit ![0, 0] S8x256.size inb_S8x256_S8x256_0_0).toLoadRect (C.l1 (px c) 2)) = C.l1 (px c) 2 := read_full37 _
  have eS2 : k0_pay149 (View.readAt (Elt F) (Memref.whole cc0_scratch13).view (Rect.unit ![0, 0] S256x1024.size inb_S256x1024_S256x1024_0_0).toLoadRect (C.c1 c 2)) (View.readAt (Elt F) (Memref.whole cc0_scratch29).view (Rect.unit ![0, 0] S256x1024.size inb_S256x1024_S256x1024_0_0).toLoadRect (C.c1 (px c) 2)) = C.c2 c 2 := by rw [hc22]; exact congrArg₂ addC eA2 eB2
  ihave X17 := (sent_sum2 c f17 (k0_pay149 (View.readAt (Elt F) (Memref.whole cc0_scratch13).view (Rect.unit ![0, 0] S256x1024.size inb_S256x1024_S256x1024_0_0).toLoadRect (C.c1 c 2)) (View.readAt (Elt F) (Memref.whole cc0_scratch29).view (Rect.unit ![0, 0] S256x1024.size inb_S256x1024_S256x1024_0_0).toLoadRect (C.c1 (px c) 2))) (C.c2 c 2) inb_S256x1024_S256x1024_0_0 eS2) $$ X17
  have eM2 : body_run.sl.v1008 C c = C.l1 c 2 := by
    unfold body_run.sl.v1008
    refine (read_past _ _ _ _ (by decide)).trans ?_
    refine (read_past _ _ _ _ (by decide)).trans ?_
    refine (read_past _ _ _ _ (by decide)).trans ?_
    exact View.readCov_cons_toLoadRect _ _ _ _
  have eT2 : k0_pay150 (body_run.sl.v1008 C c) (View.readAt (Elt F) (Memref.whole cc0_scratch37).view (Rect.unit ![0, 0] S8x256.size inb_S8x256_S8x256_0_0).toLoadRect (C.l1 (px c) 2)) = C.l2 c 2 := sum_l150 eM2 eL2 hl22
  ihave X25 := (sent_l6 c f25 (k0_pay150 (body_run.sl.v1008 C c) (View.readAt (Elt F) (Memref.whole cc0_scratch37).view (Rect.unit ![0, 0] S8x256.size inb_S8x256_S8x256_0_0).toLoadRect (C.l1 (px c) 2))) (C.l2 c 2) inb_S8x256_S8x256_0_0 eT2) $$ X25
  (set_option sl_exec.stopBefore "k0_part37" in sl_exec_parts!)
  (set_option sl_exec.maxSteps 3 in sl_exec_parts!)
  have eA3 : (View.readAt (Elt F) (Memref.whole cc0_scratch14).view (Rect.unit ![0, 0] S256x1024.size inb_S256x1024_S256x1024_0_0).toLoadRect (C.c1 c 3)) = C.c1 c 3 := read_full14 _
  have eB3 : (View.readAt (Elt F) (Memref.whole cc0_scratch30).view (Rect.unit ![0, 0] S256x1024.size inb_S256x1024_S256x1024_0_0).toLoadRect (C.c1 (py c) 3)) = C.c1 (py c) 3 := read_full30 _
  have eL3 : (View.readAt (Elt F) (Memref.whole cc0_scratch38).view (Rect.unit ![0, 0] S8x256.size inb_S8x256_S8x256_0_0).toLoadRect (C.l1 (py c) 3)) = C.l1 (py c) 3 := read_full38 _
  have eS3 : k0_pay153 (View.readAt (Elt F) (Memref.whole cc0_scratch14).view (Rect.unit ![0, 0] S256x1024.size inb_S256x1024_S256x1024_0_0).toLoadRect (C.c1 c 3)) (View.readAt (Elt F) (Memref.whole cc0_scratch30).view (Rect.unit ![0, 0] S256x1024.size inb_S256x1024_S256x1024_0_0).toLoadRect (C.c1 (py c) 3)) = C.c2 c 3 := by rw [hc23]; exact congrArg₂ addC eA3 eB3
  ihave X18 := (sent_sum3 c f18 (k0_pay153 (View.readAt (Elt F) (Memref.whole cc0_scratch14).view (Rect.unit ![0, 0] S256x1024.size inb_S256x1024_S256x1024_0_0).toLoadRect (C.c1 c 3)) (View.readAt (Elt F) (Memref.whole cc0_scratch30).view (Rect.unit ![0, 0] S256x1024.size inb_S256x1024_S256x1024_0_0).toLoadRect (C.c1 (py c) 3))) (C.c2 c 3) inb_S256x1024_S256x1024_0_0 eS3) $$ X18
  have eM3 : body_run.sl.v1050 C c = C.l1 c 3 := by
    unfold body_run.sl.v1050
    refine (read_past _ _ _ _ (by decide)).trans ?_
    refine (read_past _ _ _ _ (by decide)).trans ?_
    refine (read_past _ _ _ _ (by decide)).trans ?_
    exact View.readCov_cons_toLoadRect _ _ _ _
  have eT3 : k0_pay154 (body_run.sl.r_62 C c) = C.l2 c 3 := by
    unfold body_run.sl.r_62
    rw [hl23]
    exact congrArg₂ addL eM3 eL3
  ihave X26 := (sent_l7 c f26 (k0_pay154 (body_run.sl.r_62 C c)) (C.l2 c 3) inb_S8x256_S8x256_0_0 eT3) $$ X26
  (set_option sl_exec.stopBefore "k0_part39" in sl_exec_parts!)
  (set_option sl_exec.stopBefore "k0_part44" in sl_exec_parts!)
  sl_exec_parts!
  have eW : body_run.sl.r_63 c wo f0 = k0_pay155 wo := by
    unfold body_run.sl.r_63 body_run.sl.v1077
    exact congrArg k0_pay155 (wo_read f0 wo)
  have eN0 : body_run.sl.v1096 C c = C.l2 c 0 := by
    unfold body_run.sl.v1096
    refine (read_past _ _ _ _ (by decide)).trans ?_
    refine (read_past _ _ _ _ (by decide)).trans ?_
    refine (read_past _ _ _ _ (by decide)).trans ?_
    exact (View.readCov_cons_toLoadRect _ _ _ _).trans (sum_l139 eM0 eL0 hl20)
  have eN1 : body_run.sl.v1147 C c = C.l2 c 1 := by
    unfold body_run.sl.v1147
    refine (read_past _ _ _ _ (by decide)).trans ?_
    refine (read_past _ _ _ _ (by decide)).trans ?_
    exact (View.readCov_cons_toLoadRect _ _ _ _).trans (sum_l143 eM1 eL1 hl21)
  have eN2 : body_run.sl.v1198 C c = C.l2 c 2 := by
    unfold body_run.sl.v1198
    refine (read_past _ _ _ _ (by decide)).trans ?_
    exact (View.readCov_cons_toLoadRect _ _ _ _).trans (sum_l148 eM2 eL2 hl22)
  have eN3 : body_run.sl.v1249 C c = C.l2 c 3 := by
    unfold body_run.sl.v1249
    exact (View.readCov_cons_toLoadRect _ _ _ _).trans (sum_l152 eM3 eL3 hl23)
  have eP0 : k0_pay156 (body_run.sl.r_63 c wo f0) (View.readAt (Elt F) (Memref.whole cc0_scratch15).view (Rect.unit ![0, 0] S256x1024.size inb_S256x1024_S256x1024_0_0).toLoadRect (C.c2 c 0)) (View.readAt (Elt F) (Memref.whole cc0_scratch31).view (Rect.unit ![0, 0] S256x1024.size inb_S256x1024_S256x1024_0_0).toLoadRect (C.c2 (py c) 0)) (body_run.sl.v1096 C c) (View.readAt (Elt F) (Memref.whole cc0_scratch39).view (Rect.unit ![0, 0] S8x256.size inb_S8x256_S8x256_0_0).toLoadRect (C.l2 (py c) 0)) = outOf wo (C.c2 c 0) (C.c2 (py c) 0) (C.l2 c 0) (C.l2 (py c) 0) := by
    exact out0 eW (read_full15 _) (read_full31 _) eN0 (read_full39 _)
  have eP1 : k0_pay158 (body_run.sl.r_63 c wo f0) (body_run.sl.r_64 C c) (View.readAt (Elt F) (Memref.whole cc0_scratch32).view (Rect.unit ![0, 0] S256x1024.size inb_S256x1024_S256x1024_0_0).toLoadRect (C.c2 (px c) 1)) (body_run.sl.v1147 C c) (View.readAt (Elt F) (Memref.whole cc0_scratch40).view (Rect.unit ![0, 0] S8x256.size inb_S8x256_S8x256_0_0).toLoadRect (C.l2 (px c) 1)) = outOf wo (C.c2 c 1) (C.c2 (px c) 1) (C.l2 c 1) (C.l2 (px c) 1) := by
    unfold body_run.sl.r_64
    exact out1 eW (read_full16 _) (read_full32 _) eN1 (read_full40 _)
  have eP2 : k0_pay161 (body_run.sl.r_63 c wo f0) (body_run.sl.r_65 C c) (body_run.sl.r_66 C c) = outOf wo (C.c2 c 2) (C.c2 (py c) 2) (C.l2 c 2) (C.l2 (py c) 2) := by
    unfold body_run.sl.r_65 body_run.sl.r_66
    exact out2 eW (read_full17 _) (read_full33 _) eN2 (read_full41 _)
  have eP3 : body_run.sl.v1262 C c wo f0 = outOf wo (C.c2 c 3) (C.c2 (px c) 3) (C.l2 c 3) (C.l2 (px c) 3) := by
    unfold body_run.sl.v1262 body_run.sl.r_67
    exact out3 eW (read_full18 _) (read_full34 _) eN3 (read_full42 _)
  have ed0 : ∀ (a : Fin 64) (b : Fin 1024), body_run.sl.dma7 C c wo f0 f2 (ix2 a b) = outAll C c wo (ix3 (0 : Fin 1) (⟨0 + a.val, by have := a.isLt; omega⟩ : Fin 1024) b) := by
    intro a b
    unfold body_run.sl.dma7 body_run.sl.X2_1
    exact carries C c wo 0 0 (by decide) 0 0 0 (by decide) (by decide) _ _ _ f2 _ _ (py c) rfl eP0 a b
  have ed1 : ∀ (a : Fin 64) (b : Fin 1024), body_run.sl.dma7_1 C c wo f0 f2 (ix2 a b) = outAll C c wo (ix3 (0 : Fin 1) (⟨256 + a.val, by have := a.isLt; omega⟩ : Fin 1024) b) := by
    intro a b
    unfold body_run.sl.dma7_1 body_run.sl.X2_1
    exact carries C c wo 0 1 (by decide) 0 64 256 (by decide) (by decide) _ _ _ f2 _ _ (py c) rfl eP0 a b
  have ed2 : ∀ (a : Fin 64) (b : Fin 1024), body_run.sl.dma0_33 C c wo f0 f2 (ix2 a b) = outAll C c wo (ix3 (0 : Fin 1) (⟨512 + a.val, by have := a.isLt; omega⟩ : Fin 1024) b) := by
    intro a b
    unfold body_run.sl.dma0_33 body_run.sl.X2_1
    exact carries C c wo 0 2 (by decide) 0 128 512 (by decide) (by decide) _ _ _ f2 _ _ (py c) rfl eP0 a b
  have ed3 : ∀ (a : Fin 64) (b : Fin 1024), body_run.sl.dma0_34 C c wo f0 f2 (ix2 a b) = outAll C c wo (ix3 (0 : Fin 1) (⟨768 + a.val, by have := a.isLt; omega⟩ : Fin 1024) b) := by
    intro a b
    unfold body_run.sl.dma0_34 body_run.sl.X2_1
    exact carries C c wo 0 3 (by decide) 0 192 768 (by decide) (by decide) _ _ _ f2 _ _ (py c) rfl eP0 a b
  have ed4 : ∀ (a : Fin 64) (b : Fin 1024), body_run.sl.dma6 C c wo f0 f2 (ix2 a b) = outAll C c wo (ix3 (0 : Fin 1) (⟨64 + a.val, by have := a.isLt; omega⟩ : Fin 1024) b) := by
    intro a b
    unfold body_run.sl.dma6 body_run.sl.X2_2
    exact carries C c wo 1 0 (by decide) 256 256 64 (by decide) (by decide) _ _ _ f2 _ _ (px c) rfl eP1 a b
  have ed5 : ∀ (a : Fin 64) (b : Fin 1024), body_run.sl.dma6_1 C c wo f0 f2 (ix2 a b) = outAll C c wo (ix3 (0 : Fin 1) (⟨320 + a.val, by have := a.isLt; omega⟩ : Fin 1024) b) := by
    intro a b
    unfold body_run.sl.dma6_1 body_run.sl.X2_2
    exact carries C c wo 1 1 (by decide) 256 320 320 (by decide) (by decide) _ _ _ f2 _ _ (px c) rfl eP1 a b
  have ed6 : ∀ (a : Fin 64) (b : Fin 1024), body_run.sl.dma6_2 C c wo f0 f2 (ix2 a b) = outAll C c wo (ix3 (0 : Fin 1) (⟨576 + a.val, by have := a.isLt; omega⟩ : Fin 1024) b) := by
    intro a b
    unfold body_run.sl.dma6_2 body_run.sl.X2_2
    exact carries C c wo 1 2 (by decide) 256 384 576 (by decide) (by decide) _ _ _ f2 _ _ (px c) rfl eP1 a b
  have ed7 : ∀ (a : Fin 64) (b : Fin 1024), body_run.sl.dma6_3 C c wo f0 f2 (ix2 a b) = outAll C c wo (ix3 (0 : Fin 1) (⟨832 + a.val, by have := a.isLt; omega⟩ : Fin 1024) b) := by
    intro a b
    unfold body_run.sl.dma6_3 body_run.sl.X2_2
    exact carries C c wo 1 3 (by decide) 256 448 832 (by decide) (by decide) _ _ _ f2 _ _ (px c) rfl eP1 a b
  have ed8 : ∀ (a : Fin 64) (b : Fin 1024), body_run.sl.dma12 C c wo f0 f2 (ix2 a b) = outAll C c wo (ix3 (0 : Fin 1) (⟨128 + a.val, by have := a.isLt; omega⟩ : Fin 1024) b) := by
    intro a b
    unfold body_run.sl.dma12 body_run.sl.X2_3
    exact carries C c wo 2 0 (by decide) 512 512 128 (by decide) (by decide) _ _ _ f2 _ _ (py c) rfl eP2 a b
  have ed9 : ∀ (a : Fin 64) (b : Fin 1024), body_run.sl.dma12_1 C c wo f0 f2 (ix2 a b) = outAll C c wo (ix3 (0 : Fin 1) (⟨384 + a.val, by have := a.isLt; omega⟩ : Fin 1024) b) := by
    intro a b
    unfold body_run.sl.dma12_1 body_run.sl.X2_3
    exact carries C c wo 2 1 (by decide) 512 576 384 (by decide) (by decide) _ _ _ f2 _ _ (py c) rfl eP2 a b
  have ed10 : ∀ (a : Fin 64) (b : Fin 1024), body_run.sl.dma12_2 C c wo f0 f2 (ix2 a b) = outAll C c wo (ix3 (0 : Fin 1) (⟨640 + a.val, by have := a.isLt; omega⟩ : Fin 1024) b) := by
    intro a b
    unfold body_run.sl.dma12_2 body_run.sl.X2_3
    exact carries C c wo 2 2 (by decide) 512 640 640 (by decide) (by decide) _ _ _ f2 _ _ (py c) rfl eP2 a b
  have ed11 : ∀ (a : Fin 64) (b : Fin 1024), body_run.sl.dma12_3 C c wo f0 f2 (ix2 a b) = outAll C c wo (ix3 (0 : Fin 1) (⟨896 + a.val, by have := a.isLt; omega⟩ : Fin 1024) b) := by
    intro a b
    unfold body_run.sl.dma12_3 body_run.sl.X2_3
    exact carries C c wo 2 3 (by decide) 512 704 896 (by decide) (by decide) _ _ _ f2 _ _ (py c) rfl eP2 a b
  have ed12 : ∀ (a : Fin 64) (b : Fin 1024), body_run.sl.dma1 C c wo f0 f2 (ix2 a b) = outAll C c wo (ix3 (0 : Fin 1) (⟨192 + a.val, by have := a.isLt; omega⟩ : Fin 1024) b) := by
    intro a b
    unfold body_run.sl.dma1 body_run.sl.X2_4
    exact carries C c wo 3 0 (by decide) 768 768 192 (by decide) (by decide) _ _ _ f2 _ _ (px c) rfl eP3 a b
  have ed13 : ∀ (a : Fin 64) (b : Fin 1024), body_run.sl.dma1_1 C c wo f0 f2 (ix2 a b) = outAll C c wo (ix3 (0 : Fin 1) (⟨448 + a.val, by have := a.isLt; omega⟩ : Fin 1024) b) := by
    intro a b
    unfold body_run.sl.dma1_1 body_run.sl.X2_4
    exact carries C c wo 3 1 (by decide) 768 832 448 (by decide) (by decide) _ _ _ f2 _ _ (px c) rfl eP3 a b
  have ed14 : ∀ (a : Fin 64) (b : Fin 1024), body_run.sl.dma1_2 C c wo f0 f2 (ix2 a b) = outAll C c wo (ix3 (0 : Fin 1) (⟨704 + a.val, by have := a.isLt; omega⟩ : Fin 1024) b) := by
    intro a b
    unfold body_run.sl.dma1_2 body_run.sl.X2_4
    exact carries C c wo 3 2 (by decide) 768 896 704 (by decide) (by decide) _ _ _ f2 _ _ (px c) rfl eP3 a b
  have ed15 : ∀ (a : Fin 64) (b : Fin 1024), body_run.sl.dma1_3 C c wo f0 f2 (ix2 a b) = outAll C c wo (ix3 (0 : Fin 1) (⟨960 + a.val, by have := a.isLt; omega⟩ : Fin 1024) b) := by
    intro a b
    unfold body_run.sl.dma1_3 body_run.sl.X2_4
    exact carries C c wo 3 3 (by decide) 768 960 960 (by decide) (by decide) _ _ _ f2 _ _ (px c) rfl eP3 a b
  ihave Hz := (pt_change c _ (all_rows zz (outAll C c wo) _ _ _ _ _ _ _ _ _ _ _ _ _ _ _ _ _ ed0 _ ed1 _ ed2 _ ed3 _ ed4 _ ed5 _ ed6 _ ed7 _ ed8 _ ed9 _ ed10 _ ed11 _ ed12 _ ed13 _ ed14 _ ed15)) $$ Hz
  imod (Rounds.cell_close EX (rd C) (Set.mem_univ (K (c, 0))) (fun h => h) (R := 0 + 1) (duties_later C (barCell c))) $$ [Ab] with Zb
  · isplitr
    · iexact Ib
    · iexact Ab
  imod (Rounds.cell_close EX (rd C) (Set.mem_univ (K (c, 1))) (fun h => h) (R := 0 + 1) (duties_later C (sendCell c 0))) $$ [As0] with Zs0
  · isplitr
    · iexact Is0
    · iexact As0
  imod (Rounds.cell_close EX (rd C) (Set.mem_univ (K (c, 2))) (fun h => h) (R := 0 + 1) (duties_later C (sendCell c 1))) $$ [As1] with Zs1
  · isplitr
    · iexact Is1
    · iexact As1
  imod (Rounds.cell_close EX (rd C) (Set.mem_univ (K (c, 3))) (fun h => h) (R := 0 + 1) (duties_later C (sendCell c 2))) $$ [As2] with Zs2
  · isplitr
    · iexact Is2
    · iexact As2
  imod (Rounds.cell_close EX (rd C) (Set.mem_univ (K (c, 4))) (fun h => h) (R := 0 + 1) (duties_later C (sendCell c 3))) $$ [As3] with Zs3
  · isplitr
    · iexact Is3
    · iexact As3
  imod (Rounds.cell_close EX (rd C) (Set.mem_univ (K (c, 5))) (fun h => h) (R := 0 + 1) (duties_later C (sendCell c 4))) $$ [As4] with Zs4
  · isplitr
    · iexact Is4
    · iexact As4
  imod (Rounds.cell_close EX (rd C) (Set.mem_univ (K (c, 6))) (fun h => h) (R := 0 + 1) (duties_later C (sendCell c 5))) $$ [As5] with Zs5
  · isplitr
    · iexact Is5
    · iexact As5
  imod (Rounds.cell_close EX (rd C) (Set.mem_univ (K (c, 7))) (fun h => h) (R := 0 + 1) (duties_later C (sendCell c 6))) $$ [As6] with Zs6
  · isplitr
    · iexact Is6
    · iexact As6
  imod (Rounds.cell_close EX (rd C) (Set.mem_univ (K (c, 8))) (fun h => h) (R := 0 + 1) (duties_later C (sendCell c 7))) $$ [As7] with Zs7
  · isplitr
    · iexact Is7
    · iexact As7
  imod (Rounds.cell_close EX (rd C) (Set.mem_univ (K (c, 9))) (fun h => h) (R := 0 + 1) (duties_later C (sendCell c 8))) $$ [As8] with Zs8
  · isplitr
    · iexact Is8
    · iexact As8
  imod (Rounds.cell_close EX (rd C) (Set.mem_univ (K (c, 10))) (fun h => h) (R := 0 + 1) (duties_later C (sendCell c 9))) $$ [As9] with Zs9
  · isplitr
    · iexact Is9
    · iexact As9
  imod (Rounds.cell_close EX (rd C) (Set.mem_univ (K (c, 11))) (fun h => h) (R := 0 + 1) (duties_later C (sendCell c 10))) $$ [As10] with Zs10
  · isplitr
    · iexact Is10
    · iexact As10
  imod (Rounds.cell_close EX (rd C) (Set.mem_univ (K (c, 12))) (fun h => h) (R := 0 + 1) (duties_later C (sendCell c 11))) $$ [As11] with Zs11
  · isplitr
    · iexact Is11
    · iexact As11
  imod (Rounds.cell_close EX (rd C) (Set.mem_univ (K (c, 13))) (fun h => h) (R := 0 + 1) (duties_later C (sendCell c 12))) $$ [As12] with Zs12
  · isplitr
    · iexact Is12
    · iexact As12
  imod (Rounds.cell_close EX (rd C) (Set.mem_univ (K (c, 14))) (fun h => h) (R := 0 + 1) (duties_later C (sendCell c 13))) $$ [As13] with Zs13
  · isplitr
    · iexact Is13
    · iexact As13
  imod (Rounds.cell_close EX (rd C) (Set.mem_univ (K (c, 15))) (fun h => h) (R := 0 + 1) (duties_later C (sendCell c 14))) $$ [As14] with Zs14
  · isplitr
    · iexact Is14
    · iexact As14
  imod (Rounds.cell_close EX (rd C) (Set.mem_univ (K (c, 16))) (fun h => h) (R := 0 + 1) (duties_later C (sendCell c 15))) $$ [As15] with Zs15
  · isplitr
    · iexact Is15
    · iexact As15
  imod (Rounds.cell_close EX (rd C) (Set.mem_univ (K (c, 17))) (fun h => h) (R := 0 + 1) (duties_later C (recvCell c 0))) $$ [Ar0] with Zr0
  · isplitr
    · iexact Ir0
    · iexact Ar0
  imod (Rounds.cell_close EX (rd C) (Set.mem_univ (K (c, 18))) (fun h => h) (R := 0 + 1) (duties_later C (recvCell c 1))) $$ [Ar1] with Zr1
  · isplitr
    · iexact Ir1
    · iexact Ar1
  imod (Rounds.cell_close EX (rd C) (Set.mem_univ (K (c, 19))) (fun h => h) (R := 0 + 1) (duties_later C (recvCell c 2))) $$ [Ar2] with Zr2
  · isplitr
    · iexact Ir2
    · iexact Ar2
  imod (Rounds.cell_close EX (rd C) (Set.mem_univ (K (c, 20))) (fun h => h) (R := 0 + 1) (duties_later C (recvCell c 3))) $$ [Ar3] with Zr3
  · isplitr
    · iexact Ir3
    · iexact Ar3
  imod (Rounds.cell_close EX (rd C) (Set.mem_univ (K (c, 21))) (fun h => h) (R := 0 + 1) (duties_later C (recvCell c 4))) $$ [Ar4] with Zr4
  · isplitr
    · iexact Ir4
    · iexact Ar4
  imod (Rounds.cell_close EX (rd C) (Set.mem_univ (K (c, 22))) (fun h => h) (R := 0 + 1) (duties_later C (recvCell c 5))) $$ [Ar5] with Zr5
  · isplitr
    · iexact Ir5
    · iexact Ar5
  imod (Rounds.cell_close EX (rd C) (Set.mem_univ (K (c, 23))) (fun h => h) (R := 0 + 1) (duties_later C (recvCell c 6))) $$ [Ar6] with Zr6
  · isplitr
    · iexact Ir6
    · iexact Ar6
  imod (Rounds.cell_close EX (rd C) (Set.mem_univ (K (c, 24))) (fun h => h) (R := 0 + 1) (duties_later C (recvCell c 7))) $$ [Ar7] with Zr7
  · isplitr
    · iexact Ir7
    · iexact Ar7
  imod (Rounds.cell_close EX (rd C) (Set.mem_univ (K (c, 25))) (fun h => h) (R := 0 + 1) (duties_later C (recvCell c 8))) $$ [Ar8] with Zr8
  · isplitr
    · iexact Ir8
    · iexact Ar8
  imod (Rounds.cell_close EX (rd C) (Set.mem_univ (K (c, 26))) (fun h => h) (R := 0 + 1) (duties_later C (recvCell c 9))) $$ [Ar9] with Zr9
  · isplitr
    · iexact Ir9
    · iexact Ar9
  imod (Rounds.cell_close EX (rd C) (Set.mem_univ (K (c, 27))) (fun h => h) (R := 0 + 1) (duties_later C (recvCell c 10))) $$ [Ar10] with Zr10
  · isplitr
    · iexact Ir10
    · iexact Ar10
  imod (Rounds.cell_close EX (rd C) (Set.mem_univ (K (c, 28))) (fun h => h) (R := 0 + 1) (duties_later C (recvCell c 11))) $$ [Ar11] with Zr11
  · isplitr
    · iexact Ir11
    · iexact Ar11
  imod (Rounds.cell_close EX (rd C) (Set.mem_univ (K (c, 29))) (fun h => h) (R := 0 + 1) (duties_later C (recvCell c 12))) $$ [Ar12] with Zr12
  · isplitr
    · iexact Ir12
    · iexact Ar12
  imod (Rounds.cell_close EX (rd C) (Set.mem_univ (K (c, 30))) (fun h => h) (R := 0 + 1) (duties_later C (recvCell c 13))) $$ [Ar13] with Zr13
  · isplitr
    · iexact Ir13
    · iexact Ar13
  imod (Rounds.cell_close EX (rd C) (Set.mem_univ (K (c, 31))) (fun h => h) (R := 0 + 1) (duties_later C (recvCell c 14))) $$ [Ar14] with Zr14
  · isplitr
    · iexact Ir14
    · iexact Ar14
  imod (Rounds.cell_close EX (rd C) (Set.mem_univ (K (c, 32))) (fun h => h) (R := 0 + 1) (duties_later C (recvCell c 15))) $$ [Ar15] with Zr15
  · isplitr
    · iexact Ir15
    · iexact Ar15
  rw [wp_ret]
  imodintro
  iapply HK
  unfold leaves zeros scrAll
  isplitl [S2 S3 S4 S5 S6 S7 S8 S9 S10 S11 S12 S13 S14 S15 S16 S17 S18 S19 S20 S21 S22 S23 S24 S25 S26 S27 S28 S29 S30 S31 S32 S33 S34 S35 S36 Zs0 Zs1 Zs2 Zs3 Zs4 Zs5 Zs6 Zs7 Zs8 Zs9 Zs10 Zs11 Zs12 Zs13 Zs14 Zs15 Zr0 Zr1 Zr2 Zr3 Zr4 Zr5 Zr6 Zr7 Zr8 Zr9 Zr10 Zr11 Zr12 Zr13 Zr14 Zr15 S69 S70 S71 S72 S73 S74 S75 S76 S77 S78 S79 S80 S81 S82 S83 S84]
  · isplitl [S2]
    · iexact S2
    isplitl [S3]
    · iexact S3
    isplitl [S4]
    · iexact S4
    isplitl [S5]
    · iexact S5
    isplitl [S6]
    · iexact S6
    isplitl [S7]
    · iexact S7
    isplitl [S8]
    · iexact S8
    isplitl [S9]
    · iexact S9
    isplitl [S10]
    · iexact S10
    isplitl [S11]
    · iexact S11
    isplitl [S12]
    · iexact S12
    isplitl [S13]
    · iexact S13
    isplitl [S14]
    · iexact S14
    isplitl [S15]
    · iexact S15
    isplitl [S16]
    · iexact S16
    isplitl [S17]
    · iexact S17
    isplitl [S18]
    · iexact S18
    isplitl [S19]
    · iexact S19
    isplitl [S20]
    · iexact S20
    isplitl [S21]
    · iexact S21
    isplitl [S22]
    · iexact S22
    isplitl [S23]
    · iexact S23
    isplitl [S24]
    · iexact S24
    isplitl [S25]
    · iexact S25
    isplitl [S26]
    · iexact S26
    isplitl [S27]
    · iexact S27
    isplitl [S28]
    · iexact S28
    isplitl [S29]
    · iexact S29
    isplitl [S30]
    · iexact S30
    isplitl [S31]
    · iexact S31
    isplitl [S32]
    · iexact S32
    isplitl [S33]
    · iexact S33
    isplitl [S34]
    · iexact S34
    isplitl [S35]
    · iexact S35
    isplitl [S36]
    · iexact S36
    isplitl [Zs0]
    · iexact Zs0
    isplitl [Zs1]
    · iexact Zs1
    isplitl [Zs2]
    · iexact Zs2
    isplitl [Zs3]
    · iexact Zs3
    isplitl [Zs4]
    · iexact Zs4
    isplitl [Zs5]
    · iexact Zs5
    isplitl [Zs6]
    · iexact Zs6
    isplitl [Zs7]
    · iexact Zs7
    isplitl [Zs8]
    · iexact Zs8
    isplitl [Zs9]
    · iexact Zs9
    isplitl [Zs10]
    · iexact Zs10
    isplitl [Zs11]
    · iexact Zs11
    isplitl [Zs12]
    · iexact Zs12
    isplitl [Zs13]
    · iexact Zs13
    isplitl [Zs14]
    · iexact Zs14
    isplitl [Zs15]
    · iexact Zs15
    isplitl [Zr0]
    · iexact Zr0
    isplitl [Zr1]
    · iexact Zr1
    isplitl [Zr2]
    · iexact Zr2
    isplitl [Zr3]
    · iexact Zr3
    isplitl [Zr4]
    · iexact Zr4
    isplitl [Zr5]
    · iexact Zr5
    isplitl [Zr6]
    · iexact Zr6
    isplitl [Zr7]
    · iexact Zr7
    isplitl [Zr8]
    · iexact Zr8
    isplitl [Zr9]
    · iexact Zr9
    isplitl [Zr10]
    · iexact Zr10
    isplitl [Zr11]
    · iexact Zr11
    isplitl [Zr12]
    · iexact Zr12
    isplitl [Zr13]
    · iexact Zr13
    isplitl [Zr14]
    · iexact Zr14
    isplitl [Zr15]
    · iexact Zr15
    isplitl [S69]
    · iexact S69
    isplitl [S70]
    · iexact S70
    isplitl [S71]
    · iexact S71
    isplitl [S72]
    · iexact S72
    isplitl [S73]
    · iexact S73
    isplitl [S74]
    · iexact S74
    isplitl [S75]
    · iexact S75
    isplitl [S76]
    · iexact S76
    isplitl [S77]
    · iexact S77
    isplitl [S78]
    · iexact S78
    isplitl [S79]
    · iexact S79
    isplitl [S80]
    · iexact S80
    isplitl [S81]
    · iexact S81
    isplitl [S82]
    · iexact S82
    isplitl [S83]
    · iexact S83
    iexact S84
  isplitl [Zb]
  · iexact Zb
  isplitl [X0 X1 X2 X3 X4 X5 X6 X7 X8 X9 X10 As0_pay1 As1_pay1 As2_pay1 As3_pay1 As4_pay1 As5_pay1 As6_pay1 As7_pay1 As8_pay1 As9_pay1 As10_pay1 As11_pay1 As12_pay1 As13_pay1 As14_pay1 As15_pay1 Ar0_pay1 Ar1_pay1 Ar2_pay1 Ar3_pay1 Ar4_pay1 Ar5_pay1 Ar6_pay1 Ar7_pay1 Ar8_pay1 Ar9_pay1 Ar10_pay1 Ar11_pay1 Ar12_pay1 Ar13_pay1 Ar14_pay1 Ar15_pay1]
  · isplitl [X0]
    · iexists _
      iexact X0
    isplitl [X1]
    · iexists _
      iexact X1
    isplitl [X2]
    · iexists _
      iexact X2
    isplitl [X3]
    · iexists _
      iexact X3
    isplitl [X4]
    · iexists _
      iexact X4
    isplitl [X5]
    · iexists _
      iexact X5
    isplitl [X6]
    · iexists _
      iexact X6
    isplitl [X7]
    · iexists _
      iexact X7
    isplitl [X8]
    · iexists _
      iexact X8
    isplitl [X9]
    · iexists _
      iexact X9
    isplitl [X10]
    · iexists _
      iexact X10
    isplitl [As0_pay1]
    · iexists _
      iexact As0_pay1
    isplitl [As1_pay1]
    · iexists _
      iexact As1_pay1
    isplitl [As2_pay1]
    · iexists _
      iexact As2_pay1
    isplitl [As3_pay1]
    · iexists _
      iexact As3_pay1
    isplitl [As4_pay1]
    · iexists _
      iexact As4_pay1
    isplitl [As5_pay1]
    · iexists _
      iexact As5_pay1
    isplitl [As6_pay1]
    · iexists _
      iexact As6_pay1
    isplitl [As7_pay1]
    · iexists _
      iexact As7_pay1
    isplitl [As8_pay1]
    · iexists _
      iexact As8_pay1
    isplitl [As9_pay1]
    · iexists _
      iexact As9_pay1
    isplitl [As10_pay1]
    · iexists _
      iexact As10_pay1
    isplitl [As11_pay1]
    · iexists _
      iexact As11_pay1
    isplitl [As12_pay1]
    · iexists _
      iexact As12_pay1
    isplitl [As13_pay1]
    · iexists _
      iexact As13_pay1
    isplitl [As14_pay1]
    · iexists _
      iexact As14_pay1
    isplitl [As15_pay1]
    · iexists _
      iexact As15_pay1
    isplitl [Ar0_pay1]
    · iexists _
      iexact Ar0_pay1
    isplitl [Ar1_pay1]
    · iexists _
      iexact Ar1_pay1
    isplitl [Ar2_pay1]
    · iexists _
      iexact Ar2_pay1
    isplitl [Ar3_pay1]
    · iexists _
      iexact Ar3_pay1
    isplitl [Ar4_pay1]
    · iexists _
      iexact Ar4_pay1
    isplitl [Ar5_pay1]
    · iexists _
      iexact Ar5_pay1
    isplitl [Ar6_pay1]
    · iexists _
      iexact Ar6_pay1
    isplitl [Ar7_pay1]
    · iexists _
      iexact Ar7_pay1
    isplitl [Ar8_pay1]
    · iexists _
      iexact Ar8_pay1
    isplitl [Ar9_pay1]
    · iexists _
      iexact Ar9_pay1
    isplitl [Ar10_pay1]
    · iexists _
      iexact Ar10_pay1
    isplitl [Ar11_pay1]
    · iexists _
      iexact Ar11_pay1
    isplitl [Ar12_pay1]
    · iexists _
      iexact Ar12_pay1
    isplitl [Ar13_pay1]
    · iexists _
      iexact Ar13_pay1
    isplitl [Ar14_pay1]
    · iexists _
      iexact Ar14_pay1
    iexists _
    iexact Ar15_pay1
  isplitl [Ho]
  · iexists _
    iexact Ho
  isplitl [Hx]
  · iexact Hx
  isplitl [Hq]
  · iexact Hq
  isplitl [Hk]
  · iexact Hk
  isplitl [Hv]
  · iexact Hv
  isplitl [Hw]
  · iexact Hw
  iexact Hz

end Cert.KernelIdeal.Exchange

end
-- ==== Proof.Launch.lean ====
/-
The launch: the exchange's ghost state and credits dealt to the four devices, and the run of the kernel on all of them.
-/
module

public import proofs.«01_k».proof.Proof.Body
public import proofs.«01_k».proof.Proof.Gen.KernelIdeal.Frame
public import Idealize.ShloMosaic.Lib.Pipeline.CollectiveSegs
public import Idealize.ShloMosaic.Lib.Quiescent

@[expose] public section

noncomputable section

namespace Cert.KernelIdeal.Exchange

open Cert.KernelIdeal Cert.KernelIdeal.Gen Cert.KernelIdeal.Values
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The contents -/

variable (m : (ℓ : Loc nD τ sig) → Buf (Elt F) ℓ) (ρ : Dev nD → PrngReg)

/-- The staged input, and the staged query weights. -/
def xs (c : Dev nD) : (cc0_stg0_0 : Ref sig .tc).ty.Contents (Elt F) := (win0_0.blk (0 : Fin 1)).view.read (Elt F) ((s₀ m ρ).mem ((c : Thread nD τ).loc main_arg0))
def ws (c : Dev nD) : (cc0_stg1_0 : Ref sig .tc).ty.Contents (Elt F) := (win0_1.blk (0 : Fin 1)).view.read (Elt F) ((s₀ m ρ).mem ((c : Thread nD τ).loc main_arg1))

/-- Round one: each device's own partial results. -/
def own1 (c : Dev nD) (q : Fin 4) : Vec F S256x1024 .bf16 := ctxOf (qG q (xs m ρ c) (ws m ρ c)) (kG q (m ((c : Thread nD τ).loc main_arg2))) (vG q (m ((c : Thread nD τ).loc main_arg3)))
def own1l (c : Dev nD) (q : Fin 4) : Vec F S8x256 .f32 := lOf (qG q (xs m ρ c) (ws m ρ c)) (kG q (m ((c : Thread nD τ).loc main_arg2)))
/-- The partner of round one. -/
def first (q : Fin 4) (c : Dev nD) : Dev nD := if q.val % 2 = 0 then px c else py c
/-- What the four devices' copies carry. -/
def carried : Carried F where
  c1 := own1 m ρ
  l1 := own1l m ρ
  c2 c q := addC (own1 m ρ c q) (own1 m ρ (first q c) q)
  l2 c q := addL (own1l m ρ c q) (own1l m ρ (first q c) q)
/-- The result array of device `c`. -/
def result (c : Dev nD) : Buf (Elt F) ((c : Thread nD τ).loc main_v1) := outAll (carried m ρ) c (m ((c : Thread nD τ).loc main_arg4))

/-! ## The pipeline's proof data -/

/-- The arrays no window stages. -/
def rest (c : Dev nD) (z : Buf (Elt F) ((c : Thread nD τ).loc main_v1)) : sProp 𝕄 :=
  iprop(pt c main_arg2 (m ((c : Thread nD τ).loc main_arg2)) ∗ pt c main_arg3 (m ((c : Thread nD τ).loc main_arg3)) ∗ pt c main_arg4 (m ((c : Thread nD τ).loc main_arg4)) ∗ pt c main_v1 z)

def start (c : Dev nD) : sProp 𝕄 :=
  iprop((∃ K, ghost (carried m ρ) K c) ∗ locals c ∗ creds c ∗ levAts L lv ∗ rest m c (m ((c : Thread nD τ).loc main_v1)))
def Φ₀ (c : Dev nD) : sProp 𝕄 := iprop(start m ρ c ∗ scr c)
def Φ₁ (c : Dev nD) : sProp 𝕄 := iprop(zeros c ∗ semVal (barCell c) 0 ∗ scrAll c ∗ rest m c (result m ρ c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => ws m ρ c
  Φ t := match t with
    | ⟨0, _⟩ => Φ₀ m ρ c
    | ⟨_ + 1, _⟩ => Φ₁ m ρ c
  q _ := fullShare
  owed t := match t with
    | ⟨0, _⟩ => owed₀ c
    | ⟨_ + 1, _⟩ => 0

def t₀ : Fin cfg0.N := ⟨0, by show 0 < grid0.N; rw [N_0]; decide⟩
theorem fin_N (t : Fin cfg0.N) : t = t₀ := fin_N0 t

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def before (c : Dev nD) : sProp 𝕄 :=
  iprop(Φ₀ m ρ c ∗ (dats m ρ 0 c).owesAt () t₀.castSucc
    ∗ (∃ d, held c cc0_stg0_0 ((dats m ρ 0 c).before (0 : Fin 2) t₀ d))
    ∗ (∃ d, held c cc0_stg1_0 ((dats m ρ 0 c).before (1 : Fin 2) t₀ d)))
def after (c : Dev nD) : sProp 𝕄 :=
  iprop(Φ₁ m ρ c ∗ (dats m ρ 0 c).owesAt () t₀.succ ∗ held c cc0_stg0_0 (xs m ρ c) ∗ held c cc0_stg1_0 (ws m ρ c))

theorem before_x (c : Dev nD) (d) : (dats m ρ 0 c).before (0 : Fin 2) t₀ d = xs m ρ c := by unfold Dat.before; rw [if_pos (fetch0_0 t₀)]; rfl
theorem before_w (c : Dev nD) (d) : (dats m ρ 0 c).before (1 : Fin 2) t₀ d = ws m ρ c := by unfold Dat.before; rw [if_pos (fetch0_1 t₀)]; rfl

set_option maxRecDepth 100000 in
theorem body_meets (c : Dev nD) : before m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole main_arg2) (Memref.isWhole_whole _) (Memref.whole main_arg3) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) (Memref.whole cc0_scratch32) (Memref.isWhole_whole _) (Memref.whole cc0_scratch33) (Memref.isWhole_whole _) (Memref.whole cc0_scratch34) (Memref.isWhole_whole _) (Memref.whole cc0_scratch35) (Memref.isWhole_whole _) (Memref.whole cc0_scratch36) (Memref.isWhole_whole _) (Memref.whole cc0_scratch37) (Memref.isWhole_whole _) (Memref.whole cc0_scratch38) (Memref.isWhole_whole _) (Memref.whole cc0_scratch39) (Memref.isWhole_whole _) (Memref.whole cc0_scratch40) (Memref.isWhole_whole _) (Memref.whole cc0_scratch41) (Memref.isWhole_whole _) (Memref.whole cc0_scratch42) (Memref.isWhole_whole _) cc0_scratch43 cc0_scratch44 cc0_scratch45 cc0_scratch46 cc0_scratch47) (fun _ => after m ρ c) := by
  unfold before Φ₀ start ghost rest
  iintro ⟨⟨⟨⟨%K, Hg⟩, Hl, Hc, Hv, H2, H3, H4, H1⟩, Hs⟩, Ho, ⟨%d0, %g0, %hg0, Hx⟩, ⟨%d1, %g1, %hg1, Hw⟩⟩
  rw [before_x] at hg0
  rw [before_w] at hg1
  subst hg0 hg1
  unfold Dat.owesAt Pipeline.owesWithin
  icases Ho with ⟨%W, %hW, HO⟩
  rw [show (dats m ρ 0 c).owed t₀.castSucc = owed₀ c from rfl]
  iapply (body_run (carried m ρ) K c W (xs m ρ c) (ws m ρ c) (m ((c : Thread nD τ).loc main_arg2)) (m ((c : Thread nD τ).loc main_arg3)) (m ((c : Thread nD τ).loc main_arg4)) (m ((c : Thread nD τ).loc main_v1))
    (fun _ => rfl) (fun _ => rfl) rfl rfl rfl rfl rfl rfl rfl rfl (fun _ => after m ρ c))
  isplitl [Hg]; · iexact Hg
  isplitl [Hv]; · iexact Hv
  isplitl [Hc]; · iexact Hc
  isplitl [Hl]; · iexact Hl
  isplitl [Hs]; · iexact Hs
  isplitl [Hx]; · iexact Hx
  isplitl [Hw]; · iexact Hw
  isplitl [H2]; · iexact H2
  isplitl [H3]; · iexact H3
  isplitl [H4]; · iexact H4
  isplitl [H1]; · iexact H1
  isplitl [HO]; · iexact HO
  iintro Hd
  unfold leaves after Φ₁ rest
  icases Hd with ⟨Hz, Hb, Hs, ⟨%W', HO⟩, Hx, Hw, H2, H3, H4, H1⟩
  isplitl [Hz Hb Hs H2 H3 H4 H1]
  · isplitl [Hz]; · iexact Hz
    isplitl [Hb]; · iexact Hb
    isplitl [Hs]; · iexact Hs
    isplitl [H2]; · iexact H2
    isplitl [H3]; · iexact H3
    isplitl [H4]; · iexact H4
    iexact H1
  isplitl [HO]
  · unfold Dat.owesAt Pipeline.owesWithin
    rw [show (dats m ρ 0 c).owed t₀.succ = 0 from rfl]
    iexists W'
    isplitr; · ipureintro; exact fun _ _ => Or.inl trivial
    iexact HO
  isplitl [Hx]
  · iexists _; isplitr; · (ipureintro; rfl)
    iexact Hx
  iexists _; isplitr; · (ipureintro; rfl)
  iexact Hw

set_option maxRecDepth 1000000 in
theorem body_obligation (c : Dev nD) : BodyObligation (dats (F := F) m ρ 0 c) (defs₀ (F := F)) 𝒱₀ () Set.univ := fun t => by
  rw [fin_N t]
  rw [show (bigSep Finset.univ : (Fin cfg0.W → sProp 𝕄) → sProp 𝕄) = fun Φ => iprop(Φ (0 : Fin 2) ∗ Φ (1 : Fin 2)) from funext fun Φ => bigSep_W0 Φ]
  simp only [owns_whole_eq]
  exact body_meets m ρ c

/-! ## The cells at the launch -/

/-- The kernel's own counters. -/
abbrev osem : Fin 83 → SemLoc sig := fun i => .dma ⟨2 + i.val, by have := i.isLt; show 2 + i.val < 85; omega⟩
/-- The cells of the exchange. -/
def csem (i : Fin 33) : SemLoc sig := if i.val = 0 then .reg barS else .dma ⟨36 + i.val, by have := i.isLt; show 36 + i.val < 85; omega⟩
def kcell (ci : Dev nD × Fin 33) : GSem nD τ sig := ((ci.1 : Thread nD τ), csem ci.2)

set_option maxRecDepth 8000 in
theorem ownSemFacts : Pipeline.OwnSemFacts cfg0.spec osem :=
  ⟨by decide, fun a b h => Fin.ext (by have := congrArg (fun s : SemLoc sig => match s with | .dma s => s.val | .reg _ => 0) h; simpa using this),
    fun k w s h => by
      have h1 : (2 + k.val) = ((cfg0.spec w).sem s).val := congrArg (fun s : SemLoc sig => match s with | .dma s => s.val | .reg _ => 0) h
      have h2 : ∀ (w : Fin 2) (s : Fin (cfg0.spec w).nbuf), ((cfg0.spec w).sem s).val < 2 := by decide
      have := h2 w s
      omega⟩
theorem share_eq (c : Dev nD) (w : Fin cfg0.W) : (dats m ρ 0 c).share w = fullShare := by unfold Dat.share; split <;> rfl

set_option maxRecDepth 8000 in
theorem csem_inj {i j : Fin 33} (h : csem i = csem j) : i = j := by
  unfold csem at h
  split at h <;> split at h
  · exact Fin.ext (by omega)
  · cases h
  · cases h
  · exact Fin.ext (by have := congrArg (fun s : SemLoc sig => match s with | .dma s => s.val | .reg _ => 0) h; simpa using this)
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_inj h2]
def ringCells : Finset (GSem nD τ sig) := Finset.univ.map ⟨kcell, kcell_injective⟩

/-- The duty tokens minted for a device's cells: its barrier's two, and one for each other. -/
def tokCell (j : Fin 34) : Fin 33 := ⟨j.val - 1, by have := j.isLt; omega⟩
def tokOf (cj : Dev nD × Fin 34) : GSem nD τ sig × ℕ × Bool := (kcell (cj.1, tokCell cj.2), 0, decide (cj.2.val = 1))
theorem tokOf_injective : Function.Injective tokOf := by
  rintro ⟨c, j⟩ ⟨c', j'⟩ h
  have h0 : (c, tokCell j) = (c', tokCell j') := kcell_injective (congrArg Prod.fst h)
  have h1 : c = c' := congrArg Prod.fst h0
  have h2 : j.val - 1 = j'.val - 1 := congrArg (fun p : Dev nD × Fin 33 => p.2.val) h0
  have h3 : decide (j.val = 1) = decide (j'.val = 1) := congrArg (fun p : GSem nD τ sig × ℕ × Bool => p.2.2) h
  have h4 : (j.val = 1) ↔ (j'.val = 1) := by simpa using h3
  rw [h1, show j = j' from Fin.ext (by omega)]
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

/-- The token of the `j`-th duty of device `c`'s cells. -/
abbrev tokAt (c : Dev nD) (j : Fin 34) : sProp 𝕄 := dutyTok EX (tokOf (c, j)).1 (tokOf (c, j)).2.1 (tokOf (c, j)).2.2
def toks (c : Dev nD) : sProp 𝕄 := bigSep Finset.univ fun j => tokAt (F := F) c j

variable (C : Carried F)

/-- What the launch deals device `c`. -/
def G (c : Dev nD) : sProp 𝕄 :=
  iprop((bigSep Finset.univ fun k : Fin 33 => roundState EX (rd C) (kcell (c, k)) 0)
    ∗ (bigSep Finset.univ fun k : Fin 33 => iprop(atPos EX (kcell (c, k)) 0 ∅ 0 ∗ reached EX (kcell (c, k)) 0)) ∗ toks c)
/-- What it makes of that. -/
def G' (c : Dev nD) : sProp 𝕄 := iprop((∃ K, ghost C K c) ∗ locals c)

theorem fund_ring : BI.own (EX (initOf ringCells ringToks)) ⊢ (|==> bigSep Finset.univ (G C) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep ringToks (fun x => (dutyTok EX x.1 x.2.1 x.2.2 : sProp 𝕄)) = bigSep Finset.univ fun c : Dev nD => toks c := by
    unfold ringToks; rw [bigSep_map, bigSep_univ_prod]; rfl
  iintro HX
  imod (Rounds.fund EX (rd C) ringCells ringToks) $$ HX with ⟨Hst, Hr, Hat, Htok⟩
  imodintro
  ihave Hst' := (Entails.of_eq (hX fun g => roundState EX (rd C) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

set_option maxRecDepth 8000 in
theorem ownSems0_eq (c : Dev nD) : (Pipeline.ownSems0 (Ix := Unit) (Name := ℕ) (U := UU) (Lvl := ℕ) (Val := Elt F) (τ := τ) osem c : sProp 𝕄) = zeros c := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl
/-- The exchange's counters one by one. -/
def cellZeros (c : Dev nD) : sProp 𝕄 := iprop(semVal (barCell c) 0 ∗ semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (sendCell c 8) 0 ∗ semVal (sendCell c 9) 0 ∗ semVal (sendCell c 10) 0 ∗ semVal (sendCell c 11) 0 ∗ semVal (sendCell c 12) 0 ∗ semVal (sendCell c 13) 0 ∗ semVal (sendCell c 14) 0 ∗ semVal (sendCell c 15) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0 ∗ semVal (recvCell c 8) 0 ∗ semVal (recvCell c 9) 0 ∗ semVal (recvCell c 10) 0 ∗ semVal (recvCell c 11) 0 ∗ semVal (recvCell c 12) 0 ∗ semVal (recvCell c 13) 0 ∗ semVal (recvCell c 14) 0 ∗ semVal (recvCell c 15) 0)
set_option maxRecDepth 8000 in
theorem cells_eq (Φ : Fin 33 → sProp 𝕄) : bigSep Finset.univ Φ = bigSepL [0, 1, 2, 3, 4, 5, 6, 7, 8, 9, 10, 11, 12, 13, 14, 15, 16, 17, 18, 19, 20, 21, 22, 23, 24, 25, 26, 27, 28, 29, 30, 31, 32] Φ := bigSep_univ_eq_bigSepL [0, 1, 2, 3, 4, 5, 6, 7, 8, 9, 10, 11, 12, 13, 14, 15, 16, 17, 18, 19, 20, 21, 22, 23, 24, 25, 26, 27, 28, 29, 30, 31, 32] (by decide) (by decide) Φ
theorem cellZeros_eq (c : Dev nD) : (bigSep Finset.univ fun k : Fin 33 => semVal (kcell (c, k)) 0 : sProp 𝕄) = cellZeros c := by
  rw [cells_eq]; rfl
theorem poss_eq (c : Dev nD) : (bigSep Finset.univ fun k : Fin 33 => atPos EX (kcell (c, k)) 0 ∅ 0 : sProp 𝕄) = poss c := by
  rw [cells_eq]; rfl

theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 33 => semVal (kcell (c, k)) 0) ∗ locals c) : sProp 𝕄) := by
  rw [ownSems0_eq, unscopedSems0_eq, cellZeros_eq]
  unfold zeros cellZeros locals
  iintro ⟨⟨S2, S3, S4, S5, S6, S7, S8, S9, S10, S11, S12, S13, S14, S15, S16, S17, S18, S19, S20, S21, S22, S23, S24, S25, S26, S27, S28, S29, S30, S31, S32, S33, S34, S35, S36, S37, S38, S39, S40, S41, S42, S43, S44, S45, S46, S47, S48, S49, S50, S51, S52, S53, S54, S55, S56, S57, S58, S59, S60, S61, S62, S63, S64, S65, S66, S67, S68, S69, S70, S71, S72, S73, S74, S75, S76, S77, S78, S79, S80, S81, S82, S83, S84⟩, Hb⟩
  isplitr [S2 S3 S4 S5 S6 S7 S8 S9 S10 S11 S12 S13 S14 S15 S16 S17 S18 S19 S20 S21 S22 S23 S24 S25 S26 S27 S28 S29 S30 S31 S32 S33 S34 S35 S36 S69 S70 S71 S72 S73 S74 S75 S76 S77 S78 S79 S80 S81 S82 S83 S84]
  · isplitl [Hb]; · iexact Hb
    isplitl [S37]; · iexact S37
    isplitl [S38]; · iexact S38
    isplitl [S39]; · iexact S39
    isplitl [S40]; · iexact S40
    isplitl [S41]; · iexact S41
    isplitl [S42]; · iexact S42
    isplitl [S43]; · iexact S43
    isplitl [S44]; · iexact S44
    isplitl [S45]; · iexact S45
    isplitl [S46]; · iexact S46
    isplitl [S47]; · iexact S47
    isplitl [S48]; · iexact S48
    isplitl [S49]; · iexact S49
    isplitl [S50]; · iexact S50
    isplitl [S51]; · iexact S51
    isplitl [S52]; · iexact S52
    isplitl [S53]; · iexact S53
    isplitl [S54]; · iexact S54
    isplitl [S55]; · iexact S55
    isplitl [S56]; · iexact S56
    isplitl [S57]; · iexact S57
    isplitl [S58]; · iexact S58
    isplitl [S59]; · iexact S59
    isplitl [S60]; · iexact S60
    isplitl [S61]; · iexact S61
    isplitl [S62]; · iexact S62
    isplitl [S63]; · iexact S63
    isplitl [S64]; · iexact S64
    isplitl [S65]; · iexact S65
    isplitl [S66]; · iexact S66
    isplitl [S67]; · iexact S67
    iexact S68
  · isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    isplitl [S33]; · iexact S33
    isplitl [S34]; · iexact S34
    isplitl [S35]; · iexact S35
    isplitl [S36]; · iexact S36
    isplitl [S69]; · iexact S69
    isplitl [S70]; · iexact S70
    isplitl [S71]; · iexact S71
    isplitl [S72]; · iexact S72
    isplitl [S73]; · iexact S73
    isplitl [S74]; · iexact S74
    isplitl [S75]; · iexact S75
    isplitl [S76]; · iexact S76
    isplitl [S77]; · iexact S77
    isplitl [S78]; · iexact S78
    isplitl [S79]; · iexact S79
    isplitl [S80]; · iexact S80
    isplitl [S81]; · iexact S81
    isplitl [S82]; · iexact S82
    isplitl [S83]; · iexact S83
    iexact S84

theorem core_alloc (c : Dev nD) :
    iprop(Pipeline.ownSems0 (Ix := Unit) (Name := ℕ) (U := UU) (Lvl := ℕ) (Val := Elt F) (τ := τ) osem c ∗ unscopedSems0 c ∗ G C c)
      ⊢ |={Set.univ}=> iprop((bigSep Finset.univ fun k => iprop(∃ κ : ℕ, cellInv EX (rd C) κ (kcell (c, k))))
          ∗ (bigSep Finset.univ fun k => iprop(atPos EX (kcell (c, k)) 0 ∅ 0 ∗ reached EX (kcell (c, k)) 0)) ∗ toks c ∗ locals c) := by
  unfold G
  iintro ⟨Hos, Hus, Hst, Hat, Htok⟩
  ihave Hv := (sems_split (F := F) c) $$ [Hos Hus]
  · isplitl [Hos] <;> iassumption
  icases Hv with ⟨Hv, Hl⟩
  imod (show iprop((bigSep Finset.univ fun k : Fin 33 => semVal (kcell (c, k)) 0) ∗ bigSep Finset.univ fun k : Fin 33 => roundState EX (rd C) (kcell (c, k)) 0)
      ⊢ (|={Set.univ}=> bigSep Finset.univ fun k => iprop(∃ κ : ℕ, cellInv EX (rd C) κ (kcell (c, k))) : sProp 𝕄) from by
        rw [← bigSep_sep']
        exact (bigSep_mono fun k _ => (Rounds.body_intro EX (rd C) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- What every device knows: all the invariants, and that every cell has reached round 0. -/
def records (K : Dev nD × Fin 33 → ℕ) : sProp 𝕄 :=
  iprop((bigSep Finset.univ fun ck : Dev nD × Fin 33 => cellInv EX (rd C) (K ck) (kcell ck))
    ∗ bigSep Finset.univ fun ck : Dev nD × Fin 33 => reached EX (kcell ck) 0)
instance records_persistent (K : Dev nD × Fin 33 → ℕ) : BI.Persistent (records C K) := by unfold records; infer_instance

theorem inv_at (K : Dev nD × Fin 33 → ℕ) (ck : Dev nD × Fin 33) :
    (bigSep Finset.univ fun ck : Dev nD × Fin 33 => (cellInv EX (rd C) (K ck) (kcell ck) : sProp 𝕄)) ⊢ cellInv EX (rd C) (K ck) (kcell ck) :=
  bigSep_elim (Finset.mem_univ ck)
omit [FloatOps F] in
theorem reached_at (ck : Dev nD × Fin 33) :
    (bigSep Finset.univ fun ck : Dev nD × Fin 33 => (reached EX (kcell ck) 0 : sProp 𝕄)) ⊢ reached EX (kcell ck) 0 :=
  bigSep_elim (Finset.mem_univ ck)

theorem invs_intro (K : Dev nD × Fin 33 → ℕ) (c : Dev nD) :
    (bigSep Finset.univ fun ck : Dev nD × Fin 33 => (cellInv EX (rd C) (K ck) (kcell ck) : sProp 𝕄)) ⊢ invs C K c := by
  unfold invs
  iintro #HI
  isplitr; · iapply (inv_at C K (c, 0)); iexact HI
  isplitr; · iapply (inv_at C K (px c, 0)); iexact HI
  isplitr; · iapply (inv_at C K (py c, 0)); iexact HI
  isplitr; · iapply (inv_at C K (c, 1)); iexact HI
  isplitr; · iapply (inv_at C K (c, 2)); iexact HI
  isplitr; · iapply (inv_at C K (c, 3)); iexact HI
  isplitr; · iapply (inv_at C K (c, 4)); iexact HI
  isplitr; · iapply (inv_at C K (c, 5)); iexact HI
  isplitr; · iapply (inv_at C K (c, 6)); iexact HI
  isplitr; · iapply (inv_at C K (c, 7)); iexact HI
  isplitr; · iapply (inv_at C K (c, 8)); iexact HI
  isplitr; · iapply (inv_at C K (c, 9)); iexact HI
  isplitr; · iapply (inv_at C K (c, 10)); iexact HI
  isplitr; · iapply (inv_at C K (c, 11)); iexact HI
  isplitr; · iapply (inv_at C K (c, 12)); iexact HI
  isplitr; · iapply (inv_at C K (c, 13)); iexact HI
  isplitr; · iapply (inv_at C K (c, 14)); iexact HI
  isplitr; · iapply (inv_at C K (c, 15)); iexact HI
  isplitr; · iapply (inv_at C K (c, 16)); iexact HI
  isplitr; · iapply (inv_at C K (c, 17)); iexact HI
  isplitr; · iapply (inv_at C K (c, 18)); iexact HI
  isplitr; · iapply (inv_at C K (c, 19)); iexact HI
  isplitr; · iapply (inv_at C K (c, 20)); iexact HI
  isplitr; · iapply (inv_at C K (c, 21)); iexact HI
  isplitr; · iapply (inv_at C K (c, 22)); iexact HI
  isplitr; · iapply (inv_at C K (c, 23)); iexact HI
  isplitr; · iapply (inv_at C K (c, 24)); iexact HI
  isplitr; · iapply (inv_at C K (c, 25)); iexact HI
  isplitr; · iapply (inv_at C K (c, 26)); iexact HI
  isplitr; · iapply (inv_at C K (c, 27)); iexact HI
  isplitr; · iapply (inv_at C K (c, 28)); iexact HI
  isplitr; · iapply (inv_at C K (c, 29)); iexact HI
  isplitr; · iapply (inv_at C K (c, 30)); iexact HI
  isplitr; · iapply (inv_at C K (c, 31)); iexact HI
  isplitr; · iapply (inv_at C K (c, 32)); iexact HI
  isplitr; · iapply (inv_at C K (px c, 17)); iexact HI
  isplitr; · iapply (inv_at C K (py c, 18)); iexact HI
  isplitr; · iapply (inv_at C K (px c, 19)); iexact HI
  isplitr; · iapply (inv_at C K (py c, 20)); iexact HI
  isplitr; · iapply (inv_at C K (py c, 21)); iexact HI
  isplitr; · iapply (inv_at C K (px c, 22)); iexact HI
  isplitr; · iapply (inv_at C K (py c, 23)); iexact HI
  isplitr; · iapply (inv_at C K (px c, 24)); iexact HI
  isplitr; · iapply (inv_at C K (px c, 25)); iexact HI
  isplitr; · iapply (inv_at C K (py c, 26)); iexact HI
  isplitr; · iapply (inv_at C K (px c, 27)); iexact HI
  isplitr; · iapply (inv_at C K (py c, 28)); iexact HI
  isplitr; · iapply (inv_at C K (py c, 29)); iexact HI
  isplitr; · iapply (inv_at C K (px c, 30)); iexact HI
  isplitr; · iapply (inv_at C K (py c, 31)); iexact HI
  iapply (inv_at C K (px c, 32)); iexact HI
theorem marks_intro (c : Dev nD) :
    (bigSep Finset.univ fun ck : Dev nD × Fin 33 => (reached EX (kcell ck) 0 : sProp 𝕄)) ⊢ marks c := by
  unfold marks
  iintro #HR
  isplitr; · iapply (reached_at (F := F) (px c, 0)); iexact HR
  isplitr; · iapply (reached_at (F := F) (py c, 0)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  isplitr; · iapply (reached_at (F := F) (c, 6)); iexact HR
  isplitr; · iapply (reached_at (F := F) (c, 7)); iexact HR
  isplitr; · iapply (reached_at (F := F) (c, 8)); iexact HR
  isplitr; · iapply (reached_at (F := F) (c, 9)); iexact HR
  isplitr; · iapply (reached_at (F := F) (c, 10)); iexact HR
  isplitr; · iapply (reached_at (F := F) (c, 11)); iexact HR
  isplitr; · iapply (reached_at (F := F) (c, 12)); iexact HR
  isplitr; · iapply (reached_at (F := F) (c, 13)); iexact HR
  isplitr; · iapply (reached_at (F := F) (c, 14)); iexact HR
  isplitr; · iapply (reached_at (F := F) (c, 15)); iexact HR
  isplitr; · iapply (reached_at (F := F) (c, 16)); iexact HR
  isplitr; · iapply (reached_at (F := F) (px c, 17)); iexact HR
  isplitr; · iapply (reached_at (F := F) (py c, 18)); iexact HR
  isplitr; · iapply (reached_at (F := F) (px c, 19)); iexact HR
  isplitr; · iapply (reached_at (F := F) (py c, 20)); iexact HR
  isplitr; · iapply (reached_at (F := F) (py c, 21)); iexact HR
  isplitr; · iapply (reached_at (F := F) (px c, 22)); iexact HR
  isplitr; · iapply (reached_at (F := F) (py c, 23)); iexact HR
  isplitr; · iapply (reached_at (F := F) (px c, 24)); iexact HR
  isplitr; · iapply (reached_at (F := F) (px c, 25)); iexact HR
  isplitr; · iapply (reached_at (F := F) (py c, 26)); iexact HR
  isplitr; · iapply (reached_at (F := F) (px c, 27)); iexact HR
  isplitr; · iapply (reached_at (F := F) (py c, 28)); iexact HR
  isplitr; · iapply (reached_at (F := F) (py c, 29)); iexact HR
  isplitr; · iapply (reached_at (F := F) (px c, 30)); iexact HR
  isplitr; · iapply (reached_at (F := F) (py c, 31)); iexact HR
  iapply (reached_at (F := F) (px c, 32)); iexact HR

theorem ghost_intro (K : Dev nD × Fin 33 → ℕ) (c : Dev nD) : iprop(records C K ∗ poss c ∗ payToks c ∗ locals c) ⊢ G' C c := by
  unfold records G' ghost
  iintro ⟨⟨#HI, #HR⟩, Ha, Ht, Hl⟩
  isplitr [Hl]
  · iexists K
    isplitr; · iapply (invs_intro C K c); iexact HI
    isplitr; · iapply (marks_intro (F := F) c); iexact HR
    isplitl [Ht]; · iexact Ht
    iexact Ha
  iexact Hl

/-- Who pays the `j`-th duty of device `c`'s cells: its partners the barrier's and the arrivals', itself the departures'. -/
def payer (j : Fin 34) : Dev nD ≃ Dev nD :=
  if j.val = 0 then ringX else if j.val = 1 then ringY else if h : 18 ≤ j.val then ring ⟨j.val - 18, by have := j.isLt; omega⟩ else Equiv.refl _
set_option maxRecDepth 8000 in
theorem payToks_eq (c : Dev nD) : (bigSep Finset.univ fun j : Fin 34 => tokAt (F := F) (payer j c) j) = payToks c := by
  rw [bigSep_univ_eq_bigSepL [0, 1, 2, 3, 4, 5, 6, 7, 8, 9, 10, 11, 12, 13, 14, 15, 16, 17, 18, 19, 20, 21, 22, 23, 24, 25, 26, 27, 28, 29, 30, 31, 32, 33] (by decide) (by decide)]; rfl
omit [FloatOps F] in
theorem swap {I J : Type} (s : Finset I) (t : Finset J) (Φ : I → J → sProp 𝕄) :
    (bigSep s fun i => bigSep t fun j => Φ i j) = bigSep t fun j => bigSep s fun i => Φ i j := by
  classical
  induction s using Finset.induction_on with
  | empty => simp
  | insert i s hi ih => rw [bigSep_insert hi, ih, ← bigSep_sep]; exact bigSep_congr fun j _ => (bigSep_insert hi (Φ := fun i => Φ i j)).symm
theorem toks_around : (bigSep Finset.univ fun c : Dev nD => (toks c : sProp 𝕄)) ⊢ bigSep Finset.univ fun c : Dev nD => payToks c := by
  unfold toks
  rw [swap]
  rw [bigSep_congr (s := Finset.univ) fun (j : Fin 34) _ => bigSep_univ_equiv (payer j) fun c => tokAt (F := F) c j]
  rw [swap]
  exact Entails.of_eq (bigSep_congr fun c _ => payToks_eq c)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (rd C) κ (kcell (c, k))))
          ∗ (bigSep Finset.univ fun k => iprop(atPos EX (kcell (c, k)) 0 ∅ 0 ∗ reached EX (kcell (c, k)) 0)) ∗ toks c ∗ locals c) : sProp 𝕄)
      ⊢ bigSep Finset.univ (G' C) := by
  rw [bigSep_sep', bigSep_sep', bigSep_sep', ← bigSep_univ_prod (fun ck : Dev nD × Fin 33 => iprop(∃ κ : ℕ, cellInv EX (rd C) κ (kcell ck))),
    bigSep_congr (s := Finset.univ) (fun (c : Dev nD) _ => bigSep_sep' Finset.univ (fun k : Fin 33 => (atPos EX (kcell (c, k)) 0 ∅ 0 : sProp 𝕄)) (fun k => reached EX (kcell (c, k)) 0)),
    bigSep_sep', ← bigSep_univ_prod (fun ck : Dev nD × Fin 33 => (reached EX (kcell ck) 0 : sProp 𝕄))]
  iintro ⟨HI, ⟨Hat, #HR⟩, Htok, Hl⟩
  ihave HK := (BI.bigSep_exists_pi Finset.univ (fun (ck : Dev nD × Fin 33) (κ : ℕ) => (cellInv EX (rd C) κ (kcell ck) : sProp 𝕄))) $$ HI
  icases HK with ⟨%K, #HI⟩
  ihave Htk := (toks_around (F := F)) $$ Htok
  iapply (bigSep_with_persistent (R := records C K) fun c _ => ghost_intro C K c)
  isplitr
  · unfold records; isplitl; · iexact HI
    iexact HR
  · rw [bigSep_sep', bigSep_sep']
    isplitl [Hat]
    · iapply (Entails.of_eq (bigSep_congr (s := Finset.univ) fun (c : Dev nD) _ => poss_eq (F := F) c)); iexact Hat
    isplitl [Htk]; · iexact Htk
    iexact Hl

theorem glob : (bigSep Finset.univ fun c => iprop(Pipeline.ownSems0 (Ix := Unit) (Name := ℕ) (U := UU) (Lvl := ℕ) (Val := Elt F) (τ := τ) osem c ∗ unscopedSems0 c ∗ G C c) : sProp 𝕄)
    ⊢ |={Set.univ}=> bigSep Finset.univ (G' C) :=
  ((bigSep_mono fun c _ => core_alloc C c).trans (bigSep_fupd _ _)).trans (BI.fupd_mono (regroup C))

/-! ## The launch credit -/

theorem sendS_val {j k : Fin 16} (h : recvS j = recvS k) : j = k := Fin.ext (by have : 53 + j.val = 53 + k.val := congrArg Fin.val h; omega)
theorem recv_eq {a b : Dev nD} {j k : Fin 16} : recvCell a j = recvCell b k ↔ a = b ∧ j = k :=
  ⟨fun h => ⟨congrArg (fun g : GSem nD τ sig => g.1.1) h, sendS_val (SemLoc.dma.inj (congrArg Prod.snd h))⟩, fun h => by rw [h.1, h.2]⟩
theorem bar_eq {a b : Dev nD} : barCell a = barCell b ↔ a = b := ⟨fun h => congrArg (fun g : GSem nD τ sig => g.1.1) h, fun h => by rw [h]⟩

theorem due_recv (d c : Dev nD) (j k : Fin 16) : due d j (recvCell c k) () = if j = k ∧ d = peer k c then amt k else 0 := by
  unfold due
  rw [tallyAt_apply]
  by_cases h : j = k ∧ d = peer k c
  · obtain ⟨rfl, rfl⟩ := h
    rw [if_pos ⟨by rw [peer_peer], rfl⟩, if_pos ⟨rfl, rfl⟩]
  · rw [if_neg h, if_neg]
    rintro ⟨h1, -⟩
    obtain ⟨h2, h3⟩ := recv_eq.mp h1
    subst h3
    exact h ⟨rfl, by rw [h2, peer_peer]⟩
theorem due_bar (d c : Dev nD) (j : Fin 16) : due d j (barCell c) () = 0 := by
  unfold due
  rw [tallyAt_ne_cell (fun h => recv_ne_bar j (congrArg Prod.snd h).symm)]; rfl
theorem left_bar (d c : Dev nD) : ∀ n, left d n (barCell c) () = 0
  | 0 => rfl
  | n + 1 => by
    unfold left
    rw [Pi.add_apply, Finsupp.add_apply, left_bar d c n, due_bar]
theorem left_recv (d c : Dev nD) (k : Fin 16) : left d 16 (recvCell c k) () = if d = peer k c then amt k else 0 := by
  simp only [left, Pi.add_apply, Finsupp.add_apply, due_recv, Pi.zero_apply, Finsupp.zero_apply]
  by_cases h : d = peer k c
  · rw [if_pos h]
    simp only [eq_true h, _root_.and_true]
    clear h
    revert k; decide
  · rw [if_neg h]
    simp only [eq_false h, _root_.and_false, if_false]
theorem owed_recv (d c : Dev nD) (k : Fin 16) : owed₀ d (recvCell c k) () = if d = peer k c then amt k else 0 := by
  unfold owed₀
  rw [Pi.add_apply, Finsupp.add_apply, Pi.add_apply, Finsupp.add_apply, left_recv,
    tallyAt_ne_cell (fun h => recv_ne_bar k (congrArg Prod.snd h)), tallyAt_ne_cell (fun h => recv_ne_bar k (congrArg Prod.snd h)), Finsupp.zero_apply, Nat.add_zero, Nat.add_zero]
theorem owed_bar (d c : Dev nD) : owed₀ d (barCell c) () = (if d = py c then 1 else 0) + (if d = px c then 1 else 0) := by
  unfold owed₀
  rw [Pi.add_apply, Finsupp.add_apply, Pi.add_apply, Finsupp.add_apply, left_bar, tallyAt_apply, tallyAt_apply, Nat.zero_add]
  congr 1
  · by_cases h : d = py c
    · rw [if_pos h, if_pos ⟨by rw [h, py_py], rfl⟩]
    · rw [if_neg h, if_neg]
      rintro ⟨h1, -⟩
      exact h (by rw [bar_eq.mp h1, py_py])
  · by_cases h : d = px c
    · rw [if_pos h, if_pos ⟨by rw [h, px_px], rfl⟩]
    · rw [if_neg h, if_neg]
      rintro ⟨h1, -⟩
      exact h (by rw [bar_eq.mp h1, px_px])

theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (py c) fun _ => 1, Finset.sum_ite_eq' Finset.univ (px c) fun _ => 1, if_pos (Finset.mem_univ _), if_pos (Finset.mem_univ _)]
theorem launch_recv (c : Dev nD) (k : Fin 16) :
    tallyOn (recvCell c k) (launchCredit (Pipeline.owing owed₀) 0 (recvCell c k)) = (tallyAt (recvCell c k) () (amt k) : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (peer k c) fun _ => amt k,
    if_pos (Finset.mem_univ _)]

set_option maxRecDepth 8000 in
theorem creds_intro (c : Dev nD) : (Pipeline.launchCred owed₀ c : sProp 𝕄) ⊢ creds c := by
  unfold Pipeline.launchCred
  refine (bigSep_subset (M := 𝕄) (Finset.subset_univ (List.toFinset [SemLoc.reg barS, SemLoc.dma (recvS 0), SemLoc.dma (recvS 1), SemLoc.dma (recvS 2), SemLoc.dma (recvS 3), SemLoc.dma (recvS 4), SemLoc.dma (recvS 5), SemLoc.dma (recvS 6), SemLoc.dma (recvS 7), SemLoc.dma (recvS 8), SemLoc.dma (recvS 9), SemLoc.dma (recvS 10), SemLoc.dma (recvS 11), SemLoc.dma (recvS 12), SemLoc.dma (recvS 13), SemLoc.dma (recvS 14), SemLoc.dma (recvS 15)]))).trans ?_
  rw [bigSep_eq_bigSepL [SemLoc.reg barS, SemLoc.dma (recvS 0), SemLoc.dma (recvS 1), SemLoc.dma (recvS 2), SemLoc.dma (recvS 3), SemLoc.dma (recvS 4), SemLoc.dma (recvS 5), SemLoc.dma (recvS 6), SemLoc.dma (recvS 7), SemLoc.dma (recvS 8), SemLoc.dma (recvS 9), SemLoc.dma (recvS 10), SemLoc.dma (recvS 11), SemLoc.dma (recvS 12), SemLoc.dma (recvS 13), SemLoc.dma (recvS 14), SemLoc.dma (recvS 15)] (by decide)]
  simp only [bigSepL_cons_cons, bigSepL_singleton, launch_bar, launch_recv]
  exact (BI.Entails.refl (creds c : sProp 𝕄))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (carried m ρ) c)
      ⊢ |={Set.univ}=> iprop(start m ρ c ∗ emp) := by
  rw [Pipeline.unscopedRestP_none, unscopedRest0_eq]
  iintro ⟨⟨H2, H3, H4, H1⟩, Hlev, Hcr, -, HG⟩
  ihave Hc := (creds_intro (F := F) c) $$ Hcr
  imodintro
  unfold start G' rest
  icases HG with ⟨HG, Hl⟩
  isplitl
  · isplitl [HG]; · iexact HG
    isplitl [Hl]; · iexact Hl
    isplitl [Hc]; · iexact Hc
    isplitl [Hlev]; · iexact Hlev
    isplitl [H2]; · iexact H2
    isplitl [H3]; · iexact H3
    isplitl [H4]; · iexact H4
    iexact H1
  · iempintro

set_option maxRecDepth 8000 in
theorem scopedRest_eq (c : Dev nD) : (Pipeline.scopedRest (Ix := Unit) (Name := ℕ) (U := UU) (Lvl := ℕ) (Val := Elt F) cfg0.spec c : sProp 𝕄) = scrAll c := by
  rw [Pipeline.scopedRest_eq_of_list cfg0.spec c [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18, cc0_scratch19, cc0_scratch20, cc0_scratch21, cc0_scratch22, cc0_scratch23, cc0_scratch24, cc0_scratch25, cc0_scratch26, cc0_scratch27, cc0_scratch28, cc0_scratch29, cc0_scratch30, cc0_scratch31, cc0_scratch32, cc0_scratch33, cc0_scratch34, cc0_scratch35, cc0_scratch36, cc0_scratch37, cc0_scratch38, cc0_scratch39, cc0_scratch40, cc0_scratch41, cc0_scratch42] (by decide) (by decide)]; rfl
theorem scr_intro (c : Dev nD) : scrAll (F := F) c ⊢ scr c := by
  unfold scrAll scr landX landY
  iintro ⟨X0, X1, X2, X3, X4, X5, X6, X7, X8, X9, X10, X11, X12, X13, X14, X15, X16, X17, X18, X19, X20, X21, X22, X23, X24, X25, X26, X27, X28, X29, X30, X31, X32, X33, X34, X35, X36, X37, X38, X39, X40, X41, X42⟩
  isplitl [X0]; · iexact X0
  isplitl [X1]; · iexact X1
  isplitl [X2]; · iexact X2
  isplitl [X3]; · iexact X3
  isplitl [X4]; · iexact X4
  isplitl [X5]; · iexact X5
  isplitl [X6]; · iexact X6
  isplitl [X7]; · iexact X7
  isplitl [X8]; · iexact X8
  isplitl [X9]; · iexact X9
  isplitl [X10]; · iexact X10
  isplitl [X11]; · iexact X11
  isplitl [X12]; · iexact X12
  isplitl [X13]; · iexact X13
  isplitl [X14]; · iexact X14
  isplitl [X15]; · iexact X15
  isplitl [X16]; · iexact X16
  isplitl [X17]; · iexact X17
  isplitl [X18]; · iexact X18
  isplitl [X19]; · iexact X19
  isplitl [X20]; · iexact X20
  isplitl [X21]; · iexact X21
  isplitl [X22]; · iexact X22
  isplitl [X23]; · iexact X23
  isplitl [X24]; · iexact X24
  isplitl [X25]; · iexact X25
  isplitl [X26]; · iexact X26
  isplitl [X27 X35 X29 X37 X32 X40 X34 X42]
  · isplitl [X27]; · iexact X27
    isplitl [X35]; · iexact X35
    isplitl [X29]; · iexact X29
    isplitl [X37]; · iexact X37
    isplitl [X32]; · iexact X32
    isplitl [X40]; · iexact X40
    isplitl [X34]; · iexact X34
    iexact X42
  isplitl [X28]; · iexact X28
  isplitl [X36]; · iexact X36
  isplitl [X30]; · iexact X30
  isplitl [X38]; · iexact X38
  isplitl [X31]; · iexact X31
  isplitl [X39]; · iexact X39
  isplitl [X33]; · iexact X33
  iexact X41

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest_eq]
  unfold Φ₀
  iintro ⟨Hs, -, Hr⟩
  isplitl [Hs]; · iexact Hs
  iapply (scr_intro (F := F) c); iexact Hr

theorem phi1_exit (c : Dev nD) :
    (dats m ρ 0 c).Φ (Fin.last cfg0.N) ⊢ iprop((unscopedSems0 c ∗ rest m c (result m ρ c)) ∗ Pipeline.ownSems0 osem c ∗ Pipeline.scopedRest cfg0.spec c) := by
  rw [show (dats m ρ 0 c).Φ (Fin.last cfg0.N) = Φ₁ m ρ c from rfl, scopedRest_eq, ownSems0_eq, unscopedSems0_eq]
  unfold Φ₁
  iintro ⟨Hz, Hb, Hs, Hr⟩
  isplitl [Hb Hr]
  · isplitl [Hb]; · iexact Hb
    iexact Hr
  isplitl [Hz]; · iexact Hz
  iexact Hs

theorem waits (c : Dev nD) : (levAts L lv : sProp 𝕄) ⊢ Pipeline.cellsWaits cfgs (dats m ρ) () 0 c :=
  Pipeline.cellsWaits_intro cfgs (dats m ρ) () 0 c fun w s t => by
    have hlow : ((cfg0.win w).sem s).val < 53 := by
      have h2 : ∀ (w : Fin 2) (s : Fin (cfg0.spec w).nbuf), ((cfg0.spec w).sem s).val < 53 := by decide
      exact h2 w s
    rcases t with ⟨_ | _, ht⟩
    · exact may_low₀ c _ (low_of_lt hlow)
    · show _ ⊢ MayWait _ _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

/-- What the run ends in: the arguments as they were, and each device's result. -/
def Ends (s : MemSt nD τ sig (Elt F)) (c : Dev nD) : Prop :=
  s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4) ∧ s.mem ((c : Thread nD τ).loc main_v1) = result m ρ c

omit [FloatOps F] in
theorem pointsTo_read (c : Dev nD) (b : Ref sig .tc) (f : Buf (Elt F) ((c : Thread nD τ).loc b)) (s' : Phys nD τ sig (Elt F)) :
    iprop(pt c b f ∗ SI s') ⊢ (iprop(⌜s'.mem.mem ((c : Thread nD τ).loc b) = f⌝ ∗ SI s') : sProp 𝕄) := by
  have h := pointsTo_read_all (Ix := Unit) (Name := ℕ) (U := UU) (Lvl := ℕ) (Finset.univ : Finset Unit) (fun _ => (c : Thread nD τ).loc b) (fun _ => f) s'
  rw [show (bigSep (Finset.univ : Finset Unit) fun _ => ((((c : Thread nD τ).loc b) ↦{fullShare} f) : sProp 𝕄)) = (((c : Thread nD τ).loc b) ↦{fullShare} f) from bigSep_univ_eq_bigSepL [()] (by decide) (by decide) _] at h
  iintro H
  ihave H := h $$ H
  icases H with ⟨%e, HSI⟩
  isplitr
  · ipureintro; exact e () (Finset.mem_univ _)
  iexact HSI
theorem own_rounds : (BI.own ((embR : Emb (UX × Counters) 𝕄) (initOf ringCells ringToks, 1)) : sProp 𝕄) ⊢ BI.own (EX (initOf ringCells ringToks)) :=
  Entails.of_eq rfl

theorem rest_read (c : Dev nD) (s' : Phys nD τ sig (Elt F)) : iprop(rest m c (result m ρ c) ∗ SI s') ⊢ (iprop(⌜Ends m ρ s'.mem c⌝ ∗ SI s') : sProp 𝕄) := by
  unfold rest
  iintro ⟨⟨H2, H3, H4, H1⟩, HSI⟩
  ihave H := (pointsTo_read (F := F) c main_arg2 _ s') $$ [H2 HSI]
  · isplitl [H2] <;> iassumption
  icases H with ⟨%h2, HSI⟩
  ihave H := (pointsTo_read (F := F) c main_arg3 _ s') $$ [H3 HSI]
  · isplitl [H3] <;> iassumption
  icases H with ⟨%h3, HSI⟩
  ihave H := (pointsTo_read (F := F) c main_arg4 _ s') $$ [H4 HSI]
  · isplitl [H4] <;> iassumption
  icases H with ⟨%h4, HSI⟩
  ihave H := (pointsTo_read (F := F) c main_v1 _ s') $$ [H1 HSI]
  · isplitl [H1] <;> iassumption
  icases H with ⟨%h1, HSI⟩
  isplitr
  · ipureintro; exact ⟨h2, h3, h4, h1⟩
  iexact HSI

theorem finalA_x (c : Dev nD) : finalA m ρ c (0 : Fin 2) = m ((c : Thread nD τ).loc main_arg0) := (dats (F := F) m ρ 0 c).arrAt_in (0 : Fin 2) rfl _
theorem finalA_w (c : Dev nD) : finalA m ρ c (1 : Fin 2) = m ((c : Thread nD τ).loc main_arg1) := (dats (F := F) m ρ 0 c).arrAt_in (1 : Fin 2) rfl _

set_option maxRecDepth 8000 in
/-- From any memory with zero counters every fair run ends, each device's arguments as they were, its result `result m ρ c`, and every counter at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_arg1) = m ((c : Thread nD τ).loc main_arg1)
      ∧ Ends m ρ r.2 c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G (carried m ρ)) (G' := G' (carried m ρ)) (u₀ := u₀)
    (hu₀ := by
      unfold u₀
      iintro Hu
      ihave H := (ownU_pair _ _) $$ Hu
      icases H with ⟨HP, HX⟩
      ihave HX := (own_rounds (F := F)) $$ HX
      imod (fund_ring (carried m ρ)) $$ HX with HG
      imodintro
      isplitl [HP] <;> iassumption)
    (hglob := glob (carried m ρ))
    (hA := fun _ _ => rfl) (hpf := fun _ k => k.elim0)
    (X := start m ρ) (Y := fun c => iprop(unscopedSems0 c ∗ rest m c (result m ρ c))) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ Ends m ρ s c)
    (hY := fun c s' => by
      iintro ⟨⟨Hu, Hr⟩, -, HSI⟩
      ihave H := (rest_read m ρ c s') $$ [Hr HSI]
      · isplitl [Hr] <;> iassumption
      icases H with ⟨%he, HSI⟩
      imod (Pipeline.unscopedSems0_read (X := unscopedSems0 c) (c := c) fupd_intro s') $$ [Hu HSI] with ⟨%hz, HSI⟩
      · isplitl [Hu] <;> iassumption
      imodintro
      isplitr
      · ipureintro; exact ⟨hz, he⟩
      iexact HSI)
    (hQ := fun _ h hs => ⟨fun c => ⟨((h c).1 0).trans (finalA_x m ρ c), ((h c).1 1).trans (finalA_w m ρ c), (h c).2.2.2⟩, sem_eq_zero hs fun c => (h c).2.2.1⟩)

end Cert.KernelIdeal.Exchange

end
-- ==== Proof.Frames.lean ====
/-
The frames: the runs of the kernel and of the reference with the values left out.
-/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.Pre_finite_inputs_KernelIdeal
public import proofs.«01_k».proof.Proof.Gen.Pre_finite_inputs_ReferenceIdeal
public import Idealize.ShloMosaic.Init

@[expose] public section

noncomputable section

namespace Cert.Proof

open Idealize.ShloMosaic Idealize.ShloMosaic.TcCoe Idealize.SL.Sem
open Cert.KernelIdeal.Exchange

variable {F : FTy → Type} [FloatOps F]

/-- The kernel's run with its arguments read in the claims' order. -/
theorem args_run (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => ⟨(h.1 c).1, (h.1 c).2.1, (h.1 c).2.2.1, (h.1 c).2.2.2.1, (h.1 c).2.2.2.2.1⟩, h.2⟩) (run_main m ρ)

theorem frame_ideal : Cert.quiescent_KernelIdeal := fun m ρ _ => args_run m ρ
theorem frame_ideal_pre : Cert.quiescent_KernelIdeal_pre_finite_inputs_KernelIdeal := fun m ρ _ => args_run m ρ
/-! The kernel as given has the same text: its body table and its main function are the ones read over the reals. -/

theorem same_body : Cert.Kernel.cc0_body (F := F) = Cert.KernelIdeal.cc0_body (F := F) := rfl
theorem same_table₀ : Cert.Kernel.defs₀ (F := F) = Cert.KernelIdeal.defs₀ (F := F) := by
  unfold Cert.Kernel.defs₀ Cert.KernelIdeal.defs₀
  refine congrArg _ (funext fun l => funext fun x => ?_)
  match l, x with
  | ⟨0, _⟩, (t, s) => rfl
  | ⟨n + 1, h⟩, _ => exact absurd h (Nat.not_lt.2 (Nat.le_add_left _ _))
theorem same_table : Cert.KernelIdeal.defs (F := F) = Cert.Kernel.defs (F := F) := by
  unfold Cert.Kernel.defs Cert.KernelIdeal.defs
  rw [same_table₀]
  rfl
theorem frame_kernel : Cert.quiescent_Kernel := fun m ρ _ => by
  have h := args_run (F := Bits) m ρ
  rw [same_table] at h
  exact h

theorem frame_ref : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)
theorem frame_ref_pre : Cert.quiescent_ReferenceIdeal_pre_finite_inputs_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Proof

end
-- ==== Proof.Softmax.lean ====
module

public import Idealize.ShloMosaic.PureOps.Ideal.Laws

/-! The softmax of a masked row of scores, over the extended reals: subtracting a finite number from every score changes
no weight, a masked score weighs nothing, and the common denominator can be divided out of the weighted sum. -/

@[expose] public section

namespace Cert.Softmax

open Idealize Idealize.ShloMosaic

theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Multiplying an extended-real sum by a nonnegative real number distributes over the sum. -/
theorem sum_mul_real {ι : Type} (s : Finset ι) (f : ι → EReal) {t : ℝ} (ht : 0 ≤ t) :
    (∑ i ∈ s, f i) * (t : EReal) = ∑ i ∈ s, f i * (t : EReal) := by
  classical
  induction s using Finset.induction_on with
  | empty => simp
  | insert a s ha ih =>
    rw [Finset.sum_insert ha, Finset.sum_insert ha, ← ih]
    exact EReal.right_distrib_of_nonneg_of_ne_top (EReal.coe_nonneg.mpr ht) (EReal.coe_ne_top t) _ _

theorem div_real (a : EReal) {t : ℝ} (ht : 0 < t) : Ideal.div a (t : EReal) = a * ((t⁻¹ : ℝ) : EReal) := by
  unfold Ideal.div
  rw [if_neg (by simpa using ht.ne'), EReal.coe_inv]

variable {ι : Type} [Fintype ι] (M : ι → Prop) [DecidablePred M] (s : ι → ℝ)

/-- A score, with −∞ where the mask is off. -/
noncomputable def masked (i : ι) : EReal := if M i then (s i : EReal) else ⊥

theorem exp_masked (c : ℝ) (i : ι) :
    Ideal.exp (masked M s i - (c : EReal)) = (((if M i then Real.exp (s i) else 0) * Real.exp (-c) : ℝ) : EReal) := by
  unfold masked
  split
  · rw [← EReal.coe_sub, Ideal.exp_coe, ← Real.exp_add, sub_eq_add_neg]
  · rw [zero_mul, sub_eq_add_neg, EReal.bot_add]; rfl

/-- The sum of the unmasked exponentials. -/
noncomputable def total : ℝ := ∑ i, if M i then Real.exp (s i) else 0

theorem total_pos (h : ∃ i, M i) : 0 < total M s := by
  obtain ⟨i, hi⟩ := h
  refine Finset.sum_pos' (fun j _ => ?_) ⟨i, Finset.mem_univ _, ?_⟩
  · split
    · exact (Real.exp_pos _).le
    · exact le_rfl
  · rw [if_pos hi]; exact Real.exp_pos _

theorem weight (h : ∃ i, M i) (c : ℝ) (i : ι) :
    Ideal.div (Ideal.exp (masked M s i - (c : EReal))) (∑ j, Ideal.exp (masked M s j - (c : EReal)))
      = (((if M i then Real.exp (s i) else 0) * (total M s)⁻¹ : ℝ) : EReal) := by
  have hs : (∑ j, Ideal.exp (masked M s j - (c : EReal))) = ((total M s * Real.exp (-c) : ℝ) : EReal) := by
    rw [Finset.sum_congr rfl (fun j _ => exp_masked M s c j), sum_real, total, Finset.sum_mul]
  have hp := total_pos M s h
  rw [hs, div_real _ (mul_pos hp (Real.exp_pos _)), exp_masked, ← EReal.coe_mul]
  congr 1
  have := (Real.exp_pos (-c)).ne'
  field_simp

/-- The weighted sum of the values: the unmasked exponentials weigh, and the denominator is divided out. -/
theorem attend (h : ∃ i, M i) (c : ℝ) (V : ι → EReal) :
    (∑ i, Ideal.div (Ideal.exp (masked M s i - (c : EReal))) (∑ j, Ideal.exp (masked M s j - (c : EReal))) * V i)
      = Ideal.div (∑ i, if M i then Ideal.exp (s i : EReal) * V i else 0) (∑ i, if M i then Ideal.exp (s i : EReal) else 0) := by
  have hp := total_pos M s h
  have hd : (∑ i, if M i then Ideal.exp (s i : EReal) else 0) = (total M s : EReal) := by
    rw [total, ← sum_real]
    refine Finset.sum_congr rfl fun i _ => ?_
    split <;> rfl
  rw [hd, div_real _ hp, sum_mul_real _ _ (inv_nonneg.mpr hp.le)]
  refine Finset.sum_congr rfl fun i _ => ?_
  rw [weight M s h c i]
  split
  · rw [EReal.coe_mul, mul_assoc, mul_assoc, mul_comm (((total M s)⁻¹ : ℝ) : EReal)]; rfl
  · simp

/-- The largest masked score is a real number. -/
theorem max_real (h : ∃ i, M i) : ∃ c : ℝ, Finset.univ.fold max ⊥ (masked M s) = (c : EReal) := by
  obtain ⟨i, hi⟩ := h
  have e : Finset.univ.fold max ⊥ (masked M s) = Finset.univ.sup (masked M s) := rfl
  have hb : Finset.univ.sup (masked M s) ≠ ⊥ := by
    refine ne_of_gt (lt_of_lt_of_le ?_ (Finset.le_sup (Finset.mem_univ i)))
    unfold masked; rw [if_pos hi]; exact EReal.bot_lt_coe _
  have ht : Finset.univ.sup (masked M s) ≠ ⊤ := by
    refine ne_of_lt ((Finset.sup_lt_iff (by exact bot_lt_top)).mpr fun j _ => ?_)
    unfold masked
    split
    · exact EReal.coe_lt_top _
    · exact bot_lt_top
  exact ⟨_, e.trans (EReal.coe_toReal ht hb).symm⟩

/-- The keys of one group of rows, counted block by block and row by row inside each block. -/
theorem by_group {β : Type} [AddCommMonoid β] (q : Fin 4) (f : Fin 4096 → β) :
    (∑ g : Fin 4096, if g.val / 64 % 4 = q.val then f g else 0)
      = ∑ c : Fin 4, ∑ j : Fin 256, f ⟨1024 * c.val + (64 * (4 * (j.val / 64) + q.val) + j.val % 64), by have := c.isLt; have := q.isLt; have := j.isLt; omega⟩ := by
  have hq := q.isLt
  rw [← Finset.sum_filter, ← Fintype.sum_prod_type']
  symm
  refine Finset.sum_bij' (fun p _ => ⟨1024 * p.1.val + (64 * (4 * (p.2.val / 64) + q.val) + p.2.val % 64), by have := p.1.isLt; have := p.2.isLt; omega⟩)
    (fun g _ => (⟨g.val / 1024, by have := g.isLt; omega⟩, ⟨64 * (g.val % 1024 / 256) + g.val % 64, by omega⟩)) ?_ ?_ ?_ ?_ ?_
  · rintro ⟨c, j⟩ _
    have := j.isLt
    refine Finset.mem_filter.mpr ⟨Finset.mem_univ _, ?_⟩
    show (1024 * c.val + (64 * (4 * (j.val / 64) + q.val) + j.val % 64)) / 64 % 4 = q.val
    omega
  · intro g _; exact Finset.mem_univ _
  · rintro ⟨c, j⟩ _
    have := j.isLt
    refine Prod.ext (Fin.ext ?_) (Fin.ext ?_)
    · show (1024 * c.val + (64 * (4 * (j.val / 64) + q.val) + j.val % 64)) / 1024 = c.val
      omega
    · show 64 * ((1024 * c.val + (64 * (4 * (j.val / 64) + q.val) + j.val % 64)) % 1024 / 256) + (1024 * c.val + (64 * (4 * (j.val / 64) + q.val) + j.val % 64)) % 64 = j.val
      omega
  · intro g hg
    have h1 : g.val / 64 % 4 = q.val := (Finset.mem_filter.mp hg).2
    refine Fin.ext ?_
    show 1024 * (g.val / 1024) + (64 * (4 * ((64 * (g.val % 1024 / 256) + g.val % 64) / 64) + q.val) + (64 * (g.val % 1024 / 256) + g.val % 64) % 64) = g.val
    omega
  · intro _ _; rfl

end Cert.Softmax
end
-- ==== Proof.Answer.lean ====
module

public import proofs.«01_k».proof.Proof.Softmax
public import Idealize.ShloMosaic.Lib.Pointwise

/-! The mathematics of the problem, written over the whole arrays: the score of a query row against a key, the
attention of a query row over the keys whose block of 64 rows has its own block's remainder modulo four, and the output
projection. -/

@[expose] public section

noncomputable section

namespace Cert.Answer

open Idealize.ShloMosaic

/-- The shape of the input. -/
abbrev SX : Shape := ⟨3, ![1, 1024, 1024]⟩
/-- The shape of the two weight matrices. -/
abbrev SW : Shape := ⟨2, ![1024, 1024]⟩
/-- The shape of all keys, and of all values. -/
abbrev SK : Shape := ⟨4, ![1, 4096, 8, 128]⟩

/-- The scale of the scores. -/
def scale : EReal := Ideal.ofBits .f32 0x3DB504F3#32

/-- The scaled score of query row `i` against a key, for head `h`. -/
def score (x : Vec Ideal SX .f32) (wq : Vec Ideal SW .f32) (h : Fin 8) (i : Fin 1024) (key : Fin 128 → EReal) : EReal :=
  (∑ d : Fin 128, (∑ e : Fin 1024, x (ix3 (0 : Fin 1) i e) * wq (ix2 e (⟨h.val * 128 + d.val, by have := h.isLt; have := d.isLt; omega⟩ : Fin 1024))) * key d) * scale

/-- The weight of key `g` for query row `i`, before division. -/
def weight (x : Vec Ideal SX .f32) (wq : Vec Ideal SW .f32) (kk : Vec Ideal SK .f32) (h : Fin 8) (i : Fin 1024) (g : Fin 4096) : EReal :=
  Ideal.exp (score x wq h i (fun d => kk (ix4 (0 : Fin 1) g h d)))

/-- The attended values of query row `i`, for head `h`. -/
def attended (x : Vec Ideal SX .f32) (wq : Vec Ideal SW .f32) (kk vv : Vec Ideal SK .f32) (h : Fin 8) (i : Fin 1024) (d : Fin 128) : EReal :=
  Ideal.div (∑ g : Fin 4096, if g.val / 64 % 4 = i.val / 64 % 4 then weight x wq kk h i g * vv (ix4 (0 : Fin 1) g h d) else 0)
    (∑ g : Fin 4096, if g.val / 64 % 4 = i.val / 64 % 4 then weight x wq kk h i g else 0)

/-- The result at row `i`, column `n`. -/
def answer (x : Vec Ideal SX .f32) (wq : Vec Ideal SW .f32) (kk vv : Vec Ideal SK .f32) (wo : Vec Ideal SW .f32) (i n : Fin 1024) : EReal :=
  ∑ k : Fin 1024, attended x wq kk vv (⟨k.val / 128, by have := k.isLt; omega⟩ : Fin 8) i (⟨k.val % 128, Nat.mod_lt _ (by decide)⟩ : Fin 128) * wo (ix2 k n)

/-- The scale is a real number, and not negative. -/
theorem scale_real : ∃ t : ℝ, 0 ≤ t ∧ scale = (t : EReal) := by
  refine ⟨11863283 * ((2 : ℝ) ^ 27)⁻¹, by positivity, ?_⟩
  simp [scale, Ideal.ofBits, Ideal.ieee]

/-- The scale moves from the queries to the score. -/
theorem score_scaled (x : Vec Ideal SX .f32) (wq : Vec Ideal SW .f32) (h : Fin 8) (i : Fin 1024) (key : Fin 128 → EReal) :
    (∑ d : Fin 128, (∑ e : Fin 1024, x (ix3 (0 : Fin 1) i e) * wq (ix2 e (⟨h.val * 128 + d.val, by have := h.isLt; have := d.isLt; omega⟩ : Fin 1024))) * scale * key d)
      = score x wq h i key := by
  obtain ⟨t, ht, e⟩ := scale_real
  unfold score
  rw [e, Softmax.sum_mul_real _ _ ht]
  exact Finset.sum_congr rfl fun d _ => mul_right_comm _ _ _

end Cert.Answer
end
-- ==== Proof.Heads.lean ====
module

public import proofs.«01_k».proof.Proof.Values
public import proofs.«01_k».proof.Proof.Answer

/-! What the kernel computes on one device, read at an index over the extended reals. -/

@[expose] public section

noncomputable section

namespace Cert.KernelIdeal.Values

open Cert.KernelIdeal Cert.KernelIdeal.Gen Cert.KernelIdeal.Exchange
open Idealize.ShloMosaic
open Cert.Answer (scale score)

theorem q_at (q : Fin 4) (x : Vec Ideal S1x1024x1024 .f32) (wq : Vec Ideal S1024x1024 .f32) (i : Fin 256) (k : Fin 1024) :
    qG q x wq (ix2 i k) = (∑ e : Fin 1024, x (ix3 (0 : Fin 1) (rowAt q i) e) * wq (ix2 e k)) * scale := by
  pointwise [qG, k0_pay2, k0_pay1, xRows]
  have g : ∀ (a b e : Fin 1024), a.val = b.val → x (ValueIdx.ix3 (0 : Fin 1) a e) = x (ix3 (0 : Fin 1) b e) := by
    intro a b e h
    rw [Fin.ext h, ix3_eq_valueIdx]
  have hi := i.isLt
  have hq := q.isLt
  refine congrArg (· * scale) (Finset.sum_congr rfl fun e _ => congrArg (· * wq (ix2 e k)) ?_)
  split_ifs <;> refine g _ _ _ ?_ <;> simp only [rowAt] <;> omega

theorem k_at (q : Fin 4) (kk : Vec Ideal S1x1024x8x128 .f32) (i : Fin 256) (k : Fin 1024) (h : Fin 8) (d : Fin 128) (e : k.val = 128 * h.val + d.val) :
    kG q kk (ix2 i k) = kk (ix4 (0 : Fin 1) (rowAt q i) h d) := by
  pointwise [kG, k0_pay3, grp]
  have hd := d.isLt
  have e1 : (⟨k.val / 128, by have := k.isLt; omega⟩ : Fin 8) = h := Fin.ext (by show k.val / 128 = h.val; omega)
  have e2 : (⟨k.val % 128, Nat.mod_lt _ (by decide)⟩ : Fin 128) = d := Fin.ext (by show k.val % 128 = d.val; omega)
  have g : ∀ (a a' : Fin 8) (b b' : Fin 128), a = a' → b = b' → kk (ValueIdx.ix4 (0 : Fin 1) (rowAt q i) a b) = kk (ix4 (0 : Fin 1) (rowAt q i) a' b') := by
    rintro a _ b _ rfl rfl; rw [ix4_eq_valueIdx]
  exact g _ _ _ _ e1 e2

theorem v_at (q : Fin 4) (vv : Vec Ideal S1x1024x8x128 .f32) (i : Fin 256) (k : Fin 1024) (h : Fin 8) (d : Fin 128) (e : k.val = 128 * h.val + d.val) :
    vG q vv (ix2 i k) = vv (ix4 (0 : Fin 1) (rowAt q i) h d) := by
  pointwise [vG, k0_pay4, grp]
  have hd := d.isLt
  have e1 : (⟨k.val / 128, by have := k.isLt; omega⟩ : Fin 8) = h := Fin.ext (by show k.val / 128 = h.val; omega)
  have e2 : (⟨k.val % 128, Nat.mod_lt _ (by decide)⟩ : Fin 128) = d := Fin.ext (by show k.val % 128 = d.val; omega)
  have g : ∀ (a a' : Fin 8) (b b' : Fin 128), a = a' → b = b' → vv (ValueIdx.ix4 (0 : Fin 1) (rowAt q i) a b) = vv (ix4 (0 : Fin 1) (rowAt q i) a' b') := by
    rintro a _ b _ rfl rfl; rw [ix4_eq_valueIdx]
  exact g _ _ _ _ e1 e2

/-- The weight of key row `g` of one device's keys for query row `i`. -/
def part (x : Vec Ideal S1x1024x1024 .f32) (wq : Vec Ideal S1024x1024 .f32) (kk : Vec Ideal S1x1024x8x128 .f32) (h : Fin 8) (i g : Fin 1024) : EReal :=
  Ideal.exp (score x wq h i (fun d => kk (ix4 (0 : Fin 1) g h d)))

section
variable (q : Fin 4) (x : Vec Ideal S1x1024x1024 .f32) (wq : Vec Ideal S1024x1024 .f32) (kk vv : Vec Ideal S1x1024x8x128 .f32)

theorem w_at (h : Fin 8) (o : ℕ) (e : o = 128 * h.val) (ho : S256x1024.Slices ![0, o] S256x128) (i j : Fin 256) :
    expw o ho (qG q x wq) (kG q kk) (ix2 i j) = part x wq kk h (rowAt q i) (rowAt q j) := by
  subst e
  pointwise [expw]
  rw [part, ← Answer.score_scaled]
  refine congrArg Ideal.exp (Finset.sum_congr rfl fun d _ => ?_)
  rw [q_at, k_at q kk j _ h d rfl]
  refine congrArg (· * scale * _) (Finset.sum_congr rfl fun a _ => congrArg (x _ * ·) ?_)
  congr 2
  exact Fin.ext (by show 128 * h.val + d.val = h.val * 128 + d.val; omega)

theorem s_at (h : Fin 8) (o : ℕ) (e : o = 128 * h.val) (ho : S256x1024.Slices ![0, o] S256x128) (i : Fin 256) :
    rowSum o ho (qG q x wq) (kG q kk) (ix1 i) = ∑ j : Fin 256, part x wq kk h (rowAt q i) (rowAt q j) := by
  pointwise [rowSum]
  exact Finset.sum_congr rfl fun j _ => w_at q x wq kk h o e ho i j

theorem h_at (h : Fin 8) (o : ℕ) (e : o = 128 * h.val) (ho : S256x1024.Slices ![0, o] S256x128) (i : Fin 256) (d : Fin 128) :
    headBlk o ho (qG q x wq) (kG q kk) (vG q vv) (ix2 i d)
      = ∑ j : Fin 256, part x wq kk h (rowAt q i) (rowAt q j) * vv (ix4 (0 : Fin 1) (rowAt q j) h d) := by
  pointwise [headBlk]
  refine Finset.sum_congr rfl fun j _ => ?_
  rw [w_at q x wq kk h o e ho i j, v_at q vv j _ h d (by show o + d.val = _; omega)]

theorem c_at (i : Fin 256) (k : Fin 1024) (h : Fin 8) (d : Fin 128) (e : k.val = 128 * h.val + d.val) :
    ctxOf (qG q x wq) (kG q kk) (vG q vv) (ix2 i k)
      = ∑ j : Fin 256, part x wq kk h (rowAt q i) (rowAt q j) * vv (ix4 (0 : Fin 1) (rowAt q j) h d) := by
  have hd := d.isLt
  have e1 : (⟨k.val / 128, by have := k.isLt; omega⟩ : Fin 8) = h := Fin.ext (by show k.val / 128 = h.val; omega)
  have e2 : (⟨k.val % 128, Nat.mod_lt _ (by decide)⟩ : Fin 128) = d := Fin.ext (by show k.val % 128 = d.val; omega)
  have gen : ∀ p : Fin 8 → FVec Ideal S256x128 .bf16, cols p (ix2 i k) = p h (ix2 i d) := by
    intro p
    have r : cols p (ix2 i k) = p ⟨k.val / 128, by have := k.isLt; omega⟩ (ix2 i (⟨k.val % 128, Nat.mod_lt _ (by decide)⟩ : Fin 128)) := by
      rw [ix2_eq_valueIdx i (⟨k.val % 128, _⟩ : Fin 128)]; rfl
    rw [r, e1, e2]
  rw [ctxOf, gen]
  match h with
  | ⟨0, _⟩ => exact h_at q x wq kk vv _ 0 rfl _ i d
  | ⟨1, _⟩ => exact h_at q x wq kk vv _ 128 rfl _ i d
  | ⟨2, _⟩ => exact h_at q x wq kk vv _ 256 rfl _ i d
  | ⟨3, _⟩ => exact h_at q x wq kk vv _ 384 rfl _ i d
  | ⟨4, _⟩ => exact h_at q x wq kk vv _ 512 rfl _ i d
  | ⟨5, _⟩ => exact h_at q x wq kk vv _ 640 rfl _ i d
  | ⟨6, _⟩ => exact h_at q x wq kk vv _ 768 rfl _ i d
  | ⟨7, _⟩ => exact h_at q x wq kk vv _ 896 rfl _ i d

theorem l_at (h : Fin 8) (i : Fin 256) :
    lOf (qG q x wq) (kG q kk) (ix2 h i) = ∑ j : Fin 256, part x wq kk h (rowAt q i) (rowAt q j) := by
  pointwise [lOf]
  have hh := h.isLt
  split_ifs
  · exact s_at q x wq kk h 0 (by omega) _ i
  · exact s_at q x wq kk h 128 (by omega) _ i
  · exact s_at q x wq kk h 256 (by omega) _ i
  · exact s_at q x wq kk h 384 (by omega) _ i
  · exact s_at q x wq kk h 512 (by omega) _ i
  · exact s_at q x wq kk h 640 (by omega) _ i
  · exact s_at q x wq kk h 768 (by omega) _ i
  · exact s_at q x wq kk h 896 (by omega) _ i
end

theorem addC_at (a b : Vec Ideal S256x1024 .bf16) (i : Fin 256) (k : Fin 1024) : addC a b (ix2 i k) = (a (ix2 i k) + b (ix2 i k) : EReal) := by
  pointwise [addC]

theorem addL_at (a b : Vec Ideal S8x256 .f32) (i : Fin 8) (k : Fin 256) : addL a b (ix2 i k) = (a (ix2 i k) + b (ix2 i k) : EReal) := by
  pointwise [addL]

theorem out_at (wo : Vec Ideal S1024x1024 .f32) (a b : Vec Ideal S256x1024 .bf16) (l l' : Vec Ideal S8x256 .f32) (i : Fin 256) (n : Fin 1024) :
    outOf wo a b l l' (ix2 i n) = ∑ k : Fin 1024, Ideal.div (a (ix2 i k) + b (ix2 i k))
      (l (ix2 (⟨k.val / 128, by have := k.isLt; omega⟩ : Fin 8) i) + l' (ix2 (⟨k.val / 128, by have := k.isLt; omega⟩ : Fin 8) i)) * wo (ix2 k n) := by
  pointwise [outOf, k0_pay156, k0_pay155]

end Cert.KernelIdeal.Values
end
-- ==== Proof.RefMask.lean ====
module

public import proofs.«01_k».proof.Proof.Gen.ReferenceIdeal.Run
public import proofs.«01_k».proof.Proof.Answer
public import Idealize.ShloMosaic.Lib.Pointwise
public import Idealize.ShloMosaic.Lib.IdealHost
public import Idealize.ShloMosaic.Lib.KernelVsHost
public import Idealize.ShloMosaic.Lib.ValueLayout

/-! The reference's mask read at an index: a query may attend where the two rows' blocks agree modulo four. -/

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The block of 64 rows that a query row lies in. -/
def qBlock : IVec S1024 32 := select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))
/-- The block of 64 rows that a key row lies in. -/
def kBlock : IVec S4096 32 := select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))
/-- The query row's block modulo four. -/
def qClass : IVec S1024x1 32 := select (andi (cmpi .ne (cmpi .slt (Host.remsi (broadcastInDim S1024x1 ![0] bcast_S1024_S1024x1_0 qBlock) (broadcastInDim S1024x1 ![] bcast_S_S1024x1 (select (cmpi .eq (id (constantI S_ 32 4#32)) (constantI S_ 32 0#32)) (constantI S_ 32 1#32) (id (constantI S_ 32 4#32))))) (broadcastInDim S1024x1 ![] bcast_S_S1024x1 (constantI S_ 32 0#32))) (broadcastInDim S1024x1 ![] bcast_S_S1024x1 (cmpi .slt (select (cmpi .eq (id (constantI S_ 32 4#32)) (constantI S_ 32 0#32)) (constantI S_ 32 1#32) (id (constantI S_ 32 4#32))) (constantI S_ 32 0#32)))) (cmpi .ne (Host.remsi (broadcastInDim S1024x1 ![0] bcast_S1024_S1024x1_0 qBlock) (broadcastInDim S1024x1 ![] bcast_S_S1024x1 (select (cmpi .eq (id (constantI S_ 32 4#32)) (constantI S_ 32 0#32)) (constantI S_ 32 1#32) (id (constantI S_ 32 4#32))))) (broadcastInDim S1024x1 ![] bcast_S_S1024x1 (constantI S_ 32 0#32)))) (addi (Host.remsi (broadcastInDim S1024x1 ![0] bcast_S1024_S1024x1_0 qBlock) (broadcastInDim S1024x1 ![] bcast_S_S1024x1 (select (cmpi .eq (id (constantI S_ 32 4#32)) (constantI S_ 32 0#32)) (constantI S_ 32 1#32) (id (constantI S_ 32 4#32))))) (broadcastInDim S1024x1 ![] bcast_S_S1024x1 (select (cmpi .eq (id (constantI S_ 32 4#32)) (constantI S_ 32 0#32)) (constantI S_ 32 1#32) (id (constantI S_ 32 4#32))))) (Host.remsi (broadcastInDim S1024x1 ![0] bcast_S1024_S1024x1_0 qBlock) (broadcastInDim S1024x1 ![] bcast_S_S1024x1 (select (cmpi .eq (id (constantI S_ 32 4#32)) (constantI S_ 32 0#32)) (constantI S_ 32 1#32) (id (constantI S_ 32 4#32)))))
/-- The key row's block modulo four. -/
def kClass : IVec S1x4096 32 := select (andi (cmpi .ne (cmpi .slt (Host.remsi (broadcastInDim S1x4096 ![1] bcast_S4096_S1x4096_1 kBlock) (broadcastInDim S1x4096 ![] bcast_S_S1x4096 (select (cmpi .eq (id (constantI S_ 32 4#32)) (constantI S_ 32 0#32)) (constantI S_ 32 1#32) (id (constantI S_ 32 4#32))))) (broadcastInDim S1x4096 ![] bcast_S_S1x4096 (constantI S_ 32 0#32))) (broadcastInDim S1x4096 ![] bcast_S_S1x4096 (cmpi .slt (select (cmpi .eq (id (constantI S_ 32 4#32)) (constantI S_ 32 0#32)) (constantI S_ 32 1#32) (id (constantI S_ 32 4#32))) (constantI S_ 32 0#32)))) (cmpi .ne (Host.remsi (broadcastInDim S1x4096 ![1] bcast_S4096_S1x4096_1 kBlock) (broadcastInDim S1x4096 ![] bcast_S_S1x4096 (select (cmpi .eq (id (constantI S_ 32 4#32)) (constantI S_ 32 0#32)) (constantI S_ 32 1#32) (id (constantI S_ 32 4#32))))) (broadcastInDim S1x4096 ![] bcast_S_S1x4096 (constantI S_ 32 0#32)))) (addi (Host.remsi (broadcastInDim S1x4096 ![1] bcast_S4096_S1x4096_1 kBlock) (broadcastInDim S1x4096 ![] bcast_S_S1x4096 (select (cmpi .eq (id (constantI S_ 32 4#32)) (constantI S_ 32 0#32)) (constantI S_ 32 1#32) (id (constantI S_ 32 4#32))))) (broadcastInDim S1x4096 ![] bcast_S_S1x4096 (select (cmpi .eq (id (constantI S_ 32 4#32)) (constantI S_ 32 0#32)) (constantI S_ 32 1#32) (id (constantI S_ 32 4#32))))) (Host.remsi (broadcastInDim S1x4096 ![1] bcast_S4096_S1x4096_1 kBlock) (broadcastInDim S1x4096 ![] bcast_S_S1x4096 (select (cmpi .eq (id (constantI S_ 32 4#32)) (constantI S_ 32 0#32)) (constantI S_ 32 1#32) (id (constantI S_ 32 4#32)))))
/-- Where a query may attend. -/
def mask : IVec S1024x4096 1 := ori (cmpi .eq (broadcastInDim S1024x4096 ![0, 1] bcast_S1024x1_S1024x4096_0_1 (broadcastInDim S1024x1 ![0] bcast_S1024_S1024x1_0 qBlock)) (broadcastInDim S1024x4096 ![0, 1] bcast_S1x4096_S1024x4096_0_1 (broadcastInDim S1x4096 ![1] bcast_S4096_S1x4096_1 kBlock))) (cmpi .eq (broadcastInDim S1024x4096 ![0, 1] bcast_S1x4096_S1024x4096_0_1 kClass) (broadcastInDim S1024x4096 ![0, 1] bcast_S1024x1_S1024x4096_0_1 qClass))
/-- Whether a query may attend to anything. -/
def anyv : IVec S1024 1 := Host.reduce IntOp.ori mask (constantI S_ 1 0#1) reducesTo_S1024x4096_S1024_d1 h_S_

/-- The block of a row, as the reference computes it: floor division by 64. -/
def blk (v : BitVec 32) : BitVec 32 :=
  Scalar.select
    (IntOp.andi (IntOp.cmpi .ne (if v = 0 then (0 : BitVec 32) else if v.msb = true then -1 else 1) (if (64#32 : BitVec 32) = 0 then 0 else if (64#32 : BitVec 32).msb = true then -1 else 1))
      (IntOp.cmpi .ne (IntOp.remsi .host v 64#32) 0#32))
    (IntOp.subi (IntOp.divsi .host v 64#32) 1#32) (IntOp.divsi .host v 64#32)

/-- A block's remainder modulo four, as the reference computes it. -/
def cls (v : BitVec 32) : BitVec 32 :=
  let four : BitVec 32 := Scalar.select (IntOp.cmpi .eq 4#32 0#32) 1#32 4#32
  Scalar.select
    (IntOp.andi (IntOp.cmpi .ne (IntOp.cmpi .slt (IntOp.remsi .host v four) 0#32) (IntOp.cmpi .slt four 0#32))
      (IntOp.cmpi .ne (IntOp.remsi .host v four) 0#32))
    (IntOp.addi (IntOp.remsi .host v four) four) (IntOp.remsi .host v four)

theorem blk_eq : ∀ a b : Fin 64, blk (BitVec.ofNat 32 (64 * a.val + b.val)) = BitVec.ofNat 32 a.val := by decide +kernel
theorem cls_eq : ∀ a : Fin 64, cls (BitVec.ofNat 32 a.val) = BitVec.ofNat 32 (a.val % 4) := by decide +kernel

theorem blk_nat (n : ℕ) (hn : n < 4096) : blk (BitVec.ofNat 32 n) = BitVec.ofNat 32 (n / 64) := by
  have h := blk_eq ⟨n / 64, by omega⟩ ⟨n % 64, by omega⟩
  have e : 64 * (n / 64) + n % 64 = n := by omega
  rwa [show 64 * (⟨n / 64, by omega⟩ : Fin 64).val + (⟨n % 64, by omega⟩ : Fin 64).val = n from e] at h

theorem cls_nat (n : ℕ) (hn : n < 64) : cls (BitVec.ofNat 32 n) = BitVec.ofNat 32 (n % 4) := cls_eq ⟨n, hn⟩

theorem c64 : (id (constantI S_ 32 64#32) ix0) = 64#32 := rfl
theorem c4 : (id (constantI S_ 32 4#32) ix0) = 4#32 := rfl

theorem qBlock_at (i : Fin 1024) : qBlock (ix1 i) = BitVec.ofNat 32 (i.val / 64) := by
  rw [← blk_nat _ (by have := i.isLt; omega)]
  pointwise [qBlock]
  simp only [c64]
  rfl

theorem kBlock_at (i : Fin 4096) : kBlock (ix1 i) = BitVec.ofNat 32 (i.val / 64) := by
  rw [← blk_nat _ i.isLt]
  pointwise [kBlock]
  simp only [c64]
  rfl

theorem qClass_at (i : Fin 1024) : qClass (ix2 i (0 : Fin 1)) = BitVec.ofNat 32 (i.val / 64 % 4) := by
  rw [← cls_nat _ (by have := i.isLt; omega), ← qBlock_at]
  pointwise [qClass]
  simp only [c4]
  rfl

theorem kClass_at (i : Fin 4096) : kClass (ix2 (0 : Fin 1) i) = BitVec.ofNat 32 (i.val / 64 % 4) := by
  rw [← cls_nat _ (by have := i.isLt; omega), ← kBlock_at]
  pointwise [kClass]
  simp only [c4]
  rfl

theorem mask_eq : ∀ a b : Fin 64, IntOp.ori (IntOp.cmpi .eq (BitVec.ofNat 32 a.val) (BitVec.ofNat 32 b.val)) (IntOp.cmpi .eq (BitVec.ofNat 32 (b.val % 4)) (BitVec.ofNat 32 (a.val % 4)))
    = if b.val % 4 = a.val % 4 then 1#1 else 0#1 := by decide +kernel

/-- A query attends to the keys whose block agrees with its own modulo four. -/
theorem mask_at (i : Fin 1024) (j : Fin 4096) : mask (ix2 i j) = if j.val / 64 % 4 = i.val / 64 % 4 then 1#1 else 0#1 := by
  pointwise [mask]
  rw [qBlock_at, kBlock_at, qClass_at, kClass_at]
  exact mask_eq ⟨i.val / 64, by have := i.isLt; omega⟩ ⟨j.val / 64, by have := j.isLt; omega⟩

theorem fold_ori {n : ℕ} (f : Fin n → BitVec 1) (j : Fin n) (h : f j = 1#1) : Finset.fold IntOp.ori (0#1) f Finset.univ = 1#1 := by
  rw [← Finset.insert_erase (Finset.mem_univ j), Finset.fold_insert (Finset.notMem_erase _ _), h]
  generalize Finset.fold (IntOp.ori (w := 1)) (0#1) f (Finset.univ.erase j) = b
  revert b
  decide

theorem anyv_at (i : Fin 1024) : anyv (ix1 i) = 1#1 := by
  pointwise [anyv]
  exact fold_ori _ (⟨i.val, by have := i.isLt; omega⟩ : Fin 4096) (by rw [mask_at, if_pos rfl])

end Cert.ReferenceIdeal.Value
end
-- ==== Proof.RefRead.lean ====
module

public import proofs.«01_k».proof.Proof.RefMask
public import Idealize.ShloMosaic.Lib.Pointwise
public import Idealize.ShloMosaic.Lib.IdealHost
public import Idealize.ShloMosaic.Lib.KernelVsHost
public import Idealize.ShloMosaic.Lib.ValueLayout

/-! The reference's result read at an index: each is the masked softmax of the scores, weighing the values, times the
output weights. -/

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The scaled scores. -/
def scores (x : Vec F S1x1024x1024 .f32) (wq : Vec F S1024x1024 .f32) (kk : Vec F S1x4096x8x128 .f32) : FVec F S1x8x1024x4096 .f32 := mulf (Host.dotGeneral dot_S1x1024x8x128_S1x4096x8x128_S1x8x1024x4096_3_3_1_1_02_02 none (shapeCast _ (Host.dotGeneral dot_S1x1024x1024_S1024x1024_S1x1024x1024_2_0_01_1_n_n none x wq) shapeCasts_S1x1024x1024_S1x1024x8x128) kk) (broadcastInDim S1x8x1024x4096 ![] bcast_S_S1x8x1024x4096 (constant S_ .f32 0x3DB504F3#32))
/-- The scores with −∞ where the mask is off. -/
def msc (x : Vec F S1x1024x1024 .f32) (wq : Vec F S1024x1024 .f32) (kk : Vec F S1x4096x8x128 .f32) : FVec F S1x8x1024x4096 .f32 := select (broadcastInDim S1x8x1024x4096 ![0, 1, 2, 3] bcast_S1x1x1024x4096_S1x8x1024x4096_0_1_2_3 (broadcastInDim S1x1x1024x4096 ![2, 3] bcast_S1024x4096_S1x1x1024x4096_2_3 mask)) (scores x wq kk) (broadcastInDim S1x8x1024x4096 ![] bcast_S_S1x8x1024x4096 (id (constant S_ .f32 0xFF800000#32)))
/-- The shifted exponentials. -/
def expo (x : Vec F S1x1024x1024 .f32) (wq : Vec F S1024x1024 .f32) (kk : Vec F S1x4096x8x128 .f32) : FVec F S1x8x1024x4096 .f32 := Host.exp (subf (msc x wq kk) (broadcastInDim S1x8x1024x4096 ![0, 1, 2, 3] bcast_S1x8x1024x1_S1x8x1024x4096_0_1_2_3 (broadcastInDim S1x8x1024x1 ![0, 1, 2] bcast_S1x8x1024_S1x8x1024x1_0_1_2 (Host.reduce FloatOps.maximumf (msc x wq kk) (constant S_ .f32 0xFF800000#32) reducesTo_S1x8x1024x4096_S1x8x1024_d3 h_S_))))
/-- The denominators. -/
def denom (x : Vec F S1x1024x1024 .f32) (wq : Vec F S1024x1024 .f32) (kk : Vec F S1x4096x8x128 .f32) : FVec F S1x8x1024x1 .f32 := select (broadcastInDim S1x8x1024x1 ![0, 1, 2, 3] bcast_S1x1x1024x1_S1x8x1024x1_0_1_2_3 (broadcastInDim S1x1x1024x1 ![2] bcast_S1024_S1x1x1024x1_2 anyv)) (broadcastInDim S1x8x1024x1 ![0, 1, 2] bcast_S1x8x1024_S1x8x1024x1_0_1_2 (Host.reduceAdd (expo x wq kk) (constant S_ .f32 0x00000000#32) reducesTo_S1x8x1024x4096_S1x8x1024_d3 h_S_)) (broadcastInDim S1x8x1024x1 ![] bcast_S_S1x8x1024x1 (id (constant S_ .f32 0x3F800000#32)))
/-- The attention weights. -/
def weights (x : Vec F S1x1024x1024 .f32) (wq : Vec F S1024x1024 .f32) (kk : Vec F S1x4096x8x128 .f32) : FVec F S1x8x1024x4096 .f32 := select (broadcastInDim S1x8x1024x4096 ![0, 1, 2, 3] bcast_S1x1x1024x1_S1x8x1024x4096_0_1_2_3 (broadcastInDim S1x1x1024x1 ![2] bcast_S1024_S1x1x1024x1_2 anyv)) (Host.divf (expo x wq kk) (broadcastInDim S1x8x1024x4096 ![0, 1, 2, 3] bcast_S1x8x1024x1_S1x8x1024x4096_0_1_2_3 (denom x wq kk))) (broadcastInDim S1x8x1024x4096 ![] bcast_S_S1x8x1024x4096 (id (constant S_ .f32 0x00000000#32)))
/-- The attended values, heads side by side. -/
def ctx (x : Vec F S1x1024x1024 .f32) (wq : Vec F S1024x1024 .f32) (kk : Vec F S1x4096x8x128 .f32) (vv : Vec F S1x4096x8x128 .f32) : FVec F S1x1024x1024 .f32 := shapeCast _ (transpose S1x1024x8x128 [0, 3, 1, 2] (Host.dotGeneral dot_S1x4096x8x128_S1x8x1024x4096_S1x8x128x1024_1_3_3_2_02_01 none vv (weights x wq kk)) transposes_S1x8x128x1024_S1x1024x8x128_0_3_1_2) shapeCasts_S1x1024x8x128_S1x1024x1024
/-- The result. -/
def out (x : Vec F S1x1024x1024 .f32) (wq : Vec F S1024x1024 .f32) (kk : Vec F S1x4096x8x128 .f32) (vv : Vec F S1x4096x8x128 .f32) (wo : Vec F S1024x1024 .f32) : FVec F S1x1024x1024 .f32 := Host.dotGeneral dot_S1x1024x1024_S1024x1024_S1x1024x1024_2_0_01_1_n_n none (ctx x wq kk vv) wo

theorem res_eq (m : (ℓ : Loc nD τ sig) → Buf (Elt F) ℓ) (c : Dev nD) :
    res_main_v39 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

variable (x : Vec Ideal S1x1024x1024 .f32) (wq : Vec Ideal S1024x1024 .f32) (kk : Vec Ideal S1x4096x8x128 .f32)
open Cert.Answer (score scale)

theorem scores_at (h : Fin 8) (i : Fin 1024) (j : Fin 4096) :
    scores x wq kk (ix4 (0 : Fin 1) h i j) = score x wq h i (fun d => kk (ix4 (0 : Fin 1) j h d)) := by
  pointwise [scores]
  rfl

theorem msc_at (h : Fin 8) (i : Fin 1024) (j : Fin 4096) :
    msc x wq kk (ix4 (0 : Fin 1) h i j) = if j.val / 64 % 4 = i.val / 64 % 4 then score x wq h i (fun d => kk (ix4 (0 : Fin 1) j h d)) else ⊥ := by
  pointwise [msc]
  rw [mask_at, scores_at]
  have e : (id (constant (F := Ideal) S_ FTy.f32 4286578688#32) ix0 : EReal) = ⊥ := by
    show Ideal.ofBits .f32 0xFF800000#32 = ⊥
    simp [Ideal.ofBits, Ideal.ieee]
  split
  · rfl
  · exact e

theorem expo_at (h : Fin 8) (i : Fin 1024) (j : Fin 4096) :
    expo x wq kk (ix4 (0 : Fin 1) h i j) = Ideal.exp (msc x wq kk (ix4 (0 : Fin 1) h i j) - Finset.univ.fold max ⊥ (fun j => msc x wq kk (ix4 (0 : Fin 1) h i j))) := by
  pointwise [expo]
  rw [show Ideal.ofBits .f32 4286578688#32 = ⊥ from by simp [Ideal.ofBits, Ideal.ieee]]

theorem denom_at (h : Fin 8) (i : Fin 1024) :
    denom x wq kk (ix4 (0 : Fin 1) h i (0 : Fin 1)) = ∑ j : Fin 4096, expo x wq kk (ix4 (0 : Fin 1) h i j) := by
  pointwise [denom]
  rw [anyv_at]
  rfl

omit x wq kk in
theorem quot_at (a : IVec S1024 1) (e z : FVec Ideal S1x8x1024x4096 .f32) (s : FVec Ideal S1x8x1024x1 .f32) (h : Fin 8) (i : Fin 1024) (j : Fin 4096) (ha : a (ix1 i) = 1#1) :
    select (broadcastInDim S1x8x1024x4096 ![0, 1, 2, 3] bcast_S1x1x1024x1_S1x8x1024x4096_0_1_2_3 (broadcastInDim S1x1x1024x1 ![2] bcast_S1024_S1x1x1024x1_2 a))
      (Host.divf e (broadcastInDim S1x8x1024x4096 ![0, 1, 2, 3] bcast_S1x8x1024x1_S1x8x1024x4096_0_1_2_3 s)) z (ix4 (0 : Fin 1) h i j)
      = Ideal.div (e (ix4 (0 : Fin 1) h i j)) (s (ix4 (0 : Fin 1) h i (0 : Fin 1))) := by
  pointwise
  rw [ha]
  rfl

theorem weights_at (h : Fin 8) (i : Fin 1024) (j : Fin 4096) :
    weights x wq kk (ix4 (0 : Fin 1) h i j) = Ideal.div (expo x wq kk (ix4 (0 : Fin 1) h i j)) (∑ j : Fin 4096, expo x wq kk (ix4 (0 : Fin 1) h i j)) := by
  unfold weights
  rw [quot_at anyv _ _ _ h i j (anyv_at i), denom_at]

theorem ctx_at (vv : Vec Ideal S1x4096x8x128 .f32) (i k : Fin 1024) :
    ctx x wq kk vv (ix3 (0 : Fin 1) i k) = ∑ g : Fin 4096, vv (ix4 (0 : Fin 1) g (⟨k.val / 128, by have := k.isLt; omega⟩ : Fin 8) (⟨k.val % 128, Nat.mod_lt _ (by decide)⟩ : Fin 128))
      * weights x wq kk (ix4 (0 : Fin 1) (⟨k.val / 128, by have := k.isLt; omega⟩ : Fin 8) i g) := by
  pointwise [ctx]

theorem out_at (vv : Vec Ideal S1x4096x8x128 .f32) (wo : Vec Ideal S1024x1024 .f32) (i n : Fin 1024) :
    out x wq kk vv wo (ix3 (0 : Fin 1) i n) = ∑ k : Fin 1024, ctx x wq kk vv (ix3 (0 : Fin 1) i k) * wo (ix2 k n) := by
  pointwise [out]

/-! ## Finite inputs -/

theorem real_mul {a b : EReal} (ha : ∃ r : ℝ, a = r) (hb : ∃ r : ℝ, b = r) : ∃ r : ℝ, a * b = r := by
  obtain ⟨r, rfl⟩ := ha
  obtain ⟨t, rfl⟩ := hb
  exact ⟨r * t, (EReal.coe_mul _ _).symm⟩

theorem real_sum {ι : Type} [Fintype ι] {f : ι → EReal} (h : ∀ i, ∃ r : ℝ, f i = r) : ∃ r : ℝ, (∑ i, f i) = r := by
  choose g hg using h
  exact ⟨∑ i, g i, by rw [Finset.sum_congr rfl fun i _ => hg i, Softmax.sum_real]⟩

variable (hx : ∀ i, ∃ r : ℝ, x i = (r : EReal)) (hw : ∀ i, ∃ r : ℝ, wq i = (r : EReal)) (hk : ∀ i, ∃ r : ℝ, kk i = (r : EReal))
include hx hw hk

theorem score_real (h : Fin 8) (i : Fin 1024) (j : Fin 4096) : ∃ r : ℝ, score x wq h i (fun d => kk (ix4 (0 : Fin 1) j h d)) = (r : EReal) := by
  obtain ⟨t, _, e⟩ := Answer.scale_real
  exact real_mul (real_sum fun d => real_mul (real_sum fun e => real_mul (hx _) (hw _)) (hk _)) ⟨t, e⟩

/-- On finite inputs the reference's attended values are the quotient of the two sums. -/
theorem ctx_eq (vv : Vec Ideal S1x4096x8x128 .f32) (i k : Fin 1024) :
    ctx x wq kk vv (ix3 (0 : Fin 1) i k) = Answer.attended x wq kk vv (⟨k.val / 128, by have := k.isLt; omega⟩ : Fin 8) i (⟨k.val % 128, Nat.mod_lt _ (by decide)⟩ : Fin 128) := by
  rw [ctx_at]
  generalize (⟨k.val / 128, _⟩ : Fin 8) = h
  generalize (⟨k.val % 128, _⟩ : Fin 128) = d
  choose s hs using score_real x wq kk hx hw hk h i
  have em : (fun j => msc x wq kk (ix4 (0 : Fin 1) h i j)) = Softmax.masked (fun j : Fin 4096 => j.val / 64 % 4 = i.val / 64 % 4) s := by
    funext j
    rw [msc_at, hs]
    rfl
  have hi := i.isLt
  have ex : ∃ j : Fin 4096, j.val / 64 % 4 = i.val / 64 % 4 := ⟨⟨i.val, by omega⟩, rfl⟩
  obtain ⟨c, hc⟩ := Softmax.max_real (fun j : Fin 4096 => j.val / 64 % 4 = i.val / 64 % 4) s ex
  have ee : ∀ j, expo x wq kk (ix4 (0 : Fin 1) h i j) = Ideal.exp (Softmax.masked (fun j : Fin 4096 => j.val / 64 % 4 = i.val / 64 % 4) s j - (c : EReal)) := by
    intro j
    rw [expo_at, em, hc, ← congrFun em j]
  have et := Softmax.attend (fun j : Fin 4096 => j.val / 64 % 4 = i.val / 64 % 4) s ex c (fun g => vv (ix4 (0 : Fin 1) g h d))
  unfold Answer.attended Answer.weight
  simp only [hs]
  refine Eq.trans (Finset.sum_congr rfl fun g _ => ?_) et
  rw [weights_at, mul_comm]
  simp only [ee]

/-- On finite inputs the reference computes the answer. -/
theorem out_eq (vv : Vec Ideal S1x4096x8x128 .f32) (wo : Vec Ideal S1024x1024 .f32) (i n : Fin 1024) :
    out x wq kk vv wo (ix3 (0 : Fin 1) i n) = Answer.answer x wq kk vv wo i n := by
  rw [out_at]
  exact Finset.sum_congr rfl fun k _ => by rw [ctx_eq x wq kk hx hw hk]

end Cert.ReferenceIdeal.Value
end
-- ==== Proof.Algebra.lean ====
/-
Over the extended reals the four devices together compute the reference's result: the partial sums which the devices
exchange add up to the sums over all keys, and on finite inputs those are the reference's softmax.
-/
module

public import proofs.«01_k».proof.Proof.Launch
public import proofs.«01_k».proof.Proof.Heads
public import proofs.«01_k».proof.Proof.RefRead
public import proofs.«01_k».proof.Defs
public import Idealize.ShloMosaic.Lib.ReduceAll
public import Idealize.ShloMosaic.Lib.Pipeline.Value

@[expose] public section

noncomputable section

namespace Cert.KernelIdeal.Values

open Cert.KernelIdeal Cert.KernelIdeal.Gen Cert.KernelIdeal.Exchange
open Idealize.ShloMosaic Idealize.ShloMosaic.TcCoe

/-- The two rounds of the exchange add one term of each device. -/
theorem pairs {β : Type} [AddCommMonoid β] (f : Dev nD → β) (q : Fin 4) (c : Dev nD) :
    (f c + f (first q c)) + (f (if q.val % 2 = 0 then py c else px c) + f (first q (if q.val % 2 = 0 then py c else px c)))
      = ∑ c : Fin 4, f c := by
  have e4 : (∑ c : Fin 4, f c) = f (0 : Fin 4) + f (1 : Fin 4) + f (2 : Fin 4) + f (3 : Fin 4) := Fin.sum_univ_four f
  rw [e4]
  have x0 : px (0 : Fin 4) = (3 : Fin 4) := by decide
  have x1 : px (1 : Fin 4) = (2 : Fin 4) := by decide
  have x2 : px (2 : Fin 4) = (1 : Fin 4) := by decide
  have x3 : px (3 : Fin 4) = (0 : Fin 4) := by decide
  have y0 : py (0 : Fin 4) = (1 : Fin 4) := by decide
  have y1 : py (1 : Fin 4) = (0 : Fin 4) := by decide
  have y2 : py (2 : Fin 4) = (3 : Fin 4) := by decide
  have y3 : py (3 : Fin 4) = (2 : Fin 4) := by decide
  have hc : c = (0 : Fin 4) ∨ c = (1 : Fin 4) ∨ c = (2 : Fin 4) ∨ c = (3 : Fin 4) := by revert c; decide
  unfold first
  by_cases h : q.val % 2 = 0
  · simp only [if_pos h]
    rcases hc with rfl | rfl | rfl | rfl
    · rw [x0, y0, x1]; ac_rfl
    · rw [x1, y1, x0]; ac_rfl
    · rw [x2, y2, x3]; ac_rfl
    · rw [x3, y3, x2]; ac_rfl
  · simp only [if_neg h]
    rcases hc with rfl | rfl | rfl | rfl
    · rw [y0, x0, y3]; ac_rfl
    · rw [y1, x1, y2]; ac_rfl
    · rw [y2, x2, y1]; ac_rfl
    · rw [y3, x3, y0]; ac_rfl

theorem outAll_at (C : Carried Ideal) (c : Dev nD) (wo : Vec Ideal S1024x1024 .f32) (q : Fin 4) (i : Fin 256) (r n : Fin 1024) (hr : rowAt q i = r) :
    outAll C c wo (ix3 (0 : Fin 1) r n) = outOf wo (C.c2 c q) (C.c2 (if q.val % 2 = 0 then py c else px c) q) (C.l2 c q) (C.l2 (if q.val % 2 = 0 then py c else px c) q) (ix2 i n) := by
  have hi := i.isLt
  have hq := q.isLt
  have hv : r.val = 64 * (4 * (i.val / 64) + q.val) + i.val % 64 := (congrArg Fin.val hr).symm
  rw [ix3_eq_valueIdx, ix2_eq_valueIdx]
  have gen : ∀ (q' : Fin 4) (i' : Fin 256), q' = q → i' = i →
      outOf wo (C.c2 c q') (C.c2 (if q'.val % 2 = 0 then py c else px c) q') (C.l2 c q') (C.l2 (if q'.val % 2 = 0 then py c else px c) q') (ValueIdx.ix2 i' n)
      = outOf wo (C.c2 c q) (C.c2 (if q.val % 2 = 0 then py c else px c) q) (C.l2 c q) (C.l2 (if q.val % 2 = 0 then py c else px c) q) (ValueIdx.ix2 i n) := by
    intro q' i' h h'; subst h; subst h'; rfl
  exact gen _ _ (Fin.ext (by show r.val / 64 % 4 = q.val; omega)) (Fin.ext (by show 64 * (r.val / 256) + r.val % 64 = i.val; omega))

variable (m : (ℓ : Loc nD τ sig) → Buf (Elt Ideal) ℓ) (ρ : Dev nD → PrngReg)

theorem xs_eq (c : Dev nD) : xs m ρ c = m ((c : Thread nD τ).loc main_arg0) := by
  funext i
  exact congrArg (m ((c : Thread nD τ).loc main_arg0)) (funext fun d => Fin.ext
    (Pipeline.Window.rect_emb_val_of_index_zero win0_0 (0 : Fin 1) d rfl i))

theorem ws_eq (c : Dev nD) : ws m ρ c = m ((c : Thread nD τ).loc main_arg1) := by
  funext i
  exact congrArg (m ((c : Thread nD τ).loc main_arg1)) (funext fun d => Fin.ext
    (Pipeline.Window.rect_emb_val_of_index_zero win0_1 (0 : Fin 1) d rfl i))

variable (x : Vec Ideal Answer.SX .f32) (wq : Vec Ideal Answer.SW .f32) (kk vv : Vec Ideal Answer.SK .f32) (wo : Vec Ideal Answer.SW .f32)

/-- Device `c`'s row `a` is row `1024 c + a` of the whole. -/
def wide (c : Fin 4) (a : Fin 1024) : Fin 4096 := ⟨1024 * c.val + a.val, by have := c.isLt; have := a.isLt; omega⟩

section
variable (hX : ∀ c : Dev nD, m ((c : Thread nD τ).loc main_arg0) = x) (hW : ∀ c : Dev nD, m ((c : Thread nD τ).loc main_arg1) = wq)
  (hK : ∀ (c : Dev nD) (a : Fin 1024) (h : Fin 8) (d : Fin 128), m ((c : Thread nD τ).loc main_arg2) (ix4 (0 : Fin 1) a h d) = kk (ix4 (0 : Fin 1) (wide c a) h d))
  (hV : ∀ (c : Dev nD) (a : Fin 1024) (h : Fin 8) (d : Fin 128), m ((c : Thread nD τ).loc main_arg3) (ix4 (0 : Fin 1) a h d) = vv (ix4 (0 : Fin 1) (wide c a) h d))
  (hO : ∀ c : Dev nD, m ((c : Thread nD τ).loc main_arg4) = wo)

include hX hW hK

theorem part_eq (c : Dev nD) (h : Fin 8) (i g : Fin 1024) : part (xs m ρ c) (ws m ρ c) (m ((c : Thread nD τ).loc main_arg2)) h i g = Answer.weight x wq kk h i (wide c g) := by
  rw [xs_eq, ws_eq, hX, hW, part, Answer.weight]
  simp only [hK]

theorem own1l_at (c : Dev nD) (q : Fin 4) (h : Fin 8) (i : Fin 256) :
    own1l m ρ c q (ix2 h i) = ∑ j : Fin 256, Answer.weight x wq kk h (rowAt q i) (wide c (rowAt q j)) := by
  rw [own1l, l_at]
  exact Finset.sum_congr rfl fun j _ => part_eq m ρ x wq kk hX hW hK c h _ _

include hV in
theorem own1_at (c : Dev nD) (q : Fin 4) (i : Fin 256) (k : Fin 1024) (h : Fin 8) (d : Fin 128) (e : k.val = 128 * h.val + d.val) :
    own1 m ρ c q (ix2 i k) = ∑ j : Fin 256, Answer.weight x wq kk h (rowAt q i) (wide c (rowAt q j)) * vv (ix4 (0 : Fin 1) (wide c (rowAt q j)) h d) := by
  rw [own1, c_at q _ _ _ _ i k h d e]
  refine Finset.sum_congr rfl fun j _ => ?_
  rw [part_eq m ρ x wq kk hX hW hK c h, hV]

include hV hO in
/-- Every device's result is the answer. -/
theorem result_at (c : Dev nD) (r n : Fin 1024) : result m ρ c (ix3 (0 : Fin 1) r n) = Answer.answer x wq kk vv wo r n := by
  have hr := r.isLt
  obtain ⟨q, i, e⟩ : ∃ (q : Fin 4) (i : Fin 256), rowAt q i = r :=
    ⟨⟨r.val / 64 % 4, by omega⟩, ⟨64 * (r.val / 256) + r.val % 64, by omega⟩, Fin.ext (by show 64 * (4 * ((64 * (r.val / 256) + r.val % 64) / 64) + r.val / 64 % 4) + (64 * (r.val / 256) + r.val % 64) % 64 = r.val; omega)⟩
  have hq : r.val / 64 % 4 = q.val := by
    subst e; have := q.isLt; have := i.isLt
    show (64 * (4 * (i.val / 64) + q.val) + i.val % 64) / 64 % 4 = q.val; omega
  show outAll (carried m ρ) c (m ((c : Thread nD τ).loc main_arg4)) (ix3 (0 : Fin 1) r n) = _
  rw [hO, outAll_at _ c wo q i r n e, out_at, Answer.answer]
  refine Finset.sum_congr rfl fun k _ => congrArg (· * wo (ix2 k n)) ?_
  have hk : k.val = 128 * (k.val / 128) + k.val % 128 := by omega
  have e1 : ∀ c', addC (own1 m ρ c' q) (own1 m ρ (first q c') q) (ix2 i k) = (own1 m ρ c' q (ix2 i k) + own1 m ρ (first q c') q (ix2 i k) : EReal) := fun c' => addC_at _ _ i k
  have e2 : ∀ c' h, addL (own1l m ρ c' q) (own1l m ρ (first q c') q) (ix2 h i) = (own1l m ρ c' q (ix2 h i) + own1l m ρ (first q c') q (ix2 h i) : EReal) := fun c' h => addL_at _ _ h i
  simp only [carried]
  rw [e1, e1, e2, e2]
  rw [pairs (β := EReal) (fun c' => own1 m ρ c' q (ix2 i k)) q c, pairs (β := EReal) (fun c' => own1l m ρ c' q (ix2 _ i)) q c]
  unfold Answer.attended
  rw [hq, Softmax.by_group q, Softmax.by_group q]
  subst e
  refine congrArg₂ Ideal.div (Finset.sum_congr rfl fun c' _ => ?_) (Finset.sum_congr rfl fun c' _ => ?_)
  · exact own1_at m ρ x wq kk vv hX hW hK hV c' q i k _ _ hk
  · exact own1l_at m ρ x wq kk hX hW hK c' q _ i
end

end Cert.KernelIdeal.Values

end
-- ==== Proof.Equal.lean ====
/-
The value claim: on finite inputs both programs run, and every device ends holding the reference's result.
-/
module

public import proofs.«01_k».proof.Proof.Algebra
public import proofs.«01_k».proof.Proof.Frames

@[expose] public section

noncomputable section

namespace Cert.Proof

open Idealize.ShloMosaic Idealize.ShloMosaic.TcCoe Idealize.SL.Sem
open Cert.KernelIdeal.Exchange Cert.KernelIdeal.Values

/-- A number below infinity in absolute value is real. -/
theorem real_of_lt (a : EReal) (h : FloatOps.cmpf (F := Ideal) (φ := .f32) .olt (max a (-a) : EReal) (Ideal.ofBits .f32 0x7F800000#32 : EReal) = 1#1) : ∃ r : ℝ, a = (r : EReal) := by
  have e : Ideal.ofBits .f32 0x7F800000#32 = (⊤ : EReal) := by simp [Ideal.ofBits, Ideal.ieee]
  rw [e] at h
  induction a using EReal.rec with
  | bot => simp [Ideal.cmpf_def, Ideal.cmp] at h
  | coe r => exact ⟨r, rfl⟩
  | top => simp [Ideal.cmpf_def, Ideal.cmp] at h

instance : Subsingleton Cert.Pre_finite_inputs_KernelIdeal.S_.Idx := ⟨fun _ _ => funext fun a => a.elim0⟩

theorem finite_at {s : Shape} (a : FVec Ideal s .f32) (bc) {D : List (Fin s.rank)} (red : s.ReducesTo D Cert.Pre_finite_inputs_KernelIdeal.S_) (hu)
    (h : Host.reduce IntOp.andi (cmpf .olt (Host.absf a) (broadcastInDim s ![] bc (constant (F := Ideal) Cert.Pre_finite_inputs_KernelIdeal.S_ .f32 0x7F800000#32))) (constantI Cert.Pre_finite_inputs_KernelIdeal.S_ 1 1#1) red hu = fun _ => 1#1)
    (i) : ∃ r : ℝ, a i = (r : EReal) :=
  real_of_lt _ (Host.reduce_andi_all _ _ _ _ ix0 (congrFun h ix0) i)

section
variable (a0 : FVec Ideal Cert.Pre_finite_inputs_KernelIdeal.S1x1024x1024 .f32) (a1 : FVec Ideal Cert.Pre_finite_inputs_KernelIdeal.S1024x1024 .f32)
  (a2 a3 : FVec Ideal Cert.Pre_finite_inputs_KernelIdeal.S1x1024x8x128 .f32) (a4 : FVec Ideal Cert.Pre_finite_inputs_KernelIdeal.S1024x1024 .f32)

theorem finite0 (h : (Cert.Pre_finite_inputs_KernelIdeal.fn (F := Ideal) a0 a1 a2 a3 a4).1 = (fun _ => 1#1)) (i) : ∃ r : ℝ, a0 i = (r : EReal) := by
  simp only [Cert.Pre_finite_inputs_KernelIdeal.fn] at h
  exact finite_at a0 _ _ _ h i
theorem finite1 (h : (Cert.Pre_finite_inputs_KernelIdeal.fn (F := Ideal) a0 a1 a2 a3 a4).2.1 = (fun _ => 1#1)) (i) : ∃ r : ℝ, a1 i = (r : EReal) := by
  simp only [Cert.Pre_finite_inputs_KernelIdeal.fn] at h
  exact finite_at a1 _ _ _ h i
theorem finite2 (h : (Cert.Pre_finite_inputs_KernelIdeal.fn (F := Ideal) a0 a1 a2 a3 a4).2.2 = (fun _ => 1#1)) (i) : ∃ r : ℝ, a2 i = (r : EReal) := by
  simp only [Cert.Pre_finite_inputs_KernelIdeal.fn] at h
  exact finite_at a2 _ _ _ h i
end

/-- Device `c`'s block of an array of keys or values holds the whole array's rows from `1024 c` on. -/
theorem block_at (v : Answer.SK.Idx → EReal) (c : Fin 4) (a : Fin 1024) (h : Fin 8) (d : Fin 128) :
    Layout.block ⟨4, ![1, 1024, 8, 128]⟩ ⟨4, ![1, 4096, 8, 128]⟩ 1 4 c v (by decide) (ix4 (0 : Fin 1) a h d) = v (ix4 (0 : Fin 1) (wide c a) h d) := by
  rw [Layout.block_apply]
  refine congrArg v (funext fun b => Fin.ext ?_)
  rw [Layout.Tiles.idx_val]
  match b with
  | ⟨0, _⟩ => rfl
  | ⟨1, _⟩ => show c.val * 1024 + a.val = 1024 * c.val + a.val; omega
  | ⟨2, _⟩ => rfl
  | ⟨3, _⟩ => rfl

/-- A property of every element of every device's block is one of every element of the whole. -/
theorem of_blocks (P : EReal → Prop) (v : Answer.SK.Idx → EReal) (H : ∀ (c : Fin 4) (a : Fin 1024) (h : Fin 8) (d : Fin 128), P (v (ix4 (0 : Fin 1) (wide c a) h d))) (i : Answer.SK.Idx) : P (v i) := by
  have h1 : (i 1).val < 4096 := (i 1).isLt
  have e : i = ix4 (0 : Fin 1) (wide ⟨(i 1).val / 1024, by omega⟩ ⟨(i 1).val % 1024, Nat.mod_lt _ (by decide)⟩) (⟨(i 2).val, (i 2).isLt⟩ : Fin 8) (⟨(i 3).val, (i 3).isLt⟩ : Fin 128) := by
    funext b
    refine Fin.ext ?_
    match b with
    | ⟨0, _⟩ => have : (i 0).val < 1 := (i 0).isLt; show (i 0).val = 0; omega
    | ⟨1, _⟩ => show (i 1).val = 1024 * ((i 1).val / 1024) + (i 1).val % 1024; omega
    | ⟨2, _⟩ => rfl
    | ⟨3, _⟩ => rfl
  rw [e]
  exact H _ _ _ _

theorem algebraic : Cert.algebraic_KernelIdeal_ReferenceIdeal_pre_finite_inputs_KernelIdeal := by
  intro m g m' g' pre args
  have hres : ∀ c : Dev Cert.KernelIdeal.nD, result m g c = Cert.ReferenceIdeal.Value.res_main_v39 m' 0 := by
    intro c
    rw [Cert.ReferenceIdeal.Value.res_eq]
    have hK : ∀ (c : Dev Cert.KernelIdeal.nD) (a : Fin 1024) (h : Fin 8) (d : Fin 128), m ((c : Thread Cert.KernelIdeal.nD Cert.KernelIdeal.τ).loc Cert.KernelIdeal.main_arg2) (ix4 (0 : Fin 1) a h d)
        = m' (((0 : Dev Cert.ReferenceIdeal.nD).tc : Thread Cert.ReferenceIdeal.nD Cert.ReferenceIdeal.τ).loc Cert.ReferenceIdeal.main_arg2) (ix4 (0 : Fin 1) (wide c a) h d) :=
      fun c a h d => (congrFun (args c).2.2.1 _).trans (block_at _ c a h d)
    have hV : ∀ (c : Dev Cert.KernelIdeal.nD) (a : Fin 1024) (h : Fin 8) (d : Fin 128), m ((c : Thread Cert.KernelIdeal.nD Cert.KernelIdeal.τ).loc Cert.KernelIdeal.main_arg3) (ix4 (0 : Fin 1) a h d)
        = m' (((0 : Dev Cert.ReferenceIdeal.nD).tc : Thread Cert.ReferenceIdeal.nD Cert.ReferenceIdeal.τ).loc Cert.ReferenceIdeal.main_arg3) (ix4 (0 : Fin 1) (wide c a) h d) :=
      fun c a h d => (congrFun (args c).2.2.2.1 _).trans (block_at _ c a h d)
    have fx : ∀ i, ∃ r : ℝ, m' (((0 : Dev Cert.ReferenceIdeal.nD).tc : Thread Cert.ReferenceIdeal.nD Cert.ReferenceIdeal.τ).loc Cert.ReferenceIdeal.main_arg0) i = (r : EReal) := by
      intro i
      rw [← (args c).1]
      exact finite0 _ _ _ _ _ (pre c).1 i
    have fw : ∀ i, ∃ r : ℝ, m' (((0 : Dev Cert.ReferenceIdeal.nD).tc : Thread Cert.ReferenceIdeal.nD Cert.ReferenceIdeal.τ).loc Cert.ReferenceIdeal.main_arg1) i = (r : EReal) := by
      intro i
      rw [← (args c).2.1]
      exact finite1 _ _ _ _ _ (pre c).2.1 i
    have fk : ∀ i, ∃ r : ℝ, m' (((0 : Dev Cert.ReferenceIdeal.nD).tc : Thread Cert.ReferenceIdeal.nD Cert.ReferenceIdeal.τ).loc Cert.ReferenceIdeal.main_arg2) i = (r : EReal) :=
      of_blocks (fun z => ∃ r : ℝ, z = (r : EReal)) _ fun c a h d => by
        obtain ⟨r, e⟩ := finite2 _ _ _ _ _ (pre c).2.2 (ix4 (0 : Fin 1) a h d)
        exact ⟨r, (hK c a h d).symm.trans e⟩
    funext i
    have e : i = ix3 (0 : Fin 1) (⟨(i 1).val, (i 1).isLt⟩ : Fin 1024) (⟨(i 2).val, (i 2).isLt⟩ : Fin 1024) := by
      funext b
      refine Fin.ext ?_
      match b with
      | ⟨0, _⟩ => have : (i 0).val < 1 := (i 0).isLt; show (i 0).val = 0; omega
      | ⟨1, _⟩ => rfl
      | ⟨2, _⟩ => rfl
    rw [e]
    exact (result_at m g _ _ _ _ _ (fun c => (args c).1) (fun c => (args c).2.1) hK hV (fun c => (args c).2.2.2.2) c _ _).trans
      (Cert.ReferenceIdeal.Value.out_eq _ _ _ fx fw fk _ _ _ _).symm
  refine ⟨Cert.ReferenceIdeal.Value.res_main_v39 m' 0, ?_, ?_⟩
  · refine (θ_run Cert.KernelIdeal.defs _ _).mono (fun r h c => ?_) (run_main m g)
    obtain ⟨h0, h1, h2, h3, h4, hv⟩ := h.1 c
    exact ⟨hv.trans (hres c), h0, h1, h2, h3, h4⟩
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_inputs_KernelIdeal
public import proofs.«01_k».proof.Proof.Gen.Pre_finite_inputs_ReferenceIdeal
public import Idealize.ShloMosaic.Adequacy
public import Idealize.ShloMosaic.Init
public import proofs.«01_k».proof.Proof.Frames
public import proofs.«01_k».proof.Proof.Equal

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_KernelIdeal.Gen.facts, Cert.Pre_finite_inputs_ReferenceIdeal.Gen.facts,
  frame_kernel, frame_ideal, frame_ideal_pre, frame_ref, frame_ref_pre, trivial, algebraic⟩

end Cert.Proof

end
